-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S64x1000x256 : Shape := ⟨3, ![64, 1000, 256]⟩
abbrev S64x128 : Shape := ⟨2, ![64, 128]⟩
abbrev S64 : Shape := ⟨1, ![64]⟩
abbrev S256x256 : Shape := ⟨2, ![256, 256]⟩
abbrev S_ : Shape := ⟨0, ![]⟩

class Facts : Prop where
  bcast_S_S64x1000x256 : S_.BroadcastsInDim S64x1000x256 (![] : Fin 0 → Fin S64x1000x256.rank)
  reducesTo_S64x1000x256_S_d0_1_2 : S64x1000x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg2 : IVec S64 32) (main_v3 : IVec S_ 1) (main_v7 : IVec S_ 1) (main_v13 : IVec S_ 1) (main_v15 : IVec S64 1) : IVec S_ 1 :=
  let main_c_6 : IVec S_ 32 := constantI S_ 32 128#32
  let main_v16 : IVec S64 32 := broadcastInDim S64 ![] bcast_S_S64 main_c_6
  let main_v17 : IVec S64 1 := cmpi .sle main_arg2 main_v16
  let main_v18 : IVec S64 1 := andi main_v15 main_v17
  let main_c_7 : IVec S_ 1 := constantI S_ 1 1#1
  let main_v19 : IVec S_ 1 := (fun x v => Host.reduce IntOp.andi x v reducesTo_S64_S_d0 h_S_) main_v18 main_c_7
  let main_v20 : IVec S_ 1 := andi main_v3 main_v7
  let main_v21 : IVec S_ 1 := andi main_v20 main_v13
  let main_v22 : IVec S_ 1 := andi main_v21 main_v19
  main_v22

def fn {F : FTy → Type} [FloatOps F] (main_arg0 : FVec F S64x1000x256 .f32) (main_arg1 : IVec S64x128 32) (main_arg2 : IVec S64 32) (main_arg3 : FVec F S256x256 .f32) : IVec S_ 1 :=
  let main_v0 : FVec F S64x1000x256 .f32 := Host.absf main_arg0
  let main_cst : FVec F S_ .f32 := constant S_ .f32 0x7F800000#32
  let main_v1 : FVec F S64x1000x256 .f32 := broadcastInDim S64x1000x256 ![] bcast_S_S64x1000x256 main_cst
  let main_v2 : IVec S64x1000x256 1 := cmpf .olt main_v0 main_v1
  let main_c : IVec S_ 1 := constantI S_ 1 1#1
  let main_v3 : IVec S_ 1 := (fun x v => Host.reduce IntOp.andi x v reducesTo_S64x1000x256_S_d0_1_2 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_c_2 : IVec S_ 32 := constantI S_ 32 0#32
  let main_v8 : IVec S64x128 32 := broadcastInDim S64x128 ![] bcast_S_S64x128 main_c_2
  let main_v9 : IVec S64x128 1 := cmpi .sge main_arg1 main_v8
  let main_c_3 : IVec S_ 32 := constantI S_ 32 256#32
  let main_v10 : IVec S64x128 32 := broadcastInDim S64x128 ![] bcast_S_S64x128 main_c_3
  let main_v11 : IVec S64x128 1 := cmpi .slt main_arg1 main_v10
  let main_v12 : IVec S64x128 1 := andi main_v9 main_v11
  let main_c_4 : IVec S_ 1 := constantI S_ 1 1#1
  let main_v13 : IVec S_ 1 := (fun x v => Host.reduce IntOp.andi x v reducesTo_S64x128_S_d0_1 h_S_) main_v12 main_c_4
  let main_c_5 : IVec S_ 32 := constantI S_ 32 1#32
  let main_v14 : IVec S64 32 := broadcastInDim S64 ![] bcast_S_S64 main_c_5
  let main_v15 : IVec S64 1 := cmpi .sge main_arg2 main_v14
  fn_part1 (F := F) main_arg2 main_v3 main_v7 main_v13 main_v15
-- ==== Kernel.lean ====
abbrev S64x1000x256 : Shape := ⟨3, ![64, 1000, 256]⟩
abbrev S64x128 : Shape := ⟨2, ![64, 128]⟩
abbrev S64 : Shape := ⟨1, ![64]⟩
abbrev S256x256 : Shape := ⟨2, ![256, 256]⟩
abbrev S1000x64x256 : Shape := ⟨3, ![1000, 64, 256]⟩
abbrev S64x1 : Shape := ⟨2, ![64, 1]⟩
abbrev S40x64x256 : Shape := ⟨3, ![40, 64, 256]⟩
abbrev S64x40x256 : Shape := ⟨3, ![64, 40, 256]⟩
abbrev S64x256 : Shape := ⟨2, ![64, 256]⟩
abbrev S2x40x64x128 : Shape := ⟨4, ![2, 40, 64, 128]⟩
abbrev S64x256x256 : Shape := ⟨3, ![64, 256, 256]⟩
abbrev S1x1 : Shape := ⟨2, ![1, 1]⟩
abbrev S8x256 : Shape := ⟨2, ![8, 256]⟩
abbrev S256x128 : Shape := ⟨2, ![256, 128]⟩
abbrev S1x256x256 : Shape := ⟨3, ![1, 256, 256]⟩
abbrev S1 : Shape := ⟨1, ![1]⟩
abbrev S1x1x1 : Shape := ⟨3, ![1, 1, 1]⟩
abbrev S1x128 : Shape := ⟨2, ![1, 128]⟩
abbrev S256x1 : Shape := ⟨2, ![256, 1]⟩
abbrev S128 : Shape := ⟨1, ![128]⟩
abbrev S256x127 : Shape := ⟨2, ![256, 127]⟩
abbrev S1x40x256 : Shape := ⟨3, ![1, 40, 256]⟩
abbrev S40x256 : Shape := ⟨2, ![40, 256]⟩
abbrev S48x256 : Shape := ⟨2, ![48, 256]⟩
abbrev S40x128 : Shape := ⟨2, ![40, 128]⟩
abbrev S1x40x1x128 : Shape := ⟨4, ![1, 40, 1, 128]⟩
abbrev S1x64x256 : Shape := ⟨3, ![1, 64, 256]⟩
abbrev S1x1x64x128 : Shape := ⟨4, ![1, 1, 64, 128]⟩
abbrev S16x256 : Shape := ⟨2, ![16, 256]⟩
abbrev S8x64x256 : Shape := ⟨3, ![8, 64, 256]⟩
abbrev S64x127 : Shape := ⟨2, ![64, 127]⟩

abbrev nBuf : Space → Nat
  | .hbm => 9
  | .vmem => 16
  | .smem => 1
  | _ => 0

abbrev bufTy : (tb : Table) → Fin (tcTables nBuf tb) → BufTy
  | .hbm, ⟨0, _⟩ => ⟨S64x1000x256, .f32⟩
  | .hbm, ⟨1, _⟩ => ⟨S64x128, .i32⟩
  | .hbm, ⟨2, _⟩ => ⟨S64, .i32⟩
  | .hbm, ⟨3, _⟩ => ⟨S256x256, .f32⟩
  | .hbm, ⟨4, _⟩ => ⟨S1000x64x256, .f32⟩
  | .hbm, ⟨5, _⟩ => ⟨S1000x64x256, .bf16⟩
  | .hbm, ⟨6, _⟩ => ⟨S64x1, .i32⟩
  | .hbm, ⟨7, _⟩ => ⟨S64x1, .f32⟩
  | .hbm, ⟨8, _⟩ => ⟨S64, .f32⟩
  | .local _ .vmem, ⟨0, _⟩ => ⟨S40x64x256, .bf16⟩
  | .local _ .vmem, ⟨1, _⟩ => ⟨S40x64x256, .bf16⟩
  | .local _ .vmem, ⟨2, _⟩ => ⟨S64x40x256, .f32⟩
  | .local _ .vmem, ⟨3, _⟩ => ⟨S64x40x256, .f32⟩
  | .local _ .vmem, ⟨4, _⟩ => ⟨S64x40x256, .f32⟩
  | .local _ .vmem, ⟨5, _⟩ => ⟨S64x128, .i32⟩
  | .local _ .vmem, ⟨6, _⟩ => ⟨S64x1, .i32⟩
  | .local _ .vmem, ⟨7, _⟩ => ⟨S256x256, .f32⟩
  | .local _ .vmem, ⟨8, _⟩ => ⟨S64x1, .f32⟩
  | .local _ .vmem, ⟨9, _⟩ => ⟨S64x256, .f32⟩
  | .local _ .vmem, ⟨10, _⟩ => ⟨S64x1, .f32⟩
  | .local _ .vmem, ⟨11, _⟩ => ⟨S64x128, .f32⟩
  | .local _ .vmem, ⟨12, _⟩ => ⟨S64x128, .f32⟩
  | .local _ .vmem, ⟨13, _⟩ => ⟨S64x128, .f32⟩
  | .local _ .vmem, ⟨14, _⟩ => ⟨S2x40x64x128, .f32⟩
  | .local _ .vmem, ⟨15, _⟩ => ⟨S64x256x256, .bf16⟩
  | .local _ .smem, ⟨0, _⟩ => ⟨S1x1, .f32⟩
  | _, _ => ⟨S64x1000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v43_r0 : Index := Scalar.indexCast v4_r0
  let c0_21_r0 : Index := 0#32
  let c0_22_r0 : Index := 0#32
  let c0_23_r0 : Index := 0#32
  ![v43_r0.toNat, 0, 0, 0]
def k0_off2 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v70_r0 : Index := Scalar.indexCast v4_r0
  let c1_r0 : Index := 1#32
  let c0_27_r0 : Index := 0#32
  let c0_28_r0 : Index := 0#32
  ![v70_r0.toNat, 1, 0, 0]
def k0_off3 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v93_r0 : Index := Scalar.indexCast v4_r0
  let c2_r0 : Index := 2#32
  let c0_30_r0 : Index := 0#32
  let c0_31_r0 : Index := 0#32
  ![v93_r0.toNat, 2, 0, 0]
def k0_off4 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v125_r0 : Index := Scalar.indexCast v4_r0
  let c3_r0 : Index := 3#32
  let c0_35_r0 : Index := 0#32
  let c0_36_r0 : Index := 0#32
  ![v125_r0.toNat, 3, 0, 0]
def k0_off5 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v148_r0 : Index := Scalar.indexCast v4_r0
  let c4_r0 : Index := 4#32
  let c0_38_r0 : Index := 0#32
  let c0_39_r0 : Index := 0#32
  ![v148_r0.toNat, 4, 0, 0]
def k0_off6 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v171_r0 : Index := Scalar.indexCast v4_r0
  let c5_r0 : Index := 5#32
  let c0_41_r0 : Index := 0#32
  let c0_42_r0 : Index := 0#32
  ![v171_r0.toNat, 5, 0, 0]
def k0_off7 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v194_r0 : Index := Scalar.indexCast v4_r0
  let c6_r0 : Index := 6#32
  let c0_44_r0 : Index := 0#32
  let c0_45_r0 : Index := 0#32
  ![v194_r0.toNat, 6, 0, 0]
def k0_off8 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v226_r0 : Index := Scalar.indexCast v4_r0
  let c7_r0 : Index := 7#32
  let c0_49_r0 : Index := 0#32
  let c0_50_r0 : Index := 0#32
  ![v226_r0.toNat, 7, 0, 0]
def k0_off9 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v238_r0 : Index := Scalar.indexCast v6_r0
  let c0_57_r0 : Index := 0#32
  let c0_58_r0 : Index := 0#32
  let c0_59_r0 : Index := 0#32
  ![v238_r0.toNat, 0, 0, 0]
def k0_off10 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v250_r0 : Index := Scalar.indexCast v6_r0
  let c0_66_r0 : Index := 0#32
  let c1_67_r0 : Index := 1#32
  let c0_68_r0 : Index := 0#32
  ![v250_r0.toNat, 0, 1, 0]
def k0_off11 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v262_r0 : Index := Scalar.indexCast v6_r0
  let c0_75_r0 : Index := 0#32
  let c2_76_r0 : Index := 2#32
  let c0_77_r0 : Index := 0#32
  ![v262_r0.toNat, 0, 2, 0]
def k0_off12 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v274_r0 : Index := Scalar.indexCast v6_r0
  let c0_84_r0 : Index := 0#32
  let c3_85_r0 : Index := 3#32
  let c0_86_r0 : Index := 0#32
  ![v274_r0.toNat, 0, 3, 0]
def k0_off13 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v286_r0 : Index := Scalar.indexCast v6_r0
  let c0_93_r0 : Index := 0#32
  let c4_94_r0 : Index := 4#32
  let c0_95_r0 : Index := 0#32
  ![v286_r0.toNat, 0, 4, 0]
def k0_off14 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v298_r0 : Index := Scalar.indexCast v6_r0
  let c0_102_r0 : Index := 0#32
  let c5_103_r0 : Index := 5#32
  let c0_104_r0 : Index := 0#32
  ![v298_r0.toNat, 0, 5, 0]
def k0_off15 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v310_r0 : Index := Scalar.indexCast v6_r0
  let c0_111_r0 : Index := 0#32
  let c6_112_r0 : Index := 6#32
  let c0_113_r0 : Index := 0#32
  ![v310_r0.toNat, 0, 6, 0]
def k0_off16 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v322_r0 : Index := Scalar.indexCast v6_r0
  let c0_120_r0 : Index := 0#32
  let c7_121_r0 : Index := 7#32
  let c0_122_r0 : Index := 0#32
  ![v322_r0.toNat, 0, 7, 0]
def k0_off17 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v334_r0 : Index := Scalar.indexCast v6_r0
  let c0_128_r0 : Index := 0#32
  let c8_129_r0 : Index := 8#32
  let c0_130_r0 : Index := 0#32
  ![v334_r0.toNat, 0, 8, 0]
def k0_off18 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v346_r0 : Index := Scalar.indexCast v6_r0
  let c0_136_r0 : Index := 0#32
  let c9_137_r0 : Index := 9#32
  let c0_138_r0 : Index := 0#32
  ![v346_r0.toNat, 0, 9, 0]
def k0_off19 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v358_r0 : Index := Scalar.indexCast v6_r0
  let c0_144_r0 : Index := 0#32
  let c10_145_r0 : Index := 10#32
  let c0_146_r0 : Index := 0#32
  ![v358_r0.toNat, 0, 10, 0]
def k0_off20 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v370_r0 : Index := Scalar.indexCast v6_r0
  let c0_152_r0 : Index := 0#32
  let c11_153_r0 : Index := 11#32
  let c0_154_r0 : Index := 0#32
  ![v370_r0.toNat, 0, 11, 0]
def k0_off21 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v395_r0 : Index := Scalar.indexCast v4_r0
  let c8_159_r0 : Index := 8#32
  let c0_160_r0 : Index := 0#32
  let c0_161_r0 : Index := 0#32
  ![v395_r0.toNat, 8, 0, 0]
def k0_off22 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v418_r0 : Index := Scalar.indexCast v4_r0
  let c9_163_r0 : Index := 9#32
  let c0_164_r0 : Index := 0#32
  let c0_165_r0 : Index := 0#32
  ![v418_r0.toNat, 9, 0, 0]
def k0_off23 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v441_r0 : Index := Scalar.indexCast v4_r0
  let c10_167_r0 : Index := 10#32
  let c0_168_r0 : Index := 0#32
  let c0_169_r0 : Index := 0#32
  ![v441_r0.toNat, 10, 0, 0]
def k0_off24 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v473_r0 : Index := Scalar.indexCast v4_r0
  let c11_173_r0 : Index := 11#32
  let c0_174_r0 : Index := 0#32
  let c0_175_r0 : Index := 0#32
  ![v473_r0.toNat, 11, 0, 0]
def k0_off25 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v496_r0 : Index := Scalar.indexCast v4_r0
  let c12_r0 : Index := 12#32
  let c0_177_r0 : Index := 0#32
  let c0_178_r0 : Index := 0#32
  ![v496_r0.toNat, 12, 0, 0]
def k0_off26 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v519_r0 : Index := Scalar.indexCast v4_r0
  let c13_r0 : Index := 13#32
  let c0_180_r0 : Index := 0#32
  let c0_181_r0 : Index := 0#32
  ![v519_r0.toNat, 13, 0, 0]
def k0_off27 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v542_r0 : Index := Scalar.indexCast v4_r0
  let c14_r0 : Index := 14#32
  let c0_183_r0 : Index := 0#32
  let c0_184_r0 : Index := 0#32
  ![v542_r0.toNat, 14, 0, 0]
def k0_off28 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v574_r0 : Index := Scalar.indexCast v4_r0
  let c15_r0 : Index := 15#32
  let c0_188_r0 : Index := 0#32
  let c0_189_r0 : Index := 0#32
  ![v574_r0.toNat, 15, 0, 0]
def k0_off29 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v586_r0 : Index := Scalar.indexCast v6_r0
  let c0_196_r0 : Index := 0#32
  let c12_197_r0 : Index := 12#32
  let c0_198_r0 : Index := 0#32
  ![v586_r0.toNat, 0, 12, 0]
def k0_off30 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v598_r0 : Index := Scalar.indexCast v6_r0
  let c0_205_r0 : Index := 0#32
  let c13_206_r0 : Index := 13#32
  let c0_207_r0 : Index := 0#32
  ![v598_r0.toNat, 0, 13, 0]
def k0_off31 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v610_r0 : Index := Scalar.indexCast v6_r0
  let c0_214_r0 : Index := 0#32
  let c14_215_r0 : Index := 14#32
  let c0_216_r0 : Index := 0#32
  ![v610_r0.toNat, 0, 14, 0]
def k0_off32 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v622_r0 : Index := Scalar.indexCast v6_r0
  let c0_223_r0 : Index := 0#32
  let c15_224_r0 : Index := 15#32
  let c0_225_r0 : Index := 0#32
  ![v622_r0.toNat, 0, 15, 0]
def k0_off33 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v634_r0 : Index := Scalar.indexCast v6_r0
  let c0_231_r0 : Index := 0#32
  let c16_232_r0 : Index := 16#32
  let c0_233_r0 : Index := 0#32
  ![v634_r0.toNat, 0, 16, 0]
def k0_off34 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v646_r0 : Index := Scalar.indexCast v6_r0
  let c0_239_r0 : Index := 0#32
  let c17_240_r0 : Index := 17#32
  let c0_241_r0 : Index := 0#32
  ![v646_r0.toNat, 0, 17, 0]
def k0_off35 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v658_r0 : Index := Scalar.indexCast v6_r0
  let c0_247_r0 : Index := 0#32
  let c18_248_r0 : Index := 18#32
  let c0_249_r0 : Index := 0#32
  ![v658_r0.toNat, 0, 18, 0]
def k0_off36 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v670_r0 : Index := Scalar.indexCast v6_r0
  let c0_255_r0 : Index := 0#32
  let c19_256_r0 : Index := 19#32
  let c0_257_r0 : Index := 0#32
  ![v670_r0.toNat, 0, 19, 0]
def k0_off37 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v682_r0 : Index := Scalar.indexCast v6_r0
  let c0_263_r0 : Index := 0#32
  let c20_264_r0 : Index := 20#32
  let c0_265_r0 : Index := 0#32
  ![v682_r0.toNat, 0, 20, 0]
def k0_off38 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v694_r0 : Index := Scalar.indexCast v6_r0
  let c0_271_r0 : Index := 0#32
  let c21_272_r0 : Index := 21#32
  let c0_273_r0 : Index := 0#32
  ![v694_r0.toNat, 0, 21, 0]
def k0_off39 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v706_r0 : Index := Scalar.indexCast v6_r0
  let c0_279_r0 : Index := 0#32
  let c22_280_r0 : Index := 22#32
  let c0_281_r0 : Index := 0#32
  ![v706_r0.toNat, 0, 22, 0]
def k0_off40 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v718_r0 : Index := Scalar.indexCast v6_r0
  let c0_287_r0 : Index := 0#32
  let c23_288_r0 : Index := 23#32
  let c0_289_r0 : Index := 0#32
  ![v718_r0.toNat, 0, 23, 0]
def k0_off41 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v730_r0 : Index := Scalar.indexCast v6_r0
  let c0_295_r0 : Index := 0#32
  let c24_296_r0 : Index := 24#32
  let c0_297_r0 : Index := 0#32
  ![v730_r0.toNat, 0, 24, 0]
def k0_off42 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v755_r0 : Index := Scalar.indexCast v4_r0
  let c16_302_r0 : Index := 16#32
  let c0_303_r0 : Index := 0#32
  let c0_304_r0 : Index := 0#32
  ![v755_r0.toNat, 16, 0, 0]
def k0_off43 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v778_r0 : Index := Scalar.indexCast v4_r0
  let c17_306_r0 : Index := 17#32
  let c0_307_r0 : Index := 0#32
  let c0_308_r0 : Index := 0#32
  ![v778_r0.toNat, 17, 0, 0]
def k0_off44 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v801_r0 : Index := Scalar.indexCast v4_r0
  let c18_310_r0 : Index := 18#32
  let c0_311_r0 : Index := 0#32
  let c0_312_r0 : Index := 0#32
  ![v801_r0.toNat, 18, 0, 0]
def k0_off45 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v833_r0 : Index := Scalar.indexCast v4_r0
  let c19_316_r0 : Index := 19#32
  let c0_317_r0 : Index := 0#32
  let c0_318_r0 : Index := 0#32
  ![v833_r0.toNat, 19, 0, 0]
def k0_off46 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v856_r0 : Index := Scalar.indexCast v4_r0
  let c20_320_r0 : Index := 20#32
  let c0_321_r0 : Index := 0#32
  let c0_322_r0 : Index := 0#32
  ![v856_r0.toNat, 20, 0, 0]
def k0_off47 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v879_r0 : Index := Scalar.indexCast v4_r0
  let c21_324_r0 : Index := 21#32
  let c0_325_r0 : Index := 0#32
  let c0_326_r0 : Index := 0#32
  ![v879_r0.toNat, 21, 0, 0]
def k0_off48 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v902_r0 : Index := Scalar.indexCast v4_r0
  let c22_328_r0 : Index := 22#32
  let c0_329_r0 : Index := 0#32
  let c0_330_r0 : Index := 0#32
  ![v902_r0.toNat, 22, 0, 0]
def k0_off49 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v934_r0 : Index := Scalar.indexCast v4_r0
  let c23_334_r0 : Index := 23#32
  let c0_335_r0 : Index := 0#32
  let c0_336_r0 : Index := 0#32
  ![v934_r0.toNat, 23, 0, 0]
def k0_off50 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v946_r0 : Index := Scalar.indexCast v6_r0
  let c0_342_r0 : Index := 0#32
  let c25_343_r0 : Index := 25#32
  let c0_344_r0 : Index := 0#32
  ![v946_r0.toNat, 0, 25, 0]
def k0_off51 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v958_r0 : Index := Scalar.indexCast v6_r0
  let c0_350_r0 : Index := 0#32
  let c26_351_r0 : Index := 26#32
  let c0_352_r0 : Index := 0#32
  ![v958_r0.toNat, 0, 26, 0]
def k0_off52 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v970_r0 : Index := Scalar.indexCast v6_r0
  let c0_358_r0 : Index := 0#32
  let c27_359_r0 : Index := 27#32
  let c0_360_r0 : Index := 0#32
  ![v970_r0.toNat, 0, 27, 0]
def k0_off53 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v982_r0 : Index := Scalar.indexCast v6_r0
  let c0_366_r0 : Index := 0#32
  let c28_367_r0 : Index := 28#32
  let c0_368_r0 : Index := 0#32
  ![v982_r0.toNat, 0, 28, 0]
def k0_off54 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v994_r0 : Index := Scalar.indexCast v6_r0
  let c0_374_r0 : Index := 0#32
  let c29_375_r0 : Index := 29#32
  let c0_376_r0 : Index := 0#32
  ![v994_r0.toNat, 0, 29, 0]
def k0_off55 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1006_r0 : Index := Scalar.indexCast v6_r0
  let c0_382_r0 : Index := 0#32
  let c30_383_r0 : Index := 30#32
  let c0_384_r0 : Index := 0#32
  ![v1006_r0.toNat, 0, 30, 0]
def k0_off56 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1018_r0 : Index := Scalar.indexCast v6_r0
  let c0_390_r0 : Index := 0#32
  let c31_391_r0 : Index := 31#32
  let c0_392_r0 : Index := 0#32
  ![v1018_r0.toNat, 0, 31, 0]
def k0_off57 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1030_r0 : Index := Scalar.indexCast v6_r0
  let c0_398_r0 : Index := 0#32
  let c32_399_r0 : Index := 32#32
  let c0_400_r0 : Index := 0#32
  ![v1030_r0.toNat, 0, 32, 0]
def k0_off58 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1042_r0 : Index := Scalar.indexCast v6_r0
  let c0_406_r0 : Index := 0#32
  let c33_407_r0 : Index := 33#32
  let c0_408_r0 : Index := 0#32
  ![v1042_r0.toNat, 0, 33, 0]
def k0_off59 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1054_r0 : Index := Scalar.indexCast v6_r0
  let c0_414_r0 : Index := 0#32
  let c34_415_r0 : Index := 34#32
  let c0_416_r0 : Index := 0#32
  ![v1054_r0.toNat, 0, 34, 0]
def k0_off60 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1066_r0 : Index := Scalar.indexCast v6_r0
  let c0_422_r0 : Index := 0#32
  let c35_423_r0 : Index := 35#32
  let c0_424_r0 : Index := 0#32
  ![v1066_r0.toNat, 0, 35, 0]
def k0_off61 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1078_r0 : Index := Scalar.indexCast v6_r0
  let c0_430_r0 : Index := 0#32
  let c36_431_r0 : Index := 36#32
  let c0_432_r0 : Index := 0#32
  ![v1078_r0.toNat, 0, 36, 0]
def k0_off62 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1090_r0 : Index := Scalar.indexCast v6_r0
  let c0_438_r0 : Index := 0#32
  let c37_439_r0 : Index := 37#32
  let c0_440_r0 : Index := 0#32
  ![v1090_r0.toNat, 0, 37, 0]
def k0_off63 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1115_r0 : Index := Scalar.indexCast v4_r0
  let c24_445_r0 : Index := 24#32
  let c0_446_r0 : Index := 0#32
  let c0_447_r0 : Index := 0#32
  ![v1115_r0.toNat, 24, 0, 0]
def k0_off64 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1138_r0 : Index := Scalar.indexCast v4_r0
  let c25_449_r0 : Index := 25#32
  let c0_450_r0 : Index := 0#32
  let c0_451_r0 : Index := 0#32
  ![v1138_r0.toNat, 25, 0, 0]
def k0_off65 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1161_r0 : Index := Scalar.indexCast v4_r0
  let c26_453_r0 : Index := 26#32
  let c0_454_r0 : Index := 0#32
  let c0_455_r0 : Index := 0#32
  ![v1161_r0.toNat, 26, 0, 0]
def k0_off66 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1193_r0 : Index := Scalar.indexCast v4_r0
  let c27_459_r0 : Index := 27#32
  let c0_460_r0 : Index := 0#32
  let c0_461_r0 : Index := 0#32
  ![v1193_r0.toNat, 27, 0, 0]
def k0_off67 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1216_r0 : Index := Scalar.indexCast v4_r0
  let c28_463_r0 : Index := 28#32
  let c0_464_r0 : Index := 0#32
  let c0_465_r0 : Index := 0#32
  ![v1216_r0.toNat, 28, 0, 0]
def k0_off68 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1239_r0 : Index := Scalar.indexCast v4_r0
  let c29_467_r0 : Index := 29#32
  let c0_468_r0 : Index := 0#32
  let c0_469_r0 : Index := 0#32
  ![v1239_r0.toNat, 29, 0, 0]
def k0_off69 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1262_r0 : Index := Scalar.indexCast v4_r0
  let c30_471_r0 : Index := 30#32
  let c0_472_r0 : Index := 0#32
  let c0_473_r0 : Index := 0#32
  ![v1262_r0.toNat, 30, 0, 0]
def k0_off70 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1294_r0 : Index := Scalar.indexCast v4_r0
  let c31_477_r0 : Index := 31#32
  let c0_478_r0 : Index := 0#32
  let c0_479_r0 : Index := 0#32
  ![v1294_r0.toNat, 31, 0, 0]
def k0_off71 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1306_r0 : Index := Scalar.indexCast v6_r0
  let c0_485_r0 : Index := 0#32
  let c38_486_r0 : Index := 38#32
  let c0_487_r0 : Index := 0#32
  ![v1306_r0.toNat, 0, 38, 0]
def k0_off72 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1318_r0 : Index := Scalar.indexCast v6_r0
  let c0_493_r0 : Index := 0#32
  let c39_494_r0 : Index := 39#32
  let c0_495_r0 : Index := 0#32
  ![v1318_r0.toNat, 0, 39, 0]
def k0_off73 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1330_r0 : Index := Scalar.indexCast v6_r0
  let c0_501_r0 : Index := 0#32
  let c40_502_r0 : Index := 40#32
  let c0_503_r0 : Index := 0#32
  ![v1330_r0.toNat, 0, 40, 0]
def k0_off74 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1342_r0 : Index := Scalar.indexCast v6_r0
  let c0_509_r0 : Index := 0#32
  let c41_510_r0 : Index := 41#32
  let c0_511_r0 : Index := 0#32
  ![v1342_r0.toNat, 0, 41, 0]
def k0_off75 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1354_r0 : Index := Scalar.indexCast v6_r0
  let c0_517_r0 : Index := 0#32
  let c42_518_r0 : Index := 42#32
  let c0_519_r0 : Index := 0#32
  ![v1354_r0.toNat, 0, 42, 0]
def k0_off76 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1366_r0 : Index := Scalar.indexCast v6_r0
  let c0_525_r0 : Index := 0#32
  let c43_526_r0 : Index := 43#32
  let c0_527_r0 : Index := 0#32
  ![v1366_r0.toNat, 0, 43, 0]
def k0_off77 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1378_r0 : Index := Scalar.indexCast v6_r0
  let c0_533_r0 : Index := 0#32
  let c44_534_r0 : Index := 44#32
  let c0_535_r0 : Index := 0#32
  ![v1378_r0.toNat, 0, 44, 0]
def k0_off78 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1390_r0 : Index := Scalar.indexCast v6_r0
  let c0_541_r0 : Index := 0#32
  let c45_542_r0 : Index := 45#32
  let c0_543_r0 : Index := 0#32
  ![v1390_r0.toNat, 0, 45, 0]
def k0_off79 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1402_r0 : Index := Scalar.indexCast v6_r0
  let c0_549_r0 : Index := 0#32
  let c46_550_r0 : Index := 46#32
  let c0_551_r0 : Index := 0#32
  ![v1402_r0.toNat, 0, 46, 0]
def k0_off80 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1414_r0 : Index := Scalar.indexCast v6_r0
  let c0_557_r0 : Index := 0#32
  let c47_558_r0 : Index := 47#32
  let c0_559_r0 : Index := 0#32
  ![v1414_r0.toNat, 0, 47, 0]
def k0_off81 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1426_r0 : Index := Scalar.indexCast v6_r0
  let c0_565_r0 : Index := 0#32
  let c48_566_r0 : Index := 48#32
  let c0_567_r0 : Index := 0#32
  ![v1426_r0.toNat, 0, 48, 0]
def k0_off82 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1438_r0 : Index := Scalar.indexCast v6_r0
  let c0_573_r0 : Index := 0#32
  let c49_574_r0 : Index := 49#32
  let c0_575_r0 : Index := 0#32
  ![v1438_r0.toNat, 0, 49, 0]
def k0_off83 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1450_r0 : Index := Scalar.indexCast v6_r0
  let c0_581_r0 : Index := 0#32
  let c50_582_r0 : Index := 50#32
  let c0_583_r0 : Index := 0#32
  ![v1450_r0.toNat, 0, 50, 0]
def k0_off84 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1475_r0 : Index := Scalar.indexCast v4_r0
  let c32_588_r0 : Index := 32#32
  let c0_589_r0 : Index := 0#32
  let c0_590_r0 : Index := 0#32
  ![v1475_r0.toNat, 32, 0, 0]
def k0_off85 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1498_r0 : Index := Scalar.indexCast v4_r0
  let c33_592_r0 : Index := 33#32
  let c0_593_r0 : Index := 0#32
  let c0_594_r0 : Index := 0#32
  ![v1498_r0.toNat, 33, 0, 0]
def k0_off86 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1521_r0 : Index := Scalar.indexCast v4_r0
  let c34_596_r0 : Index := 34#32
  let c0_597_r0 : Index := 0#32
  let c0_598_r0 : Index := 0#32
  ![v1521_r0.toNat, 34, 0, 0]
def k0_off87 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1553_r0 : Index := Scalar.indexCast v4_r0
  let c35_602_r0 : Index := 35#32
  let c0_603_r0 : Index := 0#32
  let c0_604_r0 : Index := 0#32
  ![v1553_r0.toNat, 35, 0, 0]
def k0_off88 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1576_r0 : Index := Scalar.indexCast v4_r0
  let c36_606_r0 : Index := 36#32
  let c0_607_r0 : Index := 0#32
  let c0_608_r0 : Index := 0#32
  ![v1576_r0.toNat, 36, 0, 0]
def k0_off89 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1599_r0 : Index := Scalar.indexCast v4_r0
  let c37_610_r0 : Index := 37#32
  let c0_611_r0 : Index := 0#32
  let c0_612_r0 : Index := 0#32
  ![v1599_r0.toNat, 37, 0, 0]
def k0_off90 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1622_r0 : Index := Scalar.indexCast v4_r0
  let c38_614_r0 : Index := 38#32
  let c0_615_r0 : Index := 0#32
  let c0_616_r0 : Index := 0#32
  ![v1622_r0.toNat, 38, 0, 0]
def k0_off91 (i : grid0.Coords) : Fin 4 → Nat :=
  let arg0 : BitVec 32 := BitVec.ofNat 32 (i 0).val
  let c2_i32_r0 : BitVec 32 := 2#32
  let v4_r0 : BitVec 32 := Scalar.remsi arg0 c2_i32_r0
  let v1654_r0 : Index := Scalar.indexCast v4_r0
  let c39_620_r0 : Index := 39#32
  let c0_621_r0 : Index := 0#32
  let c0_622_r0 : Index := 0#32
  ![v1654_r0.toNat, 39, 0, 0]
def k0_off92 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1666_r0 : Index := Scalar.indexCast v6_r0
  let c0_628_r0 : Index := 0#32
  let c51_629_r0 : Index := 51#32
  let c0_630_r0 : Index := 0#32
  ![v1666_r0.toNat, 0, 51, 0]
def k0_off93 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1678_r0 : Index := Scalar.indexCast v6_r0
  let c0_636_r0 : Index := 0#32
  let c52_637_r0 : Index := 52#32
  let c0_638_r0 : Index := 0#32
  ![v1678_r0.toNat, 0, 52, 0]
def k0_off94 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1690_r0 : Index := Scalar.indexCast v6_r0
  let c0_644_r0 : Index := 0#32
  let c53_645_r0 : Index := 53#32
  let c0_646_r0 : Index := 0#32
  ![v1690_r0.toNat, 0, 53, 0]
def k0_off95 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1702_r0 : Index := Scalar.indexCast v6_r0
  let c0_652_r0 : Index := 0#32
  let c54_653_r0 : Index := 54#32
  let c0_654_r0 : Index := 0#32
  ![v1702_r0.toNat, 0, 54, 0]
def k0_off96 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1714_r0 : Index := Scalar.indexCast v6_r0
  let c0_660_r0 : Index := 0#32
  let c55_661_r0 : Index := 55#32
  let c0_662_r0 : Index := 0#32
  ![v1714_r0.toNat, 0, 55, 0]
def k0_off97 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1726_r0 : Index := Scalar.indexCast v6_r0
  let c0_668_r0 : Index := 0#32
  let c56_669_r0 : Index := 56#32
  let c0_670_r0 : Index := 0#32
  ![v1726_r0.toNat, 0, 56, 0]
def k0_off98 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1738_r0 : Index := Scalar.indexCast v6_r0
  let c0_676_r0 : Index := 0#32
  let c57_677_r0 : Index := 57#32
  let c0_678_r0 : Index := 0#32
  ![v1738_r0.toNat, 0, 57, 0]
def k0_off99 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1750_r0 : Index := Scalar.indexCast v6_r0
  let c0_684_r0 : Index := 0#32
  let c58_685_r0 : Index := 58#32
  let c0_686_r0 : Index := 0#32
  ![v1750_r0.toNat, 0, 58, 0]
def k0_off100 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1762_r0 : Index := Scalar.indexCast v6_r0
  let c0_692_r0 : Index := 0#32
  let c59_693_r0 : Index := 59#32
  let c0_694_r0 : Index := 0#32
  ![v1762_r0.toNat, 0, 59, 0]
def k0_off101 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1774_r0 : Index := Scalar.indexCast v6_r0
  let c0_700_r0 : Index := 0#32
  let c60_701_r0 : Index := 60#32
  let c0_702_r0 : Index := 0#32
  ![v1774_r0.toNat, 0, 60, 0]
def k0_off102 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1786_r0 : Index := Scalar.indexCast v6_r0
  let c0_708_r0 : Index := 0#32
  let c61_709_r0 : Index := 61#32
  let c0_710_r0 : Index := 0#32
  ![v1786_r0.toNat, 0, 61, 0]
def k0_off103 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1798_r0 : Index := Scalar.indexCast v6_r0
  let c0_716_r0 : Index := 0#32
  let c62_717_r0 : Index := 62#32
  let c0_718_r0 : Index := 0#32
  ![v1798_r0.toNat, 0, 62, 0]
def k0_off104 (i : grid0.Coords) : Fin 4 → Nat :=
  let arg0 : BitVec 32 := BitVec.ofNat 32 (i 0).val
  let c1_i32_r0 : BitVec 32 := 1#32
  let v5_r0 : BitVec 32 := Scalar.addi arg0 c1_i32_r0
  let c2_i32_1_r0 : BitVec 32 := 2#32
  let v6_r0 : BitVec 32 := Scalar.remsi v5_r0 c2_i32_1_r0
  let v1810_r0 : Index := Scalar.indexCast v6_r0
  let c0_724_r0 : Index := 0#32
  let c63_725_r0 : Index := 63#32
  let c0_726_r0 : Index := 0#32
  ![v1810_r0.toNat, 0, 63, 0]
def k0_cond2 (i : grid0.Coords) : BitVec 1 :=
  let arg0 : BitVec 32 := BitVec.ofNat 32 (i 0).val
  let c24_i32_r0 : BitVec 32 := 24#32
  let v1824_r0 : BitVec 1 := Scalar.cmpi .eq arg0 c24_i32_r0
  let v1825_r0 : BitVec 32 := Scalar.extui v1824_r0
  let c0_i32_733_r0 : BitVec 32 := 0#32
  let v1826_r0 : BitVec 1 := Scalar.cmpi .ne v1825_r0 c0_i32_733_r0
  v1826_r0

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.minsi v0 c24_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S40x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x40x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x40x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S64x1000x256 : Shape := ⟨3, ![64, 1000, 256]⟩
abbrev S64x128 : Shape := ⟨2, ![64, 128]⟩
abbrev S64 : Shape := ⟨1, ![64]⟩
abbrev S256x256 : Shape := ⟨2, ![256, 256]⟩
abbrev S_ : Shape := ⟨0, ![]⟩
abbrev S64x128x1 : Shape := ⟨3, ![64, 128, 1]⟩
abbrev S64x1000x128 : Shape := ⟨3, ![64, 1000, 128]⟩
abbrev S64x128x2 : Shape := ⟨3, ![64, 128, 2]⟩
abbrev S64x127 : Shape := ⟨2, ![64, 127]⟩
abbrev S64x127x1 : Shape := ⟨3, ![64, 127, 1]⟩
abbrev S64x127x2 : Shape := ⟨3, ![64, 127, 2]⟩
abbrev S64x1 : Shape := ⟨2, ![64, 1]⟩
abbrev S64x1x256 : Shape := ⟨3, ![64, 1, 256]⟩
abbrev S64x256 : Shape := ⟨2, ![64, 256]⟩
abbrev S128 : Shape := ⟨1, ![128]⟩
abbrev S1x128 : Shape := ⟨2, ![1, 128]⟩
abbrev S64x1x128 : Shape := ⟨3, ![64, 1, 128]⟩
abbrev S64x999x256 : Shape := ⟨3, ![64, 999, 256]⟩
abbrev S999x64x256 : Shape := ⟨3, ![999, 64, 256]⟩
abbrev S64x999x128 : Shape := ⟨3, ![64, 999, 128]⟩
abbrev S999x64x128 : Shape := ⟨3, ![999, 64, 128]⟩
abbrev S1x64x256 : Shape := ⟨3, ![1, 64, 256]⟩
abbrev S1x64x128 : Shape := ⟨3, ![1, 64, 128]⟩
abbrev S1x256x256 : Shape := ⟨3, ![1, 256, 256]⟩
abbrev S64x256x256 : Shape := ⟨3, ![64, 256, 256]⟩
abbrev S64x256x1 : Shape := ⟨3, ![64, 256, 1]⟩
abbrev S64x1x1 : Shape := ⟨3, ![64, 1, 1]⟩
abbrev S1 : Shape := ⟨1, ![1]⟩
abbrev S1x1x1 : Shape := ⟨3, ![1, 1, 1]⟩

abbrev nBuf : Space → Nat
  | .hbm => 164
  | .vmem => 0
  | .smem => 0
  | _ => 0

abbrev hbmTy0_0 (i : Nat) : BufTy := match i % 128 with
  | 0 => ⟨S64x1000x256, .f32⟩
  | 1 => ⟨S64x128, .i32⟩
  | 2 => ⟨S64, .i32⟩
  | 3 => ⟨S256x256, .f32⟩
  | 4 => ⟨S_, .i32⟩
  | 5 => ⟨S64x128, .i32⟩
  | 6 => ⟨S64x128, .i1⟩
  | 7 => ⟨S_, .i32⟩
  | 8 => ⟨S64x128, .i32⟩
  | 9 => ⟨S64x128, .i32⟩
  | 10 => ⟨S64x128, .i32⟩
  | 11 => ⟨S64x128x1, .i32⟩
  | 12 => ⟨S64x1000x128, .f32⟩
  | 13 => ⟨S_, .i32⟩
  | 14 => ⟨S64x128, .i32⟩
  | 15 => ⟨S64x128, .i1⟩
  | 16 => ⟨S_, .i32⟩
  | 17 => ⟨S64x128, .i32⟩
  | 18 => ⟨S64x128, .i32⟩
  | 19 => ⟨S64x128, .i32⟩
  | 20 => ⟨S_, .i32⟩
  | 21 => ⟨S64x128, .i32⟩
  | 22 => ⟨S64x128, .i1⟩
  | 23 => ⟨S_, .i32⟩
  | 24 => ⟨S64x128, .i32⟩
  | 25 => ⟨S64x128, .i32⟩
  | 26 => ⟨S64x128, .i32⟩
  | 27 => ⟨S64x128x1, .i32⟩
  | 28 => ⟨S64x128x1, .i32⟩
  | 29 => ⟨S64x128x2, .i32⟩
  | 30 => ⟨S64x128, .f32⟩
  | 31 => ⟨S64x127, .i32⟩
  | 32 => ⟨S64x127, .i32⟩
  | 33 => ⟨S_, .i32⟩
  | 34 => ⟨S64x127, .i32⟩
  | 35 => ⟨S64x127, .i1⟩
  | 36 => ⟨S_, .i32⟩
  | 37 => ⟨S64x127, .i32⟩
  | 38 => ⟨S64x127, .i32⟩
  | 39 => ⟨S64x127, .i32⟩
  | 40 => ⟨S_, .i32⟩
  | 41 => ⟨S64x127, .i32⟩
  | 42 => ⟨S64x127, .i1⟩
  | 43 => ⟨S_, .i32⟩
  | 44 => ⟨S64x127, .i32⟩
  | 45 => ⟨S64x127, .i32⟩
  | 46 => ⟨S64x127, .i32⟩
  | 47 => ⟨S64x127x1, .i32⟩
  | 48 => ⟨S64x127x1, .i32⟩
  | 49 => ⟨S64x127x2, .i32⟩
  | 50 => ⟨S64x127, .f32⟩
  | 51 => ⟨S_, .f32⟩
  | 52 => ⟨S64x1, .f32⟩
  | 53 => ⟨S64x1x256, .f32⟩
  | 54 => ⟨S64x256, .f32⟩
  | 55 => ⟨S128, .i32⟩
  | 56 => ⟨S1x128, .i32⟩
  | 57 => ⟨S_, .i32⟩
  | 58 => ⟨S1x128, .i32⟩
  | 59 => ⟨S1x128, .i1⟩
  | 60 => ⟨S64x1x128, .f32⟩
  | 61 => ⟨S64x128, .f32⟩
  | 62 => ⟨S_, .f32⟩
  | 63 => ⟨S_, .f32⟩
  | 64 => ⟨S64x128, .i1⟩
  | 65 => ⟨S64x128, .f32⟩
  | 66 => ⟨S64x128, .f32⟩
  | 67 => ⟨S64x999x256, .f32⟩
  | 68 => ⟨S999x64x256, .f32⟩
  | 69 => ⟨S64x999x128, .f32⟩
  | 70 => ⟨S999x64x128, .f32⟩
  | 71 => ⟨S_, .i32⟩
  | 72 => ⟨S999x64x256, .f32⟩
  | 73 => ⟨S999x64x128, .f32⟩
  | 74 => ⟨S256x256, .f32⟩
  | 75 => ⟨S64x128, .f32⟩
  | 76 => ⟨S64x127, .f32⟩
  | 77 => ⟨S64x1, .f32⟩
  | 78 => ⟨S_, .i32⟩
  | 79 => ⟨S64x256, .f32⟩
  | 80 => ⟨S64x128, .f32⟩
  | 81 => ⟨S_, .i32⟩
  | 82 => ⟨S_, .i1⟩
  | 83 => ⟨S_, .i32⟩
  | 84 => ⟨S_, .i32⟩
  | 85 => ⟨S1x64x256, .f32⟩
  | 86 => ⟨S64x256, .f32⟩
  | 87 => ⟨S_, .i32⟩
  | 88 => ⟨S_, .i32⟩
  | 89 => ⟨S1x64x128, .f32⟩
  | 90 => ⟨S64x128, .f32⟩
  | 91 => ⟨S64x1x256, .f32⟩
  | 92 => ⟨S1x256x256, .f32⟩
  | 93 => ⟨S64x256x256, .f32⟩
  | 94 => ⟨S64x256x256, .f32⟩
  | 95 => ⟨S64x256x256, .f32⟩
  | 96 => ⟨S_, .f32⟩
  | 97 => ⟨S64x256, .f32⟩
  | 98 => ⟨S64x256x1, .f32⟩
  | 99 => ⟨S64x256, .f32⟩
  | 100 => ⟨S64x256x256, .f32⟩
  | 101 => ⟨S64x256x256, .f32⟩
  | 102 => ⟨S64x256x256, .f32⟩
  | 103 => ⟨S_, .f32⟩
  | 104 => ⟨S64x256, .f32⟩
  | 105 => ⟨S64x256, .f32⟩
  | 106 => ⟨S64x256, .f32⟩
  | 107 => ⟨S64x256, .f32⟩
  | 108 => ⟨S64x128, .f32⟩
  | 109 => ⟨S64x127, .f32⟩
  | 110 => ⟨S64x127, .f32⟩
  | 111 => ⟨S64x128, .f32⟩
  | 112 => ⟨S64x128, .f32⟩
  | 113 => ⟨S64x128, .f32⟩
  | 114 => ⟨S64x128, .i1⟩
  | 115 => ⟨S64x128, .f32⟩
  | 116 => ⟨S64x128, .f32⟩
  | 117 => ⟨S64x128, .f32⟩
  | 118 => ⟨S64x128, .f32⟩
  | 119 => ⟨S64x128, .f32⟩
  | 120 => ⟨S64x128, .f32⟩
  | 121 => ⟨S64x128, .f32⟩
  | 122 => ⟨S64x128, .f32⟩
  | 123 => ⟨S_, .i32⟩
  | 124 => ⟨S_, .i32⟩
  | 125 => ⟨S_, .f32⟩
  | 126 => ⟨S64, .f32⟩
  | 127 => ⟨S64x1, .f32⟩
  | _ => ⟨S64x1000x256, .f32⟩

abbrev hbmTy0_1 (i : Nat) : BufTy := match i % 128 with
  | 0 => ⟨S64, .f32⟩
  | 1 => ⟨S64x256, .f32⟩
  | 2 => ⟨S64x256, .f32⟩
  | 3 => ⟨S64x256, .f32⟩
  | 4 => ⟨S_, .f32⟩
  | 5 => ⟨S64, .f32⟩
  | 6 => ⟨S64, .f32⟩
  | 7 => ⟨S64, .f32⟩
  | 8 => ⟨S_, .i32⟩
  | 9 => ⟨S64, .i32⟩
  | 10 => ⟨S64, .i32⟩
  | 11 => ⟨S64x1, .i32⟩
  | 12 => ⟨S_, .i32⟩
  | 13 => ⟨S64x1, .i32⟩
  | 14 => ⟨S64x1, .i1⟩
  | 15 => ⟨S_, .i32⟩
  | 16 => ⟨S64x1, .i32⟩
  | 17 => ⟨S64x1, .i32⟩
  | 18 => ⟨S64x1, .i32⟩
  | 19 => ⟨S64x1x1, .i32⟩
  | 20 => ⟨S1, .i32⟩
  | 21 => ⟨S_, .i32⟩
  | 22 => ⟨S64x1x1, .i32⟩
  | 23 => ⟨S64x1x1, .i1⟩
  | 24 => ⟨S1x1x1, .i32⟩
  | 25 => ⟨S64x1x1, .i32⟩
  | 26 => ⟨S64x1x1, .i1⟩
  | 27 => ⟨S64x1x1, .i1⟩
  | 28 => ⟨S_, .i1⟩
  | 29 => ⟨S64x1, .i1⟩
  | 30 => ⟨S64x1, .f32⟩
  | 31 => ⟨S_, .f32⟩
  | 32 => ⟨S64x1, .f32⟩
  | 33 => ⟨S64x1, .f32⟩
  | 34 => ⟨S64, .f32⟩
  | 35 => ⟨S64, .f32⟩
  | _ => ⟨S64x1000x256, .f32⟩

abbrev hbmTy (i : Nat) : BufTy := match i / 128 with
  | 0 => hbmTy0_0 i
  | 1 => hbmTy0_1 i
  | _ => ⟨S64x1000x256, .f32⟩

abbrev bufTy : (tb : Table) → Fin (tcTables nBuf tb) → BufTy
  | .hbm, ⟨i, _⟩ => hbmTy i
  | _, _ => ⟨S64x1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_c_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51_0 : Ref sig .tc := ⟨.hbm, 72, rfl⟩
abbrev main_v51_1 : Ref sig .tc := ⟨.hbm, 73, rfl⟩
abbrev main_v51_2 : Ref sig .tc := ⟨.hbm, 74, rfl⟩
abbrev main_v51_3 : Ref sig .tc := ⟨.hbm, 75, rfl⟩
abbrev main_v51_4 : Ref sig .tc := ⟨.hbm, 76, rfl⟩
abbrev main_v51_5 : Ref sig .tc := ⟨.hbm, 77, rfl⟩
abbrev main_v51_6 : Ref sig .tc := ⟨.hbm, 78, rfl⟩
abbrev main_v51_7 : Ref sig .tc := ⟨.hbm, 79, rfl⟩
abbrev main_v51_8 : Ref sig .tc := ⟨.hbm, 80, rfl⟩
abbrev main_while0c_c_23 : Ref sig .tc := ⟨.hbm, 81, rfl⟩
abbrev main_while0c_v67 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_v0 : Ref sig .tc := ⟨.hbm, 85, rfl⟩
abbrev main_while0b_v67 : Ref sig .tc := ⟨.hbm, 86, rfl⟩
abbrev main_while0b_call2_c : Ref sig .tc := ⟨.hbm, 87, rfl⟩
abbrev main_while0b_call2_c_0 : Ref sig .tc := ⟨.hbm, 88, rfl⟩
abbrev main_while0b_call2_v0 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_cst_23 : Ref sig .tc := ⟨.hbm, 96, rfl⟩
abbrev main_while0b_v74 : Ref sig .tc := ⟨.hbm, 97, rfl⟩
abbrev main_while0b_v75 : Ref sig .tc := ⟨.hbm, 98, rfl⟩
abbrev main_while0b_v76 : Ref sig .tc := ⟨.hbm, 99, rfl⟩
abbrev main_while0b_v77 : Ref sig .tc := ⟨.hbm, 100, rfl⟩
abbrev main_while0b_v78 : Ref sig .tc := ⟨.hbm, 101, rfl⟩
abbrev main_while0b_v79 : Ref sig .tc := ⟨.hbm, 102, rfl⟩
abbrev main_while0b_cst_24 : Ref sig .tc := ⟨.hbm, 103, rfl⟩
abbrev main_while0b_v80 : Ref sig .tc := ⟨.hbm, 104, rfl⟩
abbrev main_while0b_v81 : Ref sig .tc := ⟨.hbm, 105, rfl⟩
abbrev main_while0b_v82 : Ref sig .tc := ⟨.hbm, 106, rfl⟩
abbrev main_while0b_v83 : Ref sig .tc := ⟨.hbm, 107, rfl⟩
abbrev main_while0b_v84 : Ref sig .tc := ⟨.hbm, 108, rfl⟩
abbrev main_while0b_v85 : Ref sig .tc := ⟨.hbm, 109, rfl⟩
abbrev main_while0b_v86 : Ref sig .tc := ⟨.hbm, 110, rfl⟩
abbrev main_while0b_v87 : Ref sig .tc := ⟨.hbm, 111, rfl⟩
abbrev main_while0b_v88 : Ref sig .tc := ⟨.hbm, 112, rfl⟩
abbrev main_while0b_v89 : Ref sig .tc := ⟨.hbm, 113, rfl⟩
abbrev main_while0b_v90 : Ref sig .tc := ⟨.hbm, 114, rfl⟩
abbrev main_while0b_v91 : Ref sig .tc := ⟨.hbm, 115, rfl⟩
abbrev main_while0b_v92 : Ref sig .tc := ⟨.hbm, 116, rfl⟩
abbrev main_while0b_v93 : Ref sig .tc := ⟨.hbm, 117, rfl⟩
abbrev main_while0b_v94 : Ref sig .tc := ⟨.hbm, 118, rfl⟩
abbrev main_while0b_v95 : Ref sig .tc := ⟨.hbm, 119, rfl⟩
abbrev main_while0b_v96 : Ref sig .tc := ⟨.hbm, 120, rfl⟩
abbrev main_while0b_v97 : Ref sig .tc := ⟨.hbm, 121, rfl⟩
abbrev main_while0b_v98 : Ref sig .tc := ⟨.hbm, 122, rfl⟩
abbrev main_while0b_c_25 : Ref sig .tc := ⟨.hbm, 123, rfl⟩
abbrev main_while0b_v99 : Ref sig .tc := ⟨.hbm, 124, rfl⟩
abbrev main_cst_12 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_cst_13 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_c_14 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_call3_c : Ref sig .tc := ⟨.hbm, 140, rfl⟩
abbrev main_call3_v0 : Ref sig .tc := ⟨.hbm, 141, rfl⟩
abbrev main_call3_v1 : Ref sig .tc := ⟨.hbm, 142, rfl⟩
abbrev main_call3_c_0 : Ref sig .tc := ⟨.hbm, 143, rfl⟩
abbrev main_call3_v2 : Ref sig .tc := ⟨.hbm, 144, rfl⟩
abbrev main_call3_v3 : Ref sig .tc := ⟨.hbm, 145, rfl⟩
abbrev main_call3_v4 : Ref sig .tc := ⟨.hbm, 146, rfl⟩
abbrev main_call3_v5 : Ref sig .tc := ⟨.hbm, 147, rfl⟩
abbrev main_call3_c_1 : Ref sig .tc := ⟨.hbm, 148, rfl⟩
abbrev main_call3_c_2 : Ref sig .tc := ⟨.hbm, 149, rfl⟩
abbrev main_call3_v6 : Ref sig .tc := ⟨.hbm, 150, rfl⟩
abbrev main_call3_v7 : Ref sig .tc := ⟨.hbm, 151, rfl⟩
abbrev main_call3_v8 : Ref sig .tc := ⟨.hbm, 152, rfl⟩
abbrev main_call3_v9 : Ref sig .tc := ⟨.hbm, 153, rfl⟩
abbrev main_call3_v10 : Ref sig .tc := ⟨.hbm, 154, rfl⟩
abbrev main_call3_v11 : Ref sig .tc := ⟨.hbm, 155, rfl⟩
abbrev main_call3_c_3 : Ref sig .tc := ⟨.hbm, 156, rfl⟩
abbrev main_call3_v12 : Ref sig .tc := ⟨.hbm, 157, rfl⟩
abbrev main_call3_v13 : Ref sig .tc := ⟨.hbm, 158, rfl⟩
abbrev main_call3_cst : Ref sig .tc := ⟨.hbm, 159, rfl⟩
abbrev main_call3_v14 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩

abbrev nD : Nat := 1
abbrev τ : Topo := Topo.v7x

variable {F : FTy → Type} [FloatOps F]

abbrev main_while0_count : Scf.Loop 32 := ⟨0#32, 999#32, 1#32⟩
-- ==== Proof.Body.lean ====
/-
  The body of the kernel, run once at symbolic operands.
-/
module

public import proofs.«01_k».proof.Proof.Gen.KernelIdeal.Frame
public import proofs.«01_k».proof.Proof.Gen.KernelIdeal.Skeleton
public import Idealize.ShloMosaic.Lib.Claim

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

noncomputable def stepRun (c : Dev nD) (i : grid0.Coords) (hi : ¬ Scalar.cmpi .ne (Scalar.extui (Scalar.cmpi .eq (BitVec.ofNat 32 (i 0).val) 0#32) : BitVec 32) 0#32 = 1#1)
    (arg1 : Memref sig .tc .vmem S40x64x256 .bf16) (harg1 : arg1.IsWhole) (arg2 : Memref sig .tc .vmem S64x40x256 .f32) (harg2 : arg2.IsWhole) (arg3 : Memref sig .tc .vmem S64x40x256 .f32) (harg3 : arg3.IsWhole) (arg4 : Memref sig .tc .vmem S64x128 .i32) (harg4 : arg4.IsWhole) (arg5 : Memref sig .tc .vmem S64x1 .i32) (harg5 : arg5.IsWhole) (arg6 : Memref sig .tc .vmem S256x256 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S2x40x64x128 .f32) (harg13 : arg13.IsWhole) (arg14 : Memref sig .tc .vmem S64x256x256 .bf16) (harg14 : arg14.IsWhole) (arg15 : Memref sig .tc .smem S1x1 .f32) (harg15 : arg15.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) :
    { W : Bf (F := F) c arg7 × Bf (F := F) c arg8 × Bf (F := F) c arg9 × Bf (F := F) c arg10 × Bf (F := F) c arg13 //
      ∀ (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7
          ∗ pt c arg8 f8 ∗ pt c arg9 f9 ∗ pt c arg10 f10 ∗ pt c arg11 f11 ∗ pt c arg12 f12 ∗ pt c arg13 f13 ∗ pt c arg14 f14 ∗ pt c arg15 f15
          ∗ (iprop(pt c arg1 f1 ∗ pt c arg2 f2 ∗ pt c arg3 f3 ∗ pt c arg4 f4 ∗ pt c arg5 f5 ∗ pt c arg6 f6 ∗ pt c arg7 W.1
          ∗ pt c arg8 W.2.1 ∗ pt c arg9 W.2.2.1 ∗ pt c arg10 W.2.2.2.1 ∗ pt c arg11 f11 ∗ pt c arg12 f12 ∗ pt c arg13 W.2.2.2.2 ∗ pt c arg14 f14 ∗ pt c arg15 f15) -∗ Q ⟨⟩))
        ⊢ wp frame (wpE (defs₀ (F := F)) Variants.none c none) E
            (cc0__asg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) Q } := by
  refine ⟨⟨?_, ?_, ?_, ?_, ?_⟩, fun E Q => ?run⟩
  case run =>
    simp only [cc0__asg_kernel_eq_skeleton]; unfold cc0__asg_kernel_skel
    iintro ⟨H1, H2, H3, H4, H5, H6, H7, H8, H9, H10, H11, H12, H13, H14, H15, Hk⟩
    sl_exec_parts
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KI

end
-- ==== Proof.Init.lean ====
/-
  The body of the kernel run at the grid's first point, where the scratch buffers hold nothing yet.
-/
module

public import proofs.«01_k».proof.Proof.Body

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The grid's first point. -/
abbrev i0 : grid0.Coords := fun a => ⟨0, by revert a; decide⟩

set_option maxHeartbeats 4000000 in
set_option maxRecDepth 100000 in
set_option sl_exec.stepHeartbeats 3000000 in
noncomputable def initRun (c : Dev nD)
    (arg1 : Memref sig .tc .vmem S40x64x256 .bf16) (harg1 : arg1.IsWhole) (arg2 : Memref sig .tc .vmem S64x40x256 .f32) (harg2 : arg2.IsWhole) (arg3 : Memref sig .tc .vmem S64x40x256 .f32) (harg3 : arg3.IsWhole) (arg4 : Memref sig .tc .vmem S64x128 .i32) (harg4 : arg4.IsWhole) (arg5 : Memref sig .tc .vmem S64x1 .i32) (harg5 : arg5.IsWhole) (arg6 : Memref sig .tc .vmem S256x256 .f32) (harg6 : arg6.IsWhole) (arg7 : Memref sig .tc .vmem S64x1 .f32) (harg7 : arg7.IsWhole) (arg8 : Memref sig .tc .vmem S64x256 .f32) (harg8 : arg8.IsWhole) (arg9 : Memref sig .tc .vmem S64x1 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S2x40x64x128 .f32) (harg13 : arg13.IsWhole) (arg14 : Memref sig .tc .vmem S64x256x256 .bf16) (harg14 : arg14.IsWhole) (arg15 : Memref sig .tc .smem S1x1 .f32) (harg15 : arg15.IsWhole)
    (f1 : Bf (F := F) c arg1) (f2 : Bf (F := F) c arg2) (f3 : Bf (F := F) c arg3) (f4 : Bf (F := F) c arg4) (f5 : Bf (F := F) c arg5) (f6 : Bf (F := F) c arg6) :
    { W : Bf (F := F) c arg8 × Bf (F := F) c arg9 × Bf (F := F) c arg10 × Bf (F := F) c arg11 × Bf (F := F) c arg12 × Bf (F := F) c arg13 × Bf (F := F) c arg14 × Bf (F := F) c arg15 //
      ∀ (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (E : Set ℕ) (Q : PUnit → sProp 𝕄),
        iprop(pt c arg1 f1 ∗ pt c arg2 f2 ∗ pt c arg3 f3 ∗ pt c arg4 f4 ∗ pt c arg5 f5 ∗ pt c arg6 f6 ∗ pt c arg7 f7
          ∗ pt c arg8 f8 ∗ pt c arg9 f9 ∗ pt c arg10 f10 ∗ pt c arg11 f11 ∗ pt c arg12 f12 ∗ pt c arg13 f13 ∗ pt c arg14 f14 ∗ pt c arg15 f15
          ∗ (iprop(pt c arg1 f1 ∗ pt c arg2 f2 ∗ pt c arg3 f3 ∗ pt c arg4 f4 ∗ pt c arg5 f5 ∗ pt c arg6 f6 ∗ pt c arg7 f7
          ∗ pt c arg8 W.1 ∗ pt c arg9 W.2.1 ∗ pt c arg10 W.2.2.1 ∗ pt c arg11 W.2.2.2.1 ∗ pt c arg12 W.2.2.2.2.1 ∗ pt c arg13 W.2.2.2.2.2.1 ∗ pt c arg14 W.2.2.2.2.2.2.1 ∗ pt c arg15 W.2.2.2.2.2.2.2) -∗ Q ⟨⟩))
        ⊢ wp frame (wpE (defs₀ (F := F)) Variants.none c none) E
            (cc0__asg_kernel i0 arg1 harg1 arg2 harg2 arg3 harg3 arg4 harg4 arg5 harg5 arg6 harg6 arg7 harg7 arg8 harg8 arg9 harg9 arg10 harg10 arg11 harg11 arg12 harg12 arg13 harg13 arg14 harg14 arg15 harg15) Q } := by
  refine ⟨⟨?_, ?_, ?_, ?_, ?_, ?_, ?_, ?_⟩, fun f7 f8 f9 f10 f11 f12 f13 f14 f15 E Q => ?run⟩
  case run =>
    simp only [cc0__asg_kernel_eq_skeleton]; unfold cc0__asg_kernel_skel
    iintro ⟨H1, H2, H3, H4, H5, H6, H7, H8, H9, H10, H11, H12, H13, H14, H15, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

end Cert.Proof.KI

end
-- ==== Proof.Frame.lean ====
/-
  What the scratch buffers hold between the grid's points, the pipeline's proof data, the body obligation, the run of the
  whole program and its frame.
-/
module

public import proofs.«01_k».proof.Proof.Init

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Whole memrefs: ownership and the points-to -/

theorem pt_of_owns (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  rw [h.set_eq_univ]
  iintro ⟨%f, %hf, H⟩
  obtain rfl := h.eq_unread hf
  iexact H

theorem owns_of_pt (c : Dev nD) {sp : Space} {S : Shape} {e : EltTy} (M : Memref sig .tc sp S e) (h : M.IsWhole) (f : Bf (F := F) c M) (X : S.Idx → Elt F e)
    (hf : M.view.read (Elt F) f = X) : pt c M f ⊢ (owns (c : Thread nD τ) M fullShare X : sProp 𝕄) := by
  unfold owns pt
  rw [h.set_eq_univ]
  iintro H
  iexists f; isplitr; · ipureintro; exact hf
  iexact H

/-! ## The scratch buffers -/

abbrev sc0 := Memref.whole (κ := Kind.tc) (sig := sig) cc0_scratch0
theorem hsc0 : sc0.IsWhole := Memref.isWhole_whole _
abbrev sc1 := Memref.whole (κ := Kind.tc) (sig := sig) cc0_scratch1
theorem hsc1 : sc1.IsWhole := Memref.isWhole_whole _
abbrev sc2 := Memref.whole (κ := Kind.tc) (sig := sig) cc0_scratch2
theorem hsc2 : sc2.IsWhole := Memref.isWhole_whole _
abbrev sc3 := Memref.whole (κ := Kind.tc) (sig := sig) cc0_scratch3
theorem hsc3 : sc3.IsWhole := Memref.isWhole_whole _
abbrev sc4 := Memref.whole (κ := Kind.tc) (sig := sig) cc0_scratch4
theorem hsc4 : sc4.IsWhole := Memref.isWhole_whole _
abbrev sc5 := Memref.whole (κ := Kind.tc) (sig := sig) cc0_scratch5
theorem hsc5 : sc5.IsWhole := Memref.isWhole_whole _
abbrev sc6 := Memref.whole (κ := Kind.tc) (sig := sig) cc0_scratch6
theorem hsc6 : sc6.IsWhole := Memref.isWhole_whole _
abbrev sc7 := Memref.whole (κ := Kind.tc) (sig := sig) cc0_scratch7
theorem hsc7 : sc7.IsWhole := Memref.isWhole_whole _

/-- What the eight scratch buffers hold: the forward weights and their scale, the path's scores, the transition scores of
    the targets, the emissions' two slots, the targets' one-hot rows and the largest transition score. -/
structure Scr (F : FTy → Type) where
  w : S64x256.Idx → Elt F .f32
  z : S64x1.Idx → Elt F .f32
  a : S64x128.Idx → Elt F .f32
  ts : S64x128.Idx → Elt F .f32
  tm : S64x128.Idx → Elt F .f32
  em : S2x40x64x128.Idx → Elt F .f32
  oh : S64x256x256.Idx → Elt F .bf16
  g : S1x1.Idx → Elt F .f32

/-- The scratch buffers held whole at `s`. -/
def held (c : Dev nD) (s : Scr F) : sProp 𝕄 :=
  iprop(pt c sc0 (hsc0.unread s.w)
    ∗ pt c sc1 (hsc1.unread s.z)
    ∗ pt c sc2 (hsc2.unread s.a)
    ∗ pt c sc3 (hsc3.unread s.ts)
    ∗ pt c sc4 (hsc4.unread s.tm)
    ∗ pt c sc5 (hsc5.unread s.em)
    ∗ pt c sc6 (hsc6.unread s.oh)
    ∗ pt c sc7 (hsc7.unread s.g))

theorem held_open (c : Dev nD) (s : Scr F) : held c s ⊢ iprop(pt c sc0 (hsc0.unread s.w)
    ∗ pt c sc1 (hsc1.unread s.z)
    ∗ pt c sc2 (hsc2.unread s.a)
    ∗ pt c sc3 (hsc3.unread s.ts)
    ∗ pt c sc4 (hsc4.unread s.tm)
    ∗ pt c sc5 (hsc5.unread s.em)
    ∗ pt c sc6 (hsc6.unread s.oh)
    ∗ pt c sc7 (hsc7.unread s.g)) := by
  unfold held; exact .rfl

theorem held_of (c : Dev nD) (s : Scr F) (f0 : Bf (F := F) c sc0) (f1 : Bf (F := F) c sc1) (f2 : Bf (F := F) c sc2) (f3 : Bf (F := F) c sc3) (f4 : Bf (F := F) c sc4) (f5 : Bf (F := F) c sc5) (f6 : Bf (F := F) c sc6) (f7 : Bf (F := F) c sc7)
    (h0 : sc0.view.read (Elt F) f0 = s.w) (h1 : sc1.view.read (Elt F) f1 = s.z) (h2 : sc2.view.read (Elt F) f2 = s.a) (h3 : sc3.view.read (Elt F) f3 = s.ts) (h4 : sc4.view.read (Elt F) f4 = s.tm) (h5 : sc5.view.read (Elt F) f5 = s.em) (h6 : sc6.view.read (Elt F) f6 = s.oh) (h7 : sc7.view.read (Elt F) f7 = s.g) :
    iprop(pt c sc0 f0 ∗ pt c sc1 f1 ∗ pt c sc2 f2 ∗ pt c sc3 f3 ∗ pt c sc4 f4 ∗ pt c sc5 f5 ∗ pt c sc6 f6 ∗ pt c sc7 f7) ⊢ held c s := by
  unfold held
  rw [hsc0.eq_unread h0, hsc1.eq_unread h1, hsc2.eq_unread h2, hsc3.eq_unread h3, hsc4.eq_unread h4, hsc5.eq_unread h5, hsc6.eq_unread h6, hsc7.eq_unread h7]

/-! ## The points -/

theorem coords_first : grid0.coords (⟨0, by decide⟩ : Fin cfg0.N) = i0 := by
  funext a; revert a; decide

theorem later (t : Fin cfg0.N) (ht : t.val ≠ 0) :
    ¬ Scalar.cmpi .ne (Scalar.extui (Scalar.cmpi .eq (BitVec.ofNat 32 (grid0.coords t 0).val) 0#32) : BitVec 32) 0#32 = 1#1 := by
  revert t; decide

theorem cond2_iff (t : Fin cfg0.N) : k0_cond2 (grid0.coords t) = 1#1 ↔ t.val = 24 := by
  revert t; decide

/-- The body at the first point, on the blocks of that point. -/
def firstRun (c : Dev nD) :=
  let t : Fin cfg0.N := ⟨0, by decide⟩
  initRun (F := F) c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    sc0 hsc0 sc1 hsc1 sc2 hsc2 sc3 hsc3 sc4 hsc4 sc5 hsc5 sc6 hsc6 sc7 hsc7
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))

/-- The body at a later point, on the blocks of that point, from scratch contents `s`, the output buffer at `x`. -/
def laterRun (c : Dev nD) (t : Fin cfg0.N) (ht : t.val ≠ 0) (s : Scr F) (x : S64x1.Idx → Elt F .f32) :=
  stepRun (F := F) c (grid0.coords t) (later t ht) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    sc0 hsc0 sc1 hsc1 sc2 hsc2 sc3 hsc3 sc4 hsc4 sc5 hsc5 sc6 hsc6 sc7 hsc7
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) ((hstage0_6 ((cfg0.slots t 6).cast nbuf0_6)).unread x)
    (hsc0.unread s.w) (hsc1.unread s.z) (hsc2.unread s.a) (hsc3.unread s.ts) (hsc4.unread s.tm) (hsc5.unread s.em) (hsc6.unread s.oh) (hsc7.unread s.g)

/-- The eight buffers' contents as a record. -/
def scrOf (c : Dev nD) (W : Bf (F := F) c sc0 × Bf (F := F) c sc1 × Bf (F := F) c sc2 × Bf (F := F) c sc3 × Bf (F := F) c sc4 × Bf (F := F) c sc5 × Bf (F := F) c sc6 × Bf (F := F) c sc7) : Scr F :=
  { w := sc0.view.read (Elt F) W.1, z := sc1.view.read (Elt F) W.2.1, a := sc2.view.read (Elt F) W.2.2.1, ts := sc3.view.read (Elt F) W.2.2.2.1, tm := sc4.view.read (Elt F) W.2.2.2.2.1, em := sc5.view.read (Elt F) W.2.2.2.2.2.1, oh := sc6.view.read (Elt F) W.2.2.2.2.2.2.1, g := sc7.view.read (Elt F) W.2.2.2.2.2.2.2 }

/-- What the first point leaves in the scratch buffers, -/
def scrFirst (c : Dev nD) : Scr F := scrOf c (firstRun m c).1

/-- what a later point leaves there, -/
def scrNext (c : Dev nD) (t : Fin cfg0.N) (ht : t.val ≠ 0) (s : Scr F) : Scr F :=
  { s with
    w := sc0.view.read (Elt F) (laterRun m c t ht s (iblk m c 6 t)).1.2.1
    z := sc1.view.read (Elt F) (laterRun m c t ht s (iblk m c 6 t)).1.2.2.1
    a := sc2.view.read (Elt F) (laterRun m c t ht s (iblk m c 6 t)).1.2.2.2.1
    em := sc5.view.read (Elt F) (laterRun m c t ht s (iblk m c 6 t)).1.2.2.2.2 }

/-- and what they hold after point `k`. -/
def scrAt (c : Dev nD) : ℕ → Scr F
  | 0 => scrFirst m c
  | k + 1 => if h : k + 1 < cfg0.N then scrNext m c ⟨k + 1, h⟩ (Nat.succ_ne_zero k) (scrAt c k) else scrAt c k

theorem scrAt_succ (c : Dev nD) (k : ℕ) (h : k + 1 < cfg0.N) :
    scrAt m c (k + 1) = scrNext m c ⟨k + 1, h⟩ (Nat.succ_ne_zero k) (scrAt m c k) := by
  rw [scrAt, dif_pos h]

/-- What point `t` leaves in the output window's buffer when it is the last. -/
def outAt (c : Dev nD) (t : Fin cfg0.N) : S64x1.Idx → Elt F .f32 :=
  if ht : t.val = 0 then iblk m c 6 t
  else (st0_6 t).view.read (Elt F) (laterRun m c t ht (scrAt m c (t.val - 1)) (iblk m c 6 t)).1.1

theorem laterRun_scr (c : Dev nD) (t : Fin cfg0.N) (ht : t.val ≠ 0) (s : Scr F) (x y : S64x1.Idx → Elt F .f32) :
    (laterRun m c t ht s x).1.2 = (laterRun m c t ht s y).1.2 := rfl

theorem later_held (c : Dev nD) (t : Fin cfg0.N) (ht : t.val ≠ 0) (s : Scr F) (x : S64x1.Idx → Elt F .f32) :
    iprop(pt c sc0 (laterRun m c t ht s x).1.2.1 ∗ pt c sc1 (laterRun m c t ht s x).1.2.2.1 ∗ pt c sc2 (laterRun m c t ht s x).1.2.2.2.1
      ∗ pt c sc3 (hsc3.unread s.ts) ∗ pt c sc4 (hsc4.unread s.tm) ∗ pt c sc5 (laterRun m c t ht s x).1.2.2.2.2
      ∗ pt c sc6 (hsc6.unread s.oh) ∗ pt c sc7 (hsc7.unread s.g)) ⊢ held c (scrNext m c t ht s) := by
  rw [laterRun_scr m c t ht s x (iblk m c 6 t)]
  generalize hR : laterRun m c t ht s (iblk m c 6 t) = R
  unfold scrNext
  rw [hR]
  exact held_of c _ R.1.2.1 R.1.2.2.1 R.1.2.2.2.1 _ _ R.1.2.2.2.2 _ _ rfl rfl rfl (hsc3.read_unread _) (hsc4.read_unread _) rfl (hsc6.read_unread _) (hsc7.read_unread _)

theorem scrOf_held (c : Dev nD) (W : Bf (F := F) c sc0 × Bf (F := F) c sc1 × Bf (F := F) c sc2 × Bf (F := F) c sc3 × Bf (F := F) c sc4 × Bf (F := F) c sc5 × Bf (F := F) c sc6 × Bf (F := F) c sc7) :
    iprop(pt c sc0 W.1 ∗ pt c sc1 W.2.1 ∗ pt c sc2 W.2.2.1 ∗ pt c sc3 W.2.2.2.1 ∗ pt c sc4 W.2.2.2.2.1 ∗ pt c sc5 W.2.2.2.2.2.1 ∗ pt c sc6 W.2.2.2.2.2.2.1 ∗ pt c sc7 W.2.2.2.2.2.2.2) ⊢ held c (scrOf c W) :=
  held_of c (scrOf c W) W.1 W.2.1 W.2.2.1 W.2.2.2.1 W.2.2.2.2.1 W.2.2.2.2.2.1 W.2.2.2.2.2.2.1 W.2.2.2.2.2.2.2 rfl rfl rfl rfl rfl rfl rfl rfl

theorem first_held (c : Dev nD) :
    iprop(pt c sc0 (firstRun m c).1.1 ∗ pt c sc1 (firstRun m c).1.2.1 ∗ pt c sc2 (firstRun m c).1.2.2.1 ∗ pt c sc3 (firstRun m c).1.2.2.2.1 ∗ pt c sc4 (firstRun m c).1.2.2.2.2.1 ∗ pt c sc5 (firstRun m c).1.2.2.2.2.2.1 ∗ pt c sc6 (firstRun m c).1.2.2.2.2.2.2.1 ∗ pt c sc7 (firstRun m c).1.2.2.2.2.2.2.2) ⊢ held c (scrFirst m c) :=
  scrOf_held c (firstRun m c).1

theorem laterRun_kept (c : Dev nD) (t : Fin cfg0.N) (ht : t.val ≠ 0) (hl : t.val ≠ 24) (s : Scr F) (x : S64x1.Idx → Elt F .f32) :
    (laterRun m c t ht s x).1.1 = (hstage0_6 ((cfg0.slots t 6).cast nbuf0_6)).unread x :=
  dif_neg (fun h => hl ((cond2_iff t).1 h))

theorem laterRun_out (c : Dev nD) (t : Fin cfg0.N) (ht : t.val ≠ 0) (hl : t.val = 24) (s : Scr F) (x y : S64x1.Idx → Elt F .f32) :
    (st0_6 t).view.read (Elt F) (laterRun m c t ht s x).1.1 = (st0_6 t).view.read (Elt F) (laterRun m c t ht s y).1.1 := by
  have hc := (cond2_iff t).2 hl
  have h (x : S64x1.Idx → Elt F .f32) : ∃ p, ∀ x, (laterRun m c t ht s x).1.1
      = (st0_6 t).view.writes (Elt F) ((hstage0_6 ((cfg0.slots t 6).cast nbuf0_6)).unread x) [⟨Rect.unit (s := S64x1) ![0, 0] S64x1.size inb_S64x1_S64x1_0_0, p⟩] :=
    ⟨_, fun x => dif_pos hc⟩
  obtain ⟨p, hp⟩ := h x
  rw [hp, hp, View.read_writes_eq_canon _ _ _ (View.cover_of_tiled _ S64x1.size rfl), View.read_writes_eq_canon _ _ _ (View.cover_of_tiled _ S64x1.size rfl)]

theorem later_out (c : Dev nD) (t : Fin cfg0.N) (ht : t.val ≠ 0) (hl : t.val = 24) (k : ℕ) (hk : t.val - 1 = k) (x : S64x1.Idx → Elt F .f32) :
    pt c (st0_6 t) (laterRun m c t ht (scrAt m c k) x).1.1 ⊢ (owns (c : Thread nD τ) (st0_6 t) fullShare (outAt m c t) : sProp 𝕄) := by
  refine owns_of_pt c (st0_6 t) (hstage0_6 ((cfg0.slots t 6).cast nbuf0_6)) _ _ ?_
  unfold outAt
  rw [dif_neg ht, hk]
  exact laterRun_out m c t ht hl _ _ _

theorem later_kept (c : Dev nD) (t : Fin cfg0.N) (ht : t.val ≠ 0) (hl : t.val ≠ 24) (s : Scr F) (x : S64x1.Idx → Elt F .f32) :
    pt c (st0_6 t) (laterRun m c t ht s x).1.1 ⊢ (owns (c : Thread nD τ) (st0_6 t) fullShare x : sProp 𝕄) := by
  rw [laterRun_kept m c t ht hl]
  exact owns_of_pt c (st0_6 t) (hstage0_6 ((cfg0.slots t 6).cast nbuf0_6)) _ _ (Memref.IsWhole.read_unread _ _)

attribute [local irreducible] firstRun laterRun

/-! ## The pipeline's proof data -/

/-- What holds of the scratch buffers before point `k`: at the first, that they are there; later, their contents. -/
def inv (c : Dev nD) : ℕ → sProp 𝕄
  | 0 => Pipeline.ΦA spec0 c
  | k + 1 => iprop(held c (scrAt m c k) ∗ ∃ r, prngReg c r)

/-- The proof data of the one pipeline on core `c`: the arrays as the region finds them; after the body at a point each
    input's buffer at its block and the output's at `outAt`; the scratch buffers by `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: at the points before the last the output's buffer as it was found. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

theorem leaves_early (c : Dev nD) (t : Fin cfg0.N) (hl : t.val ≠ 24) :
    (dats m 0 c).leavesExact 6 t = iprop(∃ d, owns (c : Thread nD τ) (st0_6 t) fullShare ((dats m 0 c).before 6 t d)) :=
  (dats m 0 c).leavesExact_idle 6 t (by revert hl t; decide) (by
    cases h : (cfg0.win 6).flush t
    · rfl
    · have h1 := (flush0_6 t).1 h; have h2 := t.isLt; have h3 : cfg0.N = 25 := N_0; omega)

theorem leaves_last (c : Dev nD) (t : Fin cfg0.N) (hl : t.val = 24) :
    (dats m 0 c).leavesExact 6 t = owns (c : Thread nD τ) (st0_6 t) fullShare ((dats m 0 c).after 6 t) := by
  have hidle : cfg0.idle 6 (cfg0.grid.coords t) = false := by revert hl t; decide
  unfold Dat.leavesExact; rw [hidle]

theorem leaves_of_last (c : Dev nD) (t : Fin cfg0.N) (hl : t.val = 24) :
    (owns (c : Thread nD τ) (st0_6 t) fullShare (outAt m c t) : sProp 𝕄) ⊢ (dats m 0 c).leavesExact 6 t := by
  rw [leaves_last m c t hl, after0_6]

theorem leaves_of_early (c : Dev nD) (t : Fin cfg0.N) (hl : t.val ≠ 24) :
    iprop(∃ d, owns (c : Thread nD τ) (st0_6 t) fullShare ((dats m 0 c).before 6 t d)) ⊢ (dats m 0 c).leavesExact 6 t := by
  rw [leaves_early m c t hl]

set_option maxHeartbeats 1000000 in
/-- The body at the first point. -/
theorem sound_first (c : Dev nD) (t : Fin cfg0.N) (ht : t.val = 0) :
    bodyPre m c t ⊢ wp frame (wpE (defs₀ (F := F)) Variants.none c none) Set.univ (bodyAt0 t) (fun _ => bodyPost m c t) := by
  obtain rfl : t = ⟨0, by decide⟩ := Fin.ext ht
  generalize hT : (⟨0, by decide⟩ : Fin cfg0.N) = t at *
  unfold bodyPre bodyPost bodyAt0
  rw [leaves_early m c t (by omega)]
  simp only [before0_0, before0_1, before0_2, before0_3, before0_4, before0_5]
  rw [show (dats m 0 c).Φ t.castSucc = Pipeline.ΦA spec0 c by subst hT; rfl,
    show (dats m 0 c).Φ t.succ = iprop(held c (scrFirst m c) ∗ ∃ r, prngReg c r) by subst hT; rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩⟩, HR⟩, Ho, ⟨%d0, H0⟩, ⟨%d1, H1⟩, ⟨%d2, H2⟩, ⟨%d3, H3⟩, ⟨%d4, H4⟩, ⟨%d5, H5⟩, ⟨%d6, H6⟩⟩
  ihave H0 := (pt_of_owns c (st0_0 t) (hstage0_0 ((cfg0.slots t 0).cast nbuf0_0)) _) $$ H0
  ihave H1 := (pt_of_owns c (st0_1 t) (hstage0_1 ((cfg0.slots t 1).cast nbuf0_1)) _) $$ H1
  ihave H2 := (pt_of_owns c (st0_2 t) (hstage0_2 ((cfg0.slots t 2).cast nbuf0_2)) _) $$ H2
  ihave H3 := (pt_of_owns c (st0_3 t) (hstage0_3 ((cfg0.slots t 3).cast nbuf0_3)) _) $$ H3
  ihave H4 := (pt_of_owns c (st0_4 t) (hstage0_4 ((cfg0.slots t 4).cast nbuf0_4)) _) $$ H4
  ihave H5 := (pt_of_owns c (st0_5 t) (hstage0_5 ((cfg0.slots t 5).cast nbuf0_5)) _) $$ H5
  ihave H6 := (pt_of_owns c (st0_6 t) (hstage0_6 ((cfg0.slots t 6).cast nbuf0_6)) _) $$ H6
  subst hT
  rw [coords_first]
  iapply ((firstRun m c).2 ((hstage0_6 ((cfg0.slots (⟨0, by decide⟩ : Fin cfg0.N) 6).cast nbuf0_6)).unread _) f0 f1 f2 f3 f4 f5 f6 f7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, S0, S1, S2, S3, S4, S5, S6, S7⟩
  isplitl [S0 S1 S2 S3 S4 S5 S6 S7 HR]
  · isplitl [S0 S1 S2 S3 S4 S5 S6 S7]
    · iapply (first_held m c)
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact HR
  isplitl [Ho]; · iexact Ho
  isplitl [H0]; · iapply (owns_of_pt c _ (hstage0_0 _) _ _ ((hstage0_0 _).read_unread _)); iexact H0
  isplitl [H1]; · iapply (owns_of_pt c _ (hstage0_1 _) _ _ ((hstage0_1 _).read_unread _)); iexact H1
  isplitl [H2]; · iapply (owns_of_pt c _ (hstage0_2 _) _ _ ((hstage0_2 _).read_unread _)); iexact H2
  isplitl [H3]; · iapply (owns_of_pt c _ (hstage0_3 _) _ _ ((hstage0_3 _).read_unread _)); iexact H3
  isplitl [H4]; · iapply (owns_of_pt c _ (hstage0_4 _) _ _ ((hstage0_4 _).read_unread _)); iexact H4
  isplitl [H5]; · iapply (owns_of_pt c _ (hstage0_5 _) _ _ ((hstage0_5 _).read_unread _)); iexact H5
  iexists d6
  iapply (owns_of_pt c _ (hstage0_6 _) _ _ ((hstage0_6 _).read_unread _)); iexact H6

set_option maxHeartbeats 1000000 in
/-- The body at a later point. -/
theorem sound_later (c : Dev nD) (t : Fin cfg0.N) (ht : t.val ≠ 0) :
    bodyPre m c t ⊢ wp frame (wpE (defs₀ (F := F)) Variants.none c none) Set.univ (bodyAt0 t) (fun _ => bodyPost m c t) := by
  obtain ⟨k, hk⟩ : ∃ k, t.val = k + 1 := ⟨t.val - 1, by omega⟩
  have hN : k + 1 < cfg0.N := hk ▸ t.isLt
  obtain rfl : t = ⟨k + 1, hN⟩ := Fin.ext hk
  unfold bodyPre bodyPost bodyAt0
  simp only [before0_0, before0_1, before0_2, before0_3, before0_4, before0_5]
  rw [show (dats m 0 c).Φ (Fin.castSucc ⟨k + 1, hN⟩) = iprop(held c (scrAt m c k) ∗ ∃ r, prngReg c r) from rfl,
    show (dats m 0 c).Φ (Fin.succ ⟨k + 1, hN⟩) = iprop(held c (scrAt m c (k + 1)) ∗ ∃ r, prngReg c r) from rfl,
    show (dats m 0 c).owesAt () (Fin.succ ⟨k + 1, hN⟩) = (dats m 0 c).owesAt () (Fin.castSucc ⟨k + 1, hN⟩) from rfl,
    after0_0, after0_1, after0_2, after0_3, after0_4, after0_5, scrAt_succ m c k hN]
  iintro ⟨⟨HS, HR⟩, Ho, ⟨%d0, H0⟩, ⟨%d1, H1⟩, ⟨%d2, H2⟩, ⟨%d3, H3⟩, ⟨%d4, H4⟩, ⟨%d5, H5⟩, ⟨%d6, H6⟩⟩
  ihave HS := (held_open c (scrAt m c k)) $$ HS
  icases HS with ⟨S0, S1, S2, S3, S4, S5, S6, S7⟩
  ihave H0 := (pt_of_owns c (st0_0 ⟨k + 1, hN⟩) (hstage0_0 ((cfg0.slots ⟨k + 1, hN⟩ 0).cast nbuf0_0)) _) $$ H0
  ihave H1 := (pt_of_owns c (st0_1 ⟨k + 1, hN⟩) (hstage0_1 ((cfg0.slots ⟨k + 1, hN⟩ 1).cast nbuf0_1)) _) $$ H1
  ihave H2 := (pt_of_owns c (st0_2 ⟨k + 1, hN⟩) (hstage0_2 ((cfg0.slots ⟨k + 1, hN⟩ 2).cast nbuf0_2)) _) $$ H2
  ihave H3 := (pt_of_owns c (st0_3 ⟨k + 1, hN⟩) (hstage0_3 ((cfg0.slots ⟨k + 1, hN⟩ 3).cast nbuf0_3)) _) $$ H3
  ihave H4 := (pt_of_owns c (st0_4 ⟨k + 1, hN⟩) (hstage0_4 ((cfg0.slots ⟨k + 1, hN⟩ 4).cast nbuf0_4)) _) $$ H4
  ihave H5 := (pt_of_owns c (st0_5 ⟨k + 1, hN⟩) (hstage0_5 ((cfg0.slots ⟨k + 1, hN⟩ 5).cast nbuf0_5)) _) $$ H5
  ihave H6 := (pt_of_owns c (st0_6 ⟨k + 1, hN⟩) (hstage0_6 ((cfg0.slots ⟨k + 1, hN⟩ 6).cast nbuf0_6)) _) $$ H6
  iapply ((laterRun m c ⟨k + 1, hN⟩ ht (scrAt m c k) ((dats m 0 c).before 6 ⟨k + 1, hN⟩ d6)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, S0, S1, S2, S3, S4, S5, S6, S7⟩
  isplitl [S0 S1 S2 S3 S4 S5 S6 S7 HR]
  · isplitl [S0 S1 S2 S3 S4 S5 S6 S7]
    · iapply (later_held m c ⟨k + 1, hN⟩ ht (scrAt m c k) _)
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact HR
  isplitl [Ho]; · iexact Ho
  isplitl [H0]; · iapply (owns_of_pt c _ (hstage0_0 _) _ _ ((hstage0_0 _).read_unread _)); iexact H0
  isplitl [H1]; · iapply (owns_of_pt c _ (hstage0_1 _) _ _ ((hstage0_1 _).read_unread _)); iexact H1
  isplitl [H2]; · iapply (owns_of_pt c _ (hstage0_2 _) _ _ ((hstage0_2 _).read_unread _)); iexact H2
  isplitl [H3]; · iapply (owns_of_pt c _ (hstage0_3 _) _ _ ((hstage0_3 _).read_unread _)); iexact H3
  isplitl [H4]; · iapply (owns_of_pt c _ (hstage0_4 _) _ _ ((hstage0_4 _).read_unread _)); iexact H4
  isplitl [H5]; · iapply (owns_of_pt c _ (hstage0_5 _) _ _ ((hstage0_5 _).read_unread _)); iexact H5
  by_cases hl : (⟨k + 1, hN⟩ : Fin cfg0.N).val = 24
  · iapply (leaves_of_last m c ⟨k + 1, hN⟩ hl)
    iapply (later_out m c ⟨k + 1, hN⟩ ht hl k rfl _)
    iexact H6
  · iapply (leaves_of_early m c ⟨k + 1, hN⟩ hl)
    iexists d6
    iapply (later_kept m c ⟨k + 1, hN⟩ ht hl _ _); iexact H6

theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_later m c t ht

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_last (c : Dev nD) : (dats m 0 c).Φ (Fin.last cfg0.N) ⊢ (Pipeline.ΦA spec0 c : sProp 𝕄) := by
  rw [show (dats m 0 c).Φ (Fin.last cfg0.N) = iprop(held c (scrAt m c 24) ∗ ∃ r, prngReg c r) from rfl]
  unfold held Pipeline.ΦA
  rw [scopedRest0_eq]
  iintro ⟨⟨S0, S1, S2, S3, S4, S5, S6, S7⟩, HR⟩
  isplitl [S0 S1 S2 S3 S4 S5 S6 S7]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  iexact HR

set_option backward.isDefEq.respectTransparency.types false in
/-- The run of the whole program, with every semaphore counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := inv_last m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Proof.KI

end
-- ==== Proof.Math.lean ====
/-
  The two recurrences over the reals, and the facts about extended reals that the steps of kernel and reference need.
-/
module

public import Idealize.ShloMosaic.Lib.Pointwise
public import Idealize.ShloMosaic.Lib.MatmulPlain

@[expose] public section

noncomputable section

namespace Cert.Proof

open Idealize.ShloMosaic

/-- The scores read: emissions by row, frame and label, transitions, and each row's target labels. -/
structure Data where
  x : Fin 64 → ℕ → Fin 256 → ℝ
  tr : Fin 256 → Fin 256 → ℝ
  tg : Fin 64 → Fin 128 → Fin 256

variable (D : Data)

/-- The total weight of the label paths of row `b` that end at frame `t` in label `n`. -/
def Data.mass : ℕ → Fin 64 → Fin 256 → ℝ
  | 0, b, n => Real.exp (D.x b 0 n)
  | t + 1, b, n => Real.exp (D.x b (t + 1) n) * ∑ k, Data.mass t b k * Real.exp (D.tr n k)

/-- The logarithm of the sum of two exponentials, as both programs compute it. -/
def lae (s m : EReal) : EReal := max s m + Ideal.log1p (Ideal.exp (-max (s - m) (-(s - m))))

/-- The score of the alignments of row `b` that end at frame `t` in position `l` of the target. -/
def Data.beta : ℕ → Fin 64 → Fin 128 → EReal
  | 0, b, l => if l.val = 0 then ((D.x b 0 (D.tg b l) : ℝ) : EReal) else ⊥
  | t + 1, b, l =>
    lae (Data.beta t b l + ((D.tr (D.tg b l) (D.tg b l) : ℝ) : EReal))
      (if h : l.val < 1 then ⊥ else Data.beta t b ⟨l.val - 1, by omega⟩ + ((D.tr (D.tg b l) (D.tg b ⟨l.val - 1, by omega⟩) : ℝ) : EReal))
      + ((D.x b (t + 1) (D.tg b l) : ℝ) : EReal)

theorem Data.mass_pos : ∀ t b n, 0 < D.mass t b n
  | 0, b, n => Real.exp_pos _
  | t + 1, b, n => mul_pos (Real.exp_pos _)
      (Finset.sum_pos (fun k _ => mul_pos (Data.mass_pos t b k) (Real.exp_pos _)) ⟨0, Finset.mem_univ _⟩)

theorem Data.total_pos (t : ℕ) (b : Fin 64) : 0 < ∑ n, D.mass t b n :=
  Finset.sum_pos (fun n _ => D.mass_pos t b n) ⟨0, Finset.mem_univ _⟩

/-! ## Extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (r : ℝ) : Ideal.exp (r : EReal) = ((Real.exp r : ℝ) : EReal) := rfl

theorem log_coe {r : ℝ} (h : 0 < r) : Ideal.log (r : EReal) = ((Real.log r : ℝ) : EReal) :=
  (if_neg (not_le.2 h) : (if r ≤ 0 then (⊥ : EReal) else _) = _)

theorem one_div_coe {r : ℝ} (h : 0 < r) : Ideal.div 1 (r : EReal) = ((r⁻¹ : ℝ) : EReal) := by
  unfold Ideal.div
  rw [if_neg (by exact_mod_cast h.ne'), one_mul, EReal.coe_inv]

/-- A sum over one coordinate of a product with an indicator is the factor there. -/
theorem sum_pick {n : ℕ} (f : Fin n → EReal) (k : Fin n) : ∑ i, f i * (if i = k then (1 : EReal) else 0) = f k := by
  rw [Finset.sum_eq_single k (fun i _ h => by rw [if_neg h, mul_zero]) (fun h => absurd (Finset.mem_univ _) h), if_pos rfl, mul_one]

theorem sum_pick' {n : ℕ} (f : Fin n → EReal) (k : Fin n) : ∑ i, (if i = k then (1 : EReal) else 0) * f i = f k := by
  rw [Finset.sum_eq_single k (fun i _ h => by rw [if_neg h, zero_mul]) (fun h => absurd (Finset.mem_univ _) h), if_pos rfl, one_mul]

/-- A maximum of finitely many real numbers is a real number. -/
theorem fold_max_coe {ι : Type} [Fintype ι] [Nonempty ι] (f : ι → ℝ) :
    ∃ r : ℝ, Finset.univ.fold max (⊥ : EReal) (fun i => ((f i : ℝ) : EReal)) = (r : EReal) := by
  have key : ∀ s : Finset ι, s.fold max (⊥ : EReal) (fun i => ((f i : ℝ) : EReal)) = ⊥ ∧ s = ∅ ∨
      ∃ r : ℝ, s.fold max (⊥ : EReal) (fun i => ((f i : ℝ) : EReal)) = (r : EReal) := by
    intro s
    classical
    induction s using Finset.induction_on with
    | empty => exact Or.inl ⟨rfl, rfl⟩
    | insert a s ha ih =>
      refine Or.inr ?_
      rw [Finset.fold_insert ha]
      rcases ih with ⟨h, -⟩ | ⟨r, h⟩
      · exact ⟨f a, by rw [h]; exact max_bot_right _⟩
      · rw [h]
        rcases le_total (f a) r with h' | h'
        · exact ⟨r, max_eq_right (by exact_mod_cast h')⟩
        · exact ⟨f a, max_eq_left (by exact_mod_cast h')⟩
  rcases key Finset.univ with ⟨-, h⟩ | h
  · exact absurd h (Finset.univ_nonempty_iff.2 inferInstance).ne_empty
  · exact h

/-- The shifted log of a sum of exponentials does not depend on the shift. -/
theorem lse_coe {n : ℕ} (hn : 0 < n) (f : Fin n → ℝ) (top : ℝ) :
    (top : EReal) + Ideal.log (∑ i, Ideal.exp ((f i : EReal) - (top : EReal))) = ((Real.log (∑ i, Real.exp (f i)) : ℝ) : EReal) := by
  have hpos : 0 < ∑ i, Real.exp (f i - top) :=
    Finset.sum_pos (fun _ _ => Real.exp_pos _) (Finset.univ_nonempty_iff.2 ⟨⟨0, hn⟩⟩)
  have h : ∑ i, Ideal.exp ((f i : EReal) - (top : EReal)) = ((∑ i, Real.exp (f i - top) : ℝ) : EReal) := by
    rw [coe_sum]; exact Finset.sum_congr rfl fun i _ => by rw [← EReal.coe_sub, exp_coe]
  rw [h, log_coe hpos, ← EReal.coe_add]
  have e : ∑ i, Real.exp (f i) = Real.exp top * ∑ i, Real.exp (f i - top) := by
    rw [Finset.mul_sum]; exact Finset.sum_congr rfl fun i _ => by rw [← Real.exp_add]; congr 1; ring
  rw [e, Real.log_mul (Real.exp_pos _).ne' hpos.ne', Real.log_exp]

/-- One matrix pass by a tile kept transposed, -/
theorem pass_turned {φ ψ : FTy} {R : ℕ} (t : FVec Ideal (Mxu.STile 256) φ) (w : FVec Ideal (Mxu.STile R) ψ) (b : Fin R) (n : Fin 256) :
    (Mxu.Staged.pass (F := Ideal) ⟨φ, true, t⟩ w) (ix2 b n) = ∑ k, w (ix2 b k) * t (ix2 n k) := by
  have := Ideal.matmul_transposedRhs_apply (M := R) (K := 256) (N := 256) none w t (fun _ => 0) b n
  rw [zero_add] at this
  refine Eq.trans ?_ this
  rw [Ideal.matmul_apply]
  exact (zero_add _).symm

/-- and by a tile as it is. -/
theorem pass_plain {φ ψ : FTy} {R : ℕ} (t : FVec Ideal (Mxu.STile 256) φ) (w : FVec Ideal (Mxu.STile R) ψ) (b : Fin R) (n : Fin 256) :
    (FloatOps.mxuPass (F := Ideal) (DotDims.plain R 256 256) w t) (ix2 b n) = ∑ k, w (ix2 b k) * t (ix2 k n) := by
  have := Ideal.matmul_plain_apply (M := R) (K := 256) (N := 256) none w t (fun _ => 0) b n
  rw [zero_add] at this
  refine Eq.trans ?_ this
  rw [Ideal.matmul_apply]
  exact (zero_add _).symm

end Cert.Proof

end
-- ==== Proof.Gap.lean ====
/-
  The arguments read as real scores and labels, and the difference both programs return of them.
-/
module

public import proofs.«01_k».proof.Proof.Math

@[expose] public section

noncomputable section

namespace Cert.Proof

open Idealize.ShloMosaic

/-- The four arguments hold the real scores and the labels of `D`, and each row's length is one more than `len`. -/
structure Args (D : Data) (len : Fin 64 → Fin 128) (x : FVec Ideal ⟨3, ![64, 1000, 256]⟩ .f32) (tgt : IVec ⟨2, ![64, 128]⟩ 32)
    (ts : IVec ⟨1, ![64]⟩ 32) (tr : FVec Ideal ⟨2, ![256, 256]⟩ .f32) : Prop where
  x : ∀ b (t : Fin 1000) n, x (ix3 b t n) = ((D.x b t.val n : ℝ) : EReal)
  tgt : ∀ b l, tgt (ix2 b l) = BitVec.ofNat 32 (D.tg b l).val
  ts : ∀ b, ts (ix1 b) = BitVec.ofNat 32 ((len b).val + 1)
  tr : ∀ n k, tr (ix2 n k) = ((D.tr n k : ℝ) : EReal)

/-- The difference both programs return for row `b`. -/
def Data.gap (D : Data) (len : Fin 64 → Fin 128) (b : Fin 64) : EReal :=
  ((Real.log (∑ n, D.mass 999 b n) : ℝ) : EReal) - D.beta 999 b (len b)

end Cert.Proof

end
-- ==== Proof.Blocks.lean ====
/-
  What the grid's points read: each window's block, of arguments that hold real scores and labels.
-/
module

public import proofs.«01_k».proof.Proof.Frame
public import proofs.«01_k».proof.Proof.Gap
public import Idealize.ShloMosaic.Lib.StableHlo.RunRead

@[expose] public section

set_option maxRecDepth 16384

noncomputable section

namespace Cert.Proof.KI

open Cert.KernelIdeal Cert.KernelIdeal.Gen Cert.Proof
open Idealize.ShloMosaic Idealize.ShloMosaic.TcCoe Idealize.ShloMosaic.Tactic Idealize.ShloMosaic.StableHlo

variable {D : Data} {len : Fin 64 → Fin 128} (m : (ℓ : Loc nD τ sig) → Buf (Elt Ideal) ℓ) (c : Dev nD)

/-- The frames as the region finds them: turned, and rounded. -/
theorem V_frames : (V m c main_call0_v1 : FVec Ideal S1000x64x256 .bf16)
    = (truncf (F := Ideal) .bf16 (transpose S1000x64x256 [1, 0, 2] (m ((c.tc : Thread nD τ).loc main_arg0) : FVec Ideal S64x1000x256 .f32)
        transposes_S64x1000x256_S1000x64x256_1_0_2) bitsLt_bf16_f32 : FVec Ideal S1000x64x256 .bf16) := by
  simp only [V, V0, hostOps0, List.flatten_cons, List.flatten_nil, List.append_nil]
  after_reads_simp
  rfl

/-- The lengths as the region finds them: a column. -/
theorem V_lens : (V m c main_call0_v2 : IVec S64x1 32)
    = shapeCast S64x1 (m ((c.tc : Thread nD τ).loc main_arg2) : IVec S64 32) shapeCasts_S64_S64x1 := by
  simp only [V, V0, hostOps0, List.flatten_cons, List.flatten_nil, List.append_nil]
  after_reads_simp
  rfl

theorem index0 (t : Fin cfg0.N) : win0_0.index t 0 = t.val ∧ win0_0.index t 1 = 0 ∧ win0_0.index t 2 = 0 := by revert t; decide
theorem index1 (t : Fin cfg0.N) : win0_1.index t 0 = 0 ∧ win0_1.index t 1 = min (t.val + 1) 24 ∧ win0_1.index t 2 = 0 := by revert t; decide
theorem index2 (t : Fin cfg0.N) : win0_2.index t 0 = 0 ∧ win0_2.index t 1 = 0 ∧ win0_2.index t 2 = 0 := by revert t; decide
theorem index3 (t : Fin cfg0.N) : win0_3.index t 0 = 0 ∧ win0_3.index t 1 = 0 := by revert t; decide
theorem index4 (t : Fin cfg0.N) : win0_4.index t 0 = 0 ∧ win0_4.index t 1 = 0 := by revert t; decide
theorem index5 (t : Fin cfg0.N) : win0_5.index t 0 = 0 ∧ win0_5.index t 1 = 0 := by revert t; decide

theorem points (t : Fin cfg0.N) : t.val < 25 := t.isLt.trans_eq N_0

variable (A : Args D len (m ((c.tc : Thread nD τ).loc main_arg0)) (m ((c.tc : Thread nD τ).loc main_arg1))
    (m ((c.tc : Thread nD τ).loc main_arg2)) (m ((c.tc : Thread nD τ).loc main_arg3)))

include A

theorem blk0 (t : Fin cfg0.N) (j : Fin 40) (b : Fin 64) (n : Fin 256) :
    (iblk m c 0 t : FVec Ideal S40x64x256 .bf16) (ix3 j b n) = ((D.x b (40 * t.val + j.val) n : ℝ) : EReal) := by
  have ht := points t
  have hi := index0 t
  unfold iblk
  rw [View.read_apply]
  refine (congrArg (V m c main_call0_v1 : FVec Ideal S1000x64x256 .bf16) (show _ = ix3 ⟨40 * t.val + j.val, by omega⟩ b n from ?_)).trans ?_
  · funext a
    apply Fin.ext
    match a with
    | ⟨0, _⟩ => show win0_0.index t 0 * 40 + 1 * j.val = 40 * t.val + j.val; rw [hi.1]; omega
    | ⟨1, _⟩ => show win0_0.index t 1 * 64 + 1 * b.val = b.val; rw [hi.2.1]; omega
    | ⟨2, _⟩ => show win0_0.index t 2 * 256 + 1 * n.val = n.val; rw [hi.2.2]; omega
  · rw [V_frames]
    pointwise
    exact A.x b _ n

theorem blk1 (t : Fin cfg0.N) (b : Fin 64) (j : Fin 40) (n : Fin 256) :
    (iblk m c 1 t : FVec Ideal S64x40x256 .f32) (ix3 b j n) = ((D.x b (40 * min (t.val + 1) 24 + j.val) n : ℝ) : EReal) := by
  have ht := points t
  have hi := index1 t
  unfold iblk
  rw [View.read_apply]
  refine (congrArg (V m c main_arg0 : FVec Ideal S64x1000x256 .f32) (show _ = ix3 b ⟨40 * min (t.val + 1) 24 + j.val, by omega⟩ n from ?_)).trans ?_
  · funext a
    apply Fin.ext
    match a with
    | ⟨0, _⟩ => show win0_1.index t 0 * 64 + 1 * b.val = b.val; rw [hi.1]; omega
    | ⟨1, _⟩ => show win0_1.index t 1 * 40 + 1 * j.val = 40 * min (t.val + 1) 24 + j.val; rw [hi.2.1]; omega
    | ⟨2, _⟩ => show win0_1.index t 2 * 256 + 1 * n.val = n.val; rw [hi.2.2]; omega
  · rw [V_main_arg0]
    exact A.x b _ n

theorem blk2 (t : Fin cfg0.N) (b : Fin 64) (j : Fin 40) (n : Fin 256) :
    (iblk m c 2 t : FVec Ideal S64x40x256 .f32) (ix3 b j n) = ((D.x b (0 + j.val) n : ℝ) : EReal) := by
  have hi := index2 t
  unfold iblk
  rw [View.read_apply]
  refine (congrArg (V m c main_arg0 : FVec Ideal S64x1000x256 .f32) (show _ = ix3 b ⟨0 + j.val, by omega⟩ n from ?_)).trans ?_
  · funext a
    apply Fin.ext
    match a with
    | ⟨0, _⟩ => show win0_2.index t 0 * 64 + 1 * b.val = b.val; rw [hi.1]; omega
    | ⟨1, _⟩ => show win0_2.index t 1 * 40 + 1 * j.val = 0 + j.val; rw [hi.2.1]; omega
    | ⟨2, _⟩ => show win0_2.index t 2 * 256 + 1 * n.val = n.val; rw [hi.2.2]; omega
  · rw [V_main_arg0]
    exact A.x b _ n

theorem blk3 (t : Fin cfg0.N) (b : Fin 64) (l : Fin 128) :
    (iblk m c 3 t : IVec S64x128 32) (ix2 b l) = BitVec.ofNat 32 (D.tg b l).val := by
  have hi := index3 t
  unfold iblk
  rw [View.read_apply]
  refine (congrArg (V m c main_arg1 : IVec S64x128 32) (show _ = ix2 b l from ?_)).trans ?_
  · funext a
    apply Fin.ext
    match a with
    | ⟨0, _⟩ => show win0_3.index t 0 * 64 + 1 * b.val = b.val; rw [hi.1]; omega
    | ⟨1, _⟩ => show win0_3.index t 1 * 128 + 1 * l.val = l.val; rw [hi.2]; omega
  · rw [V_main_arg1]
    exact A.tgt b l

theorem blk4 (t : Fin cfg0.N) (b : Fin 64) :
    (iblk m c 4 t : IVec S64x1 32) (ix2 b 0) = BitVec.ofNat 32 ((len b).val + 1) := by
  have hi := index4 t
  unfold iblk
  rw [View.read_apply]
  refine (congrArg (V m c main_call0_v2 : IVec S64x1 32) (show _ = ix2 b 0 from ?_)).trans ?_
  · funext a
    apply Fin.ext
    match a with
    | ⟨0, _⟩ => show win0_4.index t 0 * 64 + 1 * b.val = b.val; rw [hi.1]; omega
    | ⟨1, _⟩ => show win0_4.index t 1 * 1 + 1 * 0 = 0; rw [hi.2]
  · rw [V_lens]
    pointwise
    exact A.ts b

omit A in
theorem blk5 (t : Fin cfg0.N) : (iblk m c 5 t : FVec Ideal S256x256 .f32) = m ((c.tc : Thread nD τ).loc main_arg3) := by
  have hi := index5 t
  funext j
  unfold iblk
  rw [View.read_apply]
  refine (congrArg (V m c main_arg3 : FVec Ideal S256x256 .f32) (show _ = j from ?_)).trans (by rw [V_main_arg3])
  funext a
  apply Fin.ext
  match a with
  | ⟨0, _⟩ => show win0_5.index t 0 * 256 + 1 * (j 0).val = (j 0).val; rw [hi.1]; omega
  | ⟨1, _⟩ => show win0_5.index t 1 * 256 + 1 * (j 1).val = (j 1).val; rw [hi.2]; omega

end Cert.Proof.KI

end
-- ==== Proof.Unit.lean ====
/- A matrix unit at rest: what one explicit product reads, and that the unit is at rest again after it. -/
module

public import Idealize.ShloMosaic.Lib.Mxu.Lemmas
public import Idealize.ShloMosaic.Lib.Pointwise

@[expose] public section

noncomputable section

namespace Cert.Proof

open Idealize.ShloMosaic

variable {F : FTy → Type} [FloatOps F]

/-- No tile is staged, no row is live, and unit 0 has the tile `g` loaded. -/
structure Calm (M : Mxu F) (g : Option (Mxu.Staged F)) : Prop where
  reg : ∀ q r, M.reg q r = none
  live : ∀ q R, M.live q R = false
  gmr : M.gmr 0 = g

theorem Calm.start : Calm (Mxu.init : Mxu F) none := ⟨fun q r => Mxu.reg_init q r, fun _ _ => rfl, rfl⟩

variable {M : Mxu F} {g : Option (Mxu.Staged F)}

theorem Calm.settle (H : Calm M g) (q r : Fin 2) (tr : Bool) {A R : Nat} {φ ψ : FTy} (tile : FVec F (Mxu.STile 256) φ)
    (lhs : FVec F (Mxu.STile R) ψ) (h h' : Mxu.Fits A R) (q' : Fin 2) :
    ∀ R', (((M.pushed q r tr tile).accLhs q r A lhs h).pop q A R h').live q' R' = false := by
  intro R'
  rw [Mxu.live_pop, Mxu.live_accLhs, Mxu.live_pushed]
  split
  · rfl
  · exact H.live q' R'

theorem Calm.regs (H : Calm M g) (q r : Fin 2) (tr : Bool) {A R : Nat} {φ ψ : FTy} (tile : FVec F (Mxu.STile 256) φ)
    (lhs : FVec F (Mxu.STile R) ψ) (h h' : Mxu.Fits A R) (q' r' : Fin 2) :
    (((M.pushed q r tr tile).accLhs q r A lhs h).pop q A R h').reg q' r' = none := by
  rw [Mxu.reg_pop]
  by_cases e : q' = q ∧ r' = r
  · obtain ⟨rfl, rfl⟩ := e; exact Mxu.reg_accLhs ..
  · rw [Mxu.reg_accLhs_ne _ _ _ _ _ _ _ _ e, Mxu.reg_pushed_ne _ _ _ _ _ _ _ e]; exact H.reg q' r'

/-- Loading a tile into unit 0 by a product that is popped away. -/
theorem Calm.load (H : Calm M g) (r : Fin 2) (tr : Bool) {A R : Nat} {φ ψ : FTy} (tile : FVec F (Mxu.STile 256) φ)
    (lhs : FVec F (Mxu.STile R) ψ) (h h' : Mxu.Fits A R) :
    Calm (((M.pushed 0 r tr tile).accLhs 0 r A lhs h).pop 0 A R h') (some ⟨φ, tr, tile⟩) :=
  ⟨H.regs 0 r tr tile lhs h h', fun q => H.settle 0 r tr tile lhs h h' q, by
    rw [Mxu.gmr_pop, Mxu.gmr_accLhs, Mxu.staged_eq, Mxu.reg_pushed_of_none _ _ _ _ _ (H.reg 0 r)]; rfl⟩

/-- A product on unit 1 by a tile pushed for it, popped: unit 0 keeps its tile. -/
theorem Calm.side (H : Calm M g) (r : Fin 2) {A R : Nat} {φ ψ : FTy} (tile : FVec F (Mxu.STile 256) φ)
    (lhs : FVec F (Mxu.STile R) ψ) (h h' : Mxu.Fits A R) :
    Calm (((M.pushed 1 r false tile).accLhs 1 r A lhs h).pop 1 A R h') g :=
  ⟨H.regs 1 r false tile lhs h h', fun q => H.settle 1 r false tile lhs h h' q, by
    rw [Mxu.gmr_pop, Mxu.gmr_accLhs_ne _ _ _ _ _ _ _ (by decide), Mxu.gmr_pushed]; exact H.gmr⟩

/-- What that product reads. -/
theorem Calm.side_read (H : Calm M g) (r : Fin 2) {A R : Nat} {φ ψ : FTy} (tile : FVec F (Mxu.STile 256) φ)
    (lhs : FVec F (Mxu.STile R) ψ) (h : Mxu.Fits A R) :
    ((M.pushed 1 r false tile).accLhs 1 r A lhs h).read 1 A h = FloatOps.mxuPass (DotDims.plain R 256 256) lhs tile := by
  rw [Mxu.read_accLhs_of_not_live _ _ _ _ _ _ (fun r' => by rw [Mxu.live_pushed]; exact H.live _ _), Mxu.staged_eq,
    Mxu.reg_pushed_of_none _ _ _ _ _ (H.reg 1 r)]
  rfl

variable {t : Mxu.Staged F}

/-- A product by the loaded tile, popped. -/
theorem Calm.turn (H : Calm M (some t)) {A R : Nat} {ψ : FTy} (hs : (M.gmr 0).isSome = true) (lhs : FVec F (Mxu.STile R) ψ)
    (h h' : Mxu.Fits A R) : Calm ((M.accBy 0 ((M.gmr 0).get hs) A lhs h).pop 0 A R h') (some t) :=
  ⟨fun q r => by rw [Mxu.reg_pop, Mxu.reg_accBy]; exact H.reg q r, fun q R' => by
    rw [Mxu.live_pop, Mxu.live_accBy]
    split
    · rfl
    · exact H.live q R', by rw [Mxu.gmr_pop, Mxu.gmr_accBy]; exact H.gmr⟩

/-- What that product reads. -/
theorem Calm.turn_read (H : Calm M (some t)) {A R : Nat} {ψ : FTy} (hs : (M.gmr 0).isSome = true) (lhs : FVec F (Mxu.STile R) ψ)
    (h : Mxu.Fits A R) : (M.accBy 0 ((M.gmr 0).get hs) A lhs h).read 0 A h = t.pass lhs := by
  rw [Mxu.read_accBy_of_not_live _ _ _ _ _ _ (fun r' => H.live _ _)]
  congr 1
  have := H.gmr
  simp [this]

end Cert.Proof

end
-- ==== Proof.Steps.lean ====
/-
  One frame of the kernel's body, one emission product, and what the body's loads read, each as a step of an invariant.
-/
module

public import proofs.«01_k».proof.Proof.Gen.KernelIdeal.Skeleton
public import proofs.«01_k».proof.Proof.Unit
public import proofs.«01_k».proof.Proof.Math
public import Idealize.ShloMosaic.Lib.WritesUnit
public import Idealize.ShloMosaic.Lib.VecWindow

@[expose] public section

set_option maxRecDepth 16384

noncomputable section

namespace Cert.Proof

open Idealize.ShloMosaic Cert.KernelIdeal Cert.KernelIdeal.Gen

variable (D : Data) (g : ℝ)

/-- The weights `w` are row multiples of the masses at frame `t`, and `z` keeps each row's factor and the shift `g` taken
    out of every transition so far. -/
def FccAt (t : ℕ) (w : FVec Ideal S64x256 .bf16) (z : FVec Ideal S64x1 .f32) : Prop :=
  ∃ c : Fin 64 → ℝ, (∀ b, 0 < c b) ∧ (∀ b n, w (ix2 b n) = ((c b * D.mass t b n : ℝ) : EReal)) ∧
    ∀ b, z (ix2 b 0) = ((-Real.log (c b) - t * g : ℝ) : EReal)

/-- `X` has in slot `p` the emissions of the targets for 40 frames from frame `T`, of rows below `n`. -/
def EmAt (X : S2x40x64x128.Idx → EReal) (p T n : ℕ) : Prop :=
  ∀ s : Fin 2, s.val = p → ∀ (j : Fin 40) (b : Fin 64) (l : Fin 128), b.val < n →
    X (ix4 s j b l) = ((D.x b (T + j.val) (D.tg b l) : ℝ) : EReal)

/-- The state of the body after frame `t`: the units at rest, unit 0 with the transition tile `E`, the weights and path
    scores of frame `t`, the emissions of the current frames in slot `p`, and those of the next frames in slot `q` up to
    row `n`. -/
structure At (E : FVec Ideal S256x256 .bf16) (p T q τ t n : ℕ) (M : Mxu Ideal) (w : FVec Ideal S64x256 .bf16)
    (z : FVec Ideal S64x1 .f32) (a : FVec Ideal S64x128 .f32) (X : S2x40x64x128.Idx → EReal) : Prop where
  calm : Calm M (some ⟨.bf16, true, E⟩)
  tile : ∀ n k, E (ix2 n k) = ((Real.exp (D.tr n k - g) : ℝ) : EReal)
  fcc : FccAt D g t w z
  fac : ∀ b l, a (ix2 b l) = D.beta t b l
  cur : EmAt D X p T 64
  nxt : EmAt D X q τ n

variable {D g}

/-! ## The weights -/

theorem tile_pass {E : FVec Ideal S256x256 .bf16} (hE : ∀ n k, E (ix2 n k) = ((Real.exp (D.tr n k - g) : ℝ) : EReal))
    {w : FVec Ideal S64x256 .bf16} {c : Fin 64 → ℝ} {t : ℕ} (hw : ∀ b n, w (ix2 b n) = ((c b * D.mass t b n : ℝ) : EReal)) (b : Fin 64) (n : Fin 256) :
    (Mxu.Staged.pass (F := Ideal) ⟨.bf16, true, E⟩ w) (ix2 b n)
      = ((c b * Real.exp (-g) * ∑ k, D.mass t b k * Real.exp (D.tr n k) : ℝ) : EReal) := by
  rw [pass_turned, Finset.mul_sum, coe_sum]
  refine Finset.sum_congr rfl fun k _ => ?_
  rw [hw, hE, ← EReal.coe_mul]
  congr 1
  rw [sub_eq_add_neg, Real.exp_add]; ring

theorem FccAt.plain {E : FVec Ideal S256x256 .bf16} (hE : ∀ n k, E (ix2 n k) = ((Real.exp (D.tr n k - g) : ℝ) : EReal)) {t t' : ℕ}
    (ht : t' = t + 1) {w xs : FVec Ideal S64x256 .bf16} {z : FVec Ideal S64x1 .f32} (H : FccAt D g t w z)
    (hx : ∀ b n, xs (ix2 b n) = ((D.x b t' n : ℝ) : EReal)) (h : FTy.bf16.bits < FTy.f32.bits) (h' : FTy.bf16.bits < FTy.f32.bits) :
    FccAt D g t' (truncf (F := Ideal) .bf16 (mulf (exp (extf .f32 xs h)) (Mxu.Staged.pass (F := Ideal) ⟨.bf16, true, E⟩ w)) h') z := by
  subst ht
  obtain ⟨c, hc, hw, hz⟩ := H
  refine ⟨fun b => c b * Real.exp (-g), fun b => mul_pos (hc b) (Real.exp_pos _), fun b n => ?_, fun b => ?_⟩
  · pointwise
    rw [hx, exp_coe, tile_pass hE hw, ← EReal.coe_mul]
    congr 1
    simp only [Data.mass]; ring
  · rw [hz]
    congr 1
    rw [Real.log_mul (hc b).ne' (Real.exp_pos _).ne', Real.log_exp]; push_cast; ring

theorem rowsum {w : FVec Ideal S64x256 .bf16} {c : Fin 64 → ℝ} {t : ℕ} (hw : ∀ b n, w (ix2 b n) = ((c b * D.mass t b n : ℝ) : EReal)) (b : Fin 64)
    (h : FTy.bf16.bits < FTy.f32.bits) (h' : S64.ShapeCasts S64x1) (h1 : S64x256.Reduces [1] S64) (h2 h3) :
    (shapeCast S64x1 (multiReduction (F := Ideal) .add [1] S64 (extf .f32 w h) 0x00000000#32 h1 h2 h3) h' : FVec Ideal S64x1 .f32) (ix2 b 0)
      = ((c b * ∑ n, D.mass t b n : ℝ) : EReal) := by
  pointwise
  rw [Finset.mul_sum, coe_sum]
  exact Finset.sum_congr rfl fun n _ => hw b n

theorem FccAt.renorm {E : FVec Ideal S256x256 .bf16} (hE : ∀ n k, E (ix2 n k) = ((Real.exp (D.tr n k - g) : ℝ) : EReal)) {t t' : ℕ}
    (ht : t' = t + 1) {w xs : FVec Ideal S64x256 .bf16} {z rs one : FVec Ideal S64x1 .f32} (H : FccAt D g t w z)
    (hx : ∀ b n, xs (ix2 b n) = ((D.x b t' n : ℝ) : EReal)) (h : FTy.bf16.bits < FTy.f32.bits) (h' : FTy.bf16.bits < FTy.f32.bits)
    (hone : ∀ b, one (ix2 b 0) = 1) (hs : FTy.bf16.bits < FTy.f32.bits) (hc' : S64.ShapeCasts S64x1) (h1 : S64x256.Reduces [1] S64) (h2 h3)
    (hrs : rs = shapeCast S64x1 (multiReduction (F := Ideal) .add [1] S64 (extf .f32 w hs) 0x00000000#32 h1 h2 h3) hc') (hb : S64x1.Broadcasts S64x256) :
    FccAt D g t' (truncf (F := Ideal) .bf16 (mulf (mulf (exp (extf .f32 xs h)) (broadcastTo S64x256 (divf one rs) hb))
      (Mxu.Staged.pass (F := Ideal) ⟨.bf16, true, E⟩ w)) h') (addf z (log rs)) := by
  subst ht
  obtain ⟨c, hc, hw, hz⟩ := H
  have hr : ∀ b, rs (ix2 b 0) = ((c b * ∑ n, D.mass t b n : ℝ) : EReal) := fun b => by rw [hrs]; exact rowsum hw b _ _ _ _ _
  have hp : ∀ b, 0 < c b * ∑ n, D.mass t b n := fun b => mul_pos (hc b) (D.total_pos t b)
  refine ⟨fun b => c b * Real.exp (-g) * (c b * ∑ n, D.mass t b n)⁻¹,
    fun b => mul_pos (mul_pos (hc b) (Real.exp_pos _)) (inv_pos.2 (hp b)), fun b n => ?_, fun b => ?_⟩
  · pointwise
    rw [hx, exp_coe, tile_pass hE hw, hone, hr, one_div_coe (hp b), ← EReal.coe_mul, ← EReal.coe_mul]
    congr 1
    simp only [Data.mass]; ring
  · pointwise
    rw [hz, hr, log_coe (hp b), ← EReal.coe_add]
    congr 1
    rw [Real.log_mul (mul_pos (hc b) (Real.exp_pos _)).ne' (inv_pos.2 (hp b)).ne', Real.log_mul (hc b).ne' (Real.exp_pos _).ne', Real.log_exp,
      Real.log_inv]
    push_cast; ring

/-! ## The path scores -/

theorem fac_step {t t' : ℕ} (ht : t' = t + 1) {a ts tm e zero : FVec Ideal S64x128 .f32} {c : FVec Ideal S64x1 .f32}
    (H : ∀ b l, a (ix2 b l) = D.beta t b l) (he : ∀ b l, e (ix2 b l) = ((D.x b t' (D.tg b l) : ℝ) : EReal))
    (hts : ∀ b l, ts (ix2 b l) = ((D.tr (D.tg b l) (D.tg b l) : ℝ) : EReal))
    (htm : ∀ b (l : Fin 128), tm (ix2 b l) = if h : l.val < 1 then ⊥ else ((D.tr (D.tg b l) (D.tg b ⟨l.val - 1, by omega⟩) : ℝ) : EReal))
    (hzero : ∀ b l, zero (ix2 b l) = 0) (hc : ∀ b, c (ix2 b 0) = ⊥) (h : S64x128.Slices ![0, 0] S64x127) (h') (b : Fin 64) (l : Fin 128) :
    addf (addf (maximumf (addf a ts) (addf (concatenate S64x128 1 [⟨S64x1, c⟩, ⟨S64x127, extractStridedSlice S64x127 ![0, 0] a h⟩] h') tm))
      (log1p (exp (subf zero (absf (subf (addf a ts)
        (addf (concatenate S64x128 1 [⟨S64x1, c⟩, ⟨S64x127, extractStridedSlice S64x127 ![0, 0] a h⟩] h') tm))))))) e (ix2 b l)
      = D.beta t' b l := by
  subst ht
  pointwise
  rw [he, hzero, hts, htm, H, zero_sub, Ideal.absf_def]
  simp only [Data.beta, lae]
  by_cases h0 : l.val < 1
  · have hcol : ∀ k : Fin 1, c (ix2 b k) = ⊥ := fun k => by rw [Subsingleton.elim k 0]; exact hc b
    simp only [h0, dite_true, hcol, EReal.bot_add]
  · simp only [h0, dite_false, H]

/-! ## One frame -/

variable {E : FVec Ideal S256x256 .bf16} {p T q τ t n : ℕ} {M : Mxu Ideal} {w : FVec Ideal S64x256 .bf16}
    {z : FVec Ideal S64x1 .f32} {a : FVec Ideal S64x128 .f32} {X : S2x40x64x128.Idx → EReal}

/-- A frame without a rescaling. -/
theorem At.plain (A : At D g E p T q τ t n M w z a X) {t' s s' : ℕ} (ht : t' = t + 1) (hs : s = t') (hs' : s' = t') {xs : FVec Ideal S64x256 .bf16}
    (hx : ∀ b n, xs (ix2 b n) = ((D.x b s n : ℝ) : EReal)) {h : FTy.bf16.bits < FTy.f32.bits} {h' : FTy.bf16.bits < FTy.f32.bits}
    {hg : (M.gmr 0).isSome = true} {hf hf' hf'' : Mxu.Fits 0 64}
    {ts tm e zero : FVec Ideal S64x128 .f32} {c : FVec Ideal S64x1 .f32} (he : ∀ b l, e (ix2 b l) = ((D.x b s' (D.tg b l) : ℝ) : EReal))
    (hts : ∀ b l, ts (ix2 b l) = ((D.tr (D.tg b l) (D.tg b l) : ℝ) : EReal))
    (htm : ∀ b (l : Fin 128), tm (ix2 b l) = if h : l.val < 1 then ⊥ else ((D.tr (D.tg b l) (D.tg b ⟨l.val - 1, by omega⟩) : ℝ) : EReal))
    (hzero : ∀ b l, zero (ix2 b l) = 0) (hc : ∀ b, c (ix2 b 0) = ⊥) {hsl : S64x128.Slices ![0, 0] S64x127} {hcc} :
    At D g E p T q τ t' n ((M.accBy 0 ((M.gmr 0).get hg) 0 w hf).pop 0 0 64 hf')
      (truncf (F := Ideal) .bf16 (mulf (exp (extf .f32 xs h)) ((M.accBy 0 ((M.gmr 0).get hg) 0 w hf).read 0 0 hf'')) h') z
      (addf (addf (maximumf (addf a ts) (addf (concatenate S64x128 1 [⟨S64x1, c⟩, ⟨S64x127, extractStridedSlice S64x127 ![0, 0] a hsl⟩] hcc) tm))
        (log1p (exp (subf zero (absf (subf (addf a ts)
          (addf (concatenate S64x128 1 [⟨S64x1, c⟩, ⟨S64x127, extractStridedSlice S64x127 ![0, 0] a hsl⟩] hcc) tm))))))) e) X := by
  subst hs; subst hs'
  refine ⟨A.calm.turn hg w hf hf', A.tile, ?_, fac_step ht A.fac he hts htm hzero hc hsl hcc, A.cur, A.nxt⟩
  rw [show (M.accBy 0 ((M.gmr 0).get hg) 0 w hf).read 0 0 hf'' = _ from A.calm.turn_read hg w hf]
  exact A.fcc.plain A.tile ht hx h h'

/-- A frame that divides by the row sums and remembers their logarithm. -/
theorem At.renorm (A : At D g E p T q τ t n M w z a X) {t' s s' : ℕ} (ht : t' = t + 1) (hs : s = t') (hs' : s' = t') {xs : FVec Ideal S64x256 .bf16}
    (hx : ∀ b n, xs (ix2 b n) = ((D.x b s n : ℝ) : EReal)) {h : FTy.bf16.bits < FTy.f32.bits} {h' h'' : FTy.bf16.bits < FTy.f32.bits}
    {hg : (M.gmr 0).isSome = true} {hf hf' hf'' : Mxu.Fits 0 64} {one : FVec Ideal S64x1 .f32} (hone : ∀ b, one (ix2 b 0) = 1)
    {hc' : S64.ShapeCasts S64x1} {h1 : S64x256.Reduces [1] S64} {h2 h3} {hb : S64x1.Broadcasts S64x256}
    {ts tm e zero : FVec Ideal S64x128 .f32} {c : FVec Ideal S64x1 .f32} (he : ∀ b l, e (ix2 b l) = ((D.x b s' (D.tg b l) : ℝ) : EReal))
    (hts : ∀ b l, ts (ix2 b l) = ((D.tr (D.tg b l) (D.tg b l) : ℝ) : EReal))
    (htm : ∀ b (l : Fin 128), tm (ix2 b l) = if h : l.val < 1 then ⊥ else ((D.tr (D.tg b l) (D.tg b ⟨l.val - 1, by omega⟩) : ℝ) : EReal))
    (hzero : ∀ b l, zero (ix2 b l) = 0) (hc : ∀ b, c (ix2 b 0) = ⊥) {hsl : S64x128.Slices ![0, 0] S64x127} {hcc} :
    At D g E p T q τ t' n ((M.accBy 0 ((M.gmr 0).get hg) 0 w hf).pop 0 0 64 hf')
      (truncf (F := Ideal) .bf16 (mulf (mulf (exp (extf .f32 xs h)) (broadcastTo S64x256 (divf one
        (shapeCast S64x1 (multiReduction (F := Ideal) .add [1] S64 (extf .f32 w h'') 0x00000000#32 h1 h2 h3) hc')) hb))
        ((M.accBy 0 ((M.gmr 0).get hg) 0 w hf).read 0 0 hf'')) h')
      (addf z (log (shapeCast S64x1 (multiReduction (F := Ideal) .add [1] S64 (extf .f32 w h'') 0x00000000#32 h1 h2 h3) hc')))
      (addf (addf (maximumf (addf a ts) (addf (concatenate S64x128 1 [⟨S64x1, c⟩, ⟨S64x127, extractStridedSlice S64x127 ![0, 0] a hsl⟩] hcc) tm))
        (log1p (exp (subf zero (absf (subf (addf a ts)
          (addf (concatenate S64x128 1 [⟨S64x1, c⟩, ⟨S64x127, extractStridedSlice S64x127 ![0, 0] a hsl⟩] hcc) tm))))))) e) X := by
  subst hs; subst hs'
  refine ⟨A.calm.turn hg w hf hf', A.tile, ?_, fac_step ht A.fac he hts htm hzero hc hsl hcc, A.cur, A.nxt⟩
  rw [show (M.accBy 0 ((M.gmr 0).get hg) 0 w hf).read 0 0 hf'' = _ from A.calm.turn_read hg w hf]
  exact A.fcc.renorm A.tile ht hx h h' hone h'' hc' h1 h2 h3 rfl hb

/-! ## One emission product -/

/-- What the product of one row's frames by its targets' indicator tile stores. -/
theorem emit_val {G : Option (Mxu.Staged Ideal)} (hM : Calm M G) {r : Fin 2} {A : ℕ} {b : Fin 64}
    {tile : FVec Ideal S256x256 .bf16} {lhs : FVec Ideal S48x256 .bf16} {hf hf' : Mxu.Fits A 48}
    (htile : ∀ (k : Fin 256) (l : Fin 128), tile (ix2 k ⟨l.val, by omega⟩) = if k = D.tg b l then 1 else 0)
    (hlhs : ∀ (j : Fin 40) (k : Fin 256), lhs (ix2 ⟨j.val, by omega⟩ k) = ((D.x b (τ + j.val) k : ℝ) : EReal))
    (h : S48x256.Slices ![0, 0] S40x128) (h' : S40x128.ShapeCasts S1x40x1x128) (j : Fin 40) (l : Fin 128) :
    (shapeCast S1x40x1x128 (extractStridedSlice S40x128 ![0, 0] (((M.pushed 1 r false tile).accLhs 1 r A lhs hf).read 1 A hf') h) h'
      : FVec Ideal S1x40x1x128 .f32) (ix4 0 j 0 l) = ((D.x b (τ + j.val) (D.tg b l) : ℝ) : EReal) := by
  rw [show ((M.pushed 1 r false tile).accLhs 1 r A lhs hf).read 1 A hf' = _ from hM.side_read r tile lhs hf]
  pointwise
  rw [pass_plain]
  simp only [htile, hlhs]
  exact sum_pick (fun k => ((D.x b (τ + j.val) k : ℝ) : EReal)) (D.tg b l)

section
variable {sig : RefSig} {κ : Kind} {sp : Space} {v : View sig κ sp S2x40x64x128 .f32} {f : v.ty.Contents (Elt Ideal)}

theorem EmAt.put {L : List (View.Piece (Elt Ideal) S2x40x64x128 .f32)} {q τ n : ℕ} (H : EmAt D (v.read (Elt Ideal) (v.writes (Elt Ideal) f L)) q τ n) {off : Fin 4 → ℕ} (hoff : off = ![q, 0, n, 0]) (hn : n < 64)
    (inb) (val : FVec Ideal S1x40x1x128 .f32)
    (hval : ∀ j l, val (ix4 0 j 0 l) = ((D.x ⟨n, hn⟩ (τ + j.val) (D.tg ⟨n, hn⟩ l) : ℝ) : EReal)) :
    EmAt D (v.read (Elt Ideal) (v.writes (Elt Ideal) f (⟨Rect.unit off S1x40x1x128.size inb, val⟩ :: L))) q τ (n + 1) := by
  intro s hs j b l hb
  by_cases e : b.val = n
  · rw [View.read_writes_cons_unit_of_mem v f inb val L _ (ix4 0 j 0 l) hoff (by
      intro a
      match a with
      | ⟨0, _⟩ => exact hs
      | ⟨1, _⟩ => exact (Nat.zero_add _).symm
      | ⟨2, _⟩ => exact e
      | ⟨3, _⟩ => exact (Nat.zero_add _).symm), hval]
    have : b = ⟨n, hn⟩ := Fin.ext e
    rw [this]
  · rw [View.read_writes_cons_unit_of_not_mem v f inb val L _ hoff (2 : Fin 4) (Or.inl (show b.val < n by omega))]
    exact H s hs j b l (by omega)

theorem EmAt.keep {L : List (View.Piece (Elt Ideal) S2x40x64x128 .f32)} {p T m q n : ℕ} (H : EmAt D (v.read (Elt Ideal) (v.writes (Elt Ideal) f L)) p T m) {off : Fin 4 → ℕ} (hoff : off = ![q, 0, n, 0]) (hpq : p ≠ q)
    (inb) (val : FVec Ideal S1x40x1x128 .f32) :
    EmAt D (v.read (Elt Ideal) (v.writes (Elt Ideal) f (⟨Rect.unit off S1x40x1x128.size inb, val⟩ :: L))) p T m := by
  intro s hs j b l hb
  rw [View.read_writes_cons_unit_of_not_mem v f inb val L _ hoff (0 : Fin 4) (by
    rcases Nat.lt_or_gt_of_ne hpq with h | h
    · exact Or.inl (show s.val < q by omega)
    · exact Or.inr (show q + 1 ≤ s.val by omega))]
  exact H s hs j b l hb

/-- An emission product between the frames, stored in slot `q`. -/
theorem At.emit {L : List (View.Piece (Elt Ideal) S2x40x64x128 .f32)} (A : At D g E p T q τ t n M w z a (v.read (Elt Ideal) (v.writes (Elt Ideal) f L))) {r : Fin 2} {Ad : ℕ}
    {tile : FVec Ideal S256x256 .bf16} {lhs : FVec Ideal S48x256 .bf16} {hf hf' hf'' : Mxu.Fits Ad 48} (hn : n < 64)
    {off : Fin 4 → ℕ} (hoff : off = ![q, 0, n, 0]) (hpq : p ≠ q) {inb}
    (htile : ∀ (k : Fin 256) (l : Fin 128), tile (ix2 k ⟨l.val, by omega⟩) = if k = D.tg ⟨n, hn⟩ l then 1 else 0)
    (hlhs : ∀ (j : Fin 40) (k : Fin 256), lhs (ix2 ⟨j.val, by omega⟩ k) = ((D.x ⟨n, hn⟩ (τ + j.val) k : ℝ) : EReal))
    {h : S48x256.Slices ![0, 0] S40x128} {h' : S40x128.ShapeCasts S1x40x1x128} :
    At D g E p T q τ t (n + 1) (((M.pushed 1 r false tile).accLhs 1 r Ad lhs hf).pop 1 Ad 48 hf'') w z a
      (v.read (Elt Ideal) (v.writes (Elt Ideal) f (⟨Rect.unit off S1x40x1x128.size inb,
        shapeCast S1x40x1x128 (extractStridedSlice S40x128 ![0, 0] (((M.pushed 1 r false tile).accLhs 1 r Ad lhs hf).read 1 Ad hf') h) h'⟩ :: L))) :=
  ⟨A.calm.side r tile lhs hf hf'', A.tile, A.fcc, A.fac, A.cur.keep hoff hpq _ _,
    A.nxt.put hoff hn _ _ (emit_val A.calm htile hlhs h h')⟩

/-- The frame's emissions, loaded. -/
theorem eread {p T j : ℕ} (H : EmAt D (v.read (Elt Ideal) f) p T 64) {off : Fin 4 → ℕ} (hoff : off = ![p, j, 0, 0]) {inb}
    {h : S1x1x64x128.ShapeCasts S64x128} (hp : p < 2) (hj : j < 40)
    {V : FVec Ideal S1x1x64x128 .f32} (hV : V = v.readAt (Elt Ideal) (Rect.unit (s := S2x40x64x128) off S1x1x64x128.size inb).toLoadRect f)
    (b : Fin 64) (l : Fin 128) : (shapeCast S64x128 V h : FVec Ideal S64x128 .f32) (ix2 b l)
      = ((D.x b (T + j) (D.tg b l) : ℝ) : EReal) := by
  subst hoff
  pointwise
  rw [← H ⟨p, hp⟩ rfl ⟨j, hj⟩ b l b.2, hV, View.readAt_apply]
  refine congrArg (v.read (Elt Ideal) f) (funext fun c => Fin.ext ?_)
  match c with
  | ⟨0, _⟩ => rfl
  | ⟨1, _⟩ => rfl
  | ⟨2, _⟩ => exact (Nat.zero_add _).trans (Nat.one_mul _)
  | ⟨3, _⟩ => exact (Nat.zero_add _).trans (Nat.one_mul _)

end

section
variable {sig : RefSig} {κ : Kind} {sp : Space}

/-- The frame's scores, loaded with their group of eight. -/
theorem xread {v : View sig κ sp S40x64x256 .bf16} {f : v.ty.Contents (Elt Ideal)} {T G j : ℕ}
    (H : ∀ (j : Fin 40) b n, v.read (Elt Ideal) f (ix3 j b n) = ((D.x b (T + j.val) n : ℝ) : EReal)) {inb}
    {h : S8x64x256.Slices ![j, 0, 0] S1x64x256} {h' : S1x64x256.ShapeCasts S64x256} {hs : S8x64x256.ShapeCasts S8x64x256} (hj : j < 8) (hG : G + j < 40)
    {V : FVec Ideal S8x64x256 .bf16} (hV : V = v.readAt (Elt Ideal) (Rect.unit (s := S40x64x256) ![G, 0, 0] S8x64x256.size inb).toLoadRect f) (b : Fin 64) (n : Fin 256) :
    (shapeCast S64x256 (extractStridedSlice S1x64x256 ![j, 0, 0] (shapeCast S8x64x256 V hs) h) h' : FVec Ideal S64x256 .bf16) (ix2 b n)
      = ((D.x b (T + (G + j)) n : ℝ) : EReal) := by
  pointwise
  rw [← H ⟨G + j, hG⟩ b n, hV, View.readAt_apply]
  refine congrArg (v.read (Elt Ideal) f) (funext fun c => Fin.ext ?_)
  match c with
  | ⟨0, _⟩ => exact congrArg (G + ·) (Nat.one_mul _)
  | ⟨1, _⟩ => exact (Nat.zero_add _).trans (Nat.one_mul _)
  | ⟨2, _⟩ => exact (Nat.zero_add _).trans (Nat.one_mul _)

/-- A row's frames as the product reads them, with eight rows of zeros after them. -/
theorem lread {v : View sig κ sp S64x40x256 .f32} {f : v.ty.Contents (Elt Ideal)} {n : ℕ}
    (H : ∀ b (j : Fin 40) k, v.read (Elt Ideal) f (ix3 b j k) = ((D.x b (τ + j.val) k : ℝ) : EReal)) {inb}
    {h : S1x40x256.ShapeCasts S40x256} {hb : FTy.bf16.bits < FTy.f32.bits} {z8 : FVec Ideal S8x256 .bf16} (hn : n < 64)
    {V : FVec Ideal S1x40x256 .f32} (hV : V = v.readAt (Elt Ideal) (Rect.unit (s := S64x40x256) ![n, 0, 0] S1x40x256.size inb).toLoadRect f) {hcc} (j : Fin 40) (k : Fin 256) :
    (concatenate S48x256 0 [⟨S40x256, truncf (F := Ideal) .bf16 (shapeCast S40x256 V h : FVec Ideal S40x256 .f32) hb⟩, ⟨S8x256, z8⟩] hcc
      : FVec Ideal S48x256 .bf16) (ix2 ⟨j.val, by omega⟩ k) = ((D.x ⟨n, hn⟩ (τ + j.val) k : ℝ) : EReal) := by
  pointwise
  rw [← H ⟨n, hn⟩ j k, hV, View.readAt_apply]
  refine congrArg (v.read (Elt Ideal) f) (funext fun c => Fin.ext ?_)
  match c with
  | ⟨0, _⟩ => rfl
  | ⟨1, _⟩ => exact (Nat.zero_add _).trans (Nat.one_mul _)
  | ⟨2, _⟩ => exact (Nat.zero_add _).trans (Nat.one_mul _)

/-- A row's indicator tile, loaded. -/
theorem oread {v : View sig κ sp S64x256x256 .bf16} {f : v.ty.Contents (Elt Ideal)} {n : ℕ}
    (H : ∀ b (k : Fin 256) (l : Fin 128), v.read (Elt Ideal) f (ix3 b k ⟨l.val, by omega⟩) = if k = D.tg b l then 1 else 0) {inb}
    {h : S1x256x256.ShapeCasts S256x256} (hn : n < 64)
    {V : FVec Ideal S1x256x256 .bf16} (hV : V = v.readAt (Elt Ideal) (Rect.unit (s := S64x256x256) ![n, 0, 0] S1x256x256.size inb).toLoadRect f) (k : Fin 256) (l : Fin 128) :
    (shapeCast S256x256 V h : FVec Ideal S256x256 .bf16) (ix2 k ⟨l.val, by omega⟩)
      = if k = D.tg ⟨n, hn⟩ l then 1 else 0 := by
  pointwise
  rw [← H ⟨n, hn⟩ k l, hV, View.readAt_apply]
  refine congrArg (v.read (Elt Ideal) f) (funext fun c => Fin.ext ?_)
  match c with
  | ⟨0, _⟩ => rfl
  | ⟨1, _⟩ => exact (Nat.zero_add _).trans (Nat.one_mul _)
  | ⟨2, _⟩ => exact (Nat.zero_add _).trans (Nat.one_mul _)

end

end Cert.Proof

end
-- ==== Proof.First.lean ====
/-
  What the first point does before its frames: the targets' indicator tiles, the transition scores of the targets, the
  emissions of the first frames and the first frame's weights and scores, each as a step of an invariant.
-/
module

public import proofs.«01_k».proof.Proof.Steps

@[expose] public section

set_option maxRecDepth 16384

noncomputable section

namespace Cert.Proof

open Idealize.ShloMosaic Cert.KernelIdeal Cert.KernelIdeal.Gen

variable {D : Data} {g : ℝ}

/-! ## One target's indicator -/

theorem label_eq (n k : Fin 256) : (BitVec.ofNat 32 n.val = BitVec.ofNat 32 k.val) ↔ n = k := by
  constructor
  · intro h
    have := congrArg BitVec.toNat h
    simp only [BitVec.toNat_ofNat] at this
    exact Fin.ext (by omega)
  · rintro rfl; rfl

theorem label_bit (a b : BitVec 32) : (FloatOps.sitofp (F := Ideal) FTy.f32 (BitVec.setWidth 32 (IntOp.cmpi CmpIPredicate.eq a b)) : EReal)
    = if a = b then 1 else 0 := by
  by_cases e : a = b
  · subst e
    rw [if_pos rfl, show IntOp.cmpi CmpIPredicate.eq a a = 1#1 by simp [IntOp.cmpi]]
    exact (congrArg (fun r : ℝ => (r : EReal)) (by norm_num [BitVec.toInt] : (((1#32).toInt : ℤ) : ℝ) = 1))
  · rw [if_neg e, show IntOp.cmpi CmpIPredicate.eq a b = 0#1 by simp [IntOp.cmpi, beq_eq_false_iff_ne.2 e]]
    exact (congrArg (fun r : ℝ => (r : EReal)) (by norm_num [BitVec.toInt] : (((0#32).toInt : ℤ) : ℝ) = 0))

/-- A choice on whether the position is the first. -/
theorem select_first {l : ℕ} (hl : l < 128) (a b : EReal) :
    Scalar.select (IntOp.cmpi CmpIPredicate.eq (BitVec.ofNat 32 l) 0#32) a b = if l = 0 then a else b := by
  by_cases e : l = 0
  · subst e; rfl
  · have : ¬ (BitVec.ofNat 32 l = 0#32) := fun h => by
      have := congrArg BitVec.toNat h
      simp only [BitVec.toNat_ofNat] at this
      omega
    rw [if_neg e, show IntOp.cmpi CmpIPredicate.eq (BitVec.ofNat 32 l) 0#32 = 0#1 by simp [IntOp.cmpi, beq_eq_false_iff_ne.2 this]]
    rfl

/-- The indicator of a row's targets, as the body computes it from the row `V` of label numbers. -/
theorem ohf_val {V : IVec S1x128 32} {tg : Fin 128 → Fin 256} (hV : ∀ l, V (ix2 0 l) = BitVec.ofNat 32 (tg l).val)
    {h : S256x128.Iotas .tc 32 [0]} {hb : S1x128.Broadcasts S256x128} {he : 1 < 32} (k : Fin 256) (l : Fin 128) :
    (sitofp (F := Ideal) .f32 (extui 32 (cmpi .eq (iota .tc S256x128 32 [0] h) (broadcastTo S256x128 V hb)) he) : FVec Ideal S256x128 .f32) (ix2 k l)
      = if k = tg l then 1 else 0 := by
  pointwise
  rw [hV, label_bit]
  split
  · rename_i e; rw [if_pos ((label_eq _ _).1 e)]
  · rename_i e; rw [if_neg (fun h => e ((label_eq _ _).2 h))]

variable {sig : RefSig} {κ : Kind} {sp : Space}

/-- A row of label numbers, loaded. -/
theorem tgread {v : View sig κ sp S64x128 .i32} {f : v.ty.Contents (Elt Ideal)} {n : ℕ}
    (H : ∀ b l, v.read (Elt Ideal) f (ix2 b l) = BitVec.ofNat 32 (D.tg b l).val) {inb} (hn : n < 64)
    {V : IVec S1x128 32} (hV : V = v.readAt (Elt Ideal) (Rect.unit (s := S64x128) ![n, 0] S1x128.size inb).toLoadRect f) (l : Fin 128) :
    V (ix2 0 l) = BitVec.ofNat 32 (D.tg ⟨n, hn⟩ l).val := by
  rw [← H ⟨n, hn⟩ l, hV, View.readAt_apply]
  refine congrArg (v.read (Elt Ideal) f) (funext fun c => Fin.ext ?_)
  match c with
  | ⟨0, _⟩ => rfl
  | ⟨1, _⟩ => exact (Nat.zero_add _).trans (Nat.one_mul _)

/-- What the indicator's row stores. -/
theorem oh_val {o : FVec Ideal S256x128 .f32} {tg : Fin 128 → Fin 256} (ho : ∀ (k : Fin 256) l, o (ix2 k l) = if k = tg l then 1 else 0)
    {z : FVec Ideal S256x128 .bf16} {hb : FTy.bf16.bits < FTy.f32.bits} {hc} {h : S256x256.ShapeCasts S1x256x256} (k : Fin 256) (l : Fin 128) :
    (shapeCast S1x256x256 (concatenate S256x256 1 [⟨S256x128, truncf (F := Ideal) .bf16 o hb⟩, ⟨S256x128, z⟩] hc : FVec Ideal S256x256 .bf16) h
      : FVec Ideal S1x256x256 .bf16) (ix3 0 k ⟨l.val, by omega⟩) = if k = tg l then 1 else 0 := by
  pointwise
  exact ho k l

/-! ## Two rows' transition scores from one product -/

/-- The product of the transitions by the indicators of two rows: the first row's scores, -/
theorem half0 {M : Mxu Ideal} {G : Option (Mxu.Staged Ideal)} (hM : Calm M G) {r : Fin 2} {A : ℕ} {o0 o1 : FVec Ideal S256x128 .f32} {tg : Fin 128 → Fin 256}
    (h0 : ∀ (k : Fin 256) l, o0 (ix2 k l) = if k = tg l then 1 else 0) {hb hb' : FTy.bf16.bits < FTy.f32.bits} {hc}
    {lhs : FVec Ideal S256x256 .bf16} (hl : ∀ n k, lhs (ix2 n k) = ((D.tr n k : ℝ) : EReal)) {hf hf' : Mxu.Fits A 256}
    {hs : S256x256.Slices ![0, 0] S256x128} (n : Fin 256) (l : Fin 128) :
    (extractStridedSlice S256x128 ![0, 0] (((M.pushed 1 r false (concatenate S256x256 1 [⟨S256x128, truncf (F := Ideal) .bf16 o0 hb⟩,
      ⟨S256x128, truncf (F := Ideal) .bf16 o1 hb'⟩] hc : FVec Ideal S256x256 .bf16)).accLhs 1 r A lhs hf).read 1 A hf') hs : FVec Ideal S256x128 .f32) (ix2 n l)
      = ((D.tr n (tg l) : ℝ) : EReal) := by
  rw [show ((M.pushed 1 r false (concatenate S256x256 1 [⟨S256x128, truncf (F := Ideal) .bf16 o0 hb⟩,
      ⟨S256x128, truncf (F := Ideal) .bf16 o1 hb'⟩] hc : FVec Ideal S256x256 .bf16)).accLhs 1 r A lhs hf).read 1 A hf' = _ from hM.side_read r _ lhs hf]
  pointwise
  rw [pass_plain]
  refine Eq.trans (Finset.sum_congr rfl fun k _ => ?_) (sum_pick (fun k => ((D.tr n k : ℝ) : EReal)) (tg l))
  rw [hl, ← h0]
  congr 1
  pointwise

/-- and the second's. -/
theorem half1 {M : Mxu Ideal} {G : Option (Mxu.Staged Ideal)} (hM : Calm M G) {r : Fin 2} {A : ℕ} {o0 o1 : FVec Ideal S256x128 .f32} {tg : Fin 128 → Fin 256}
    (h1 : ∀ (k : Fin 256) l, o1 (ix2 k l) = if k = tg l then 1 else 0) {hb hb' : FTy.bf16.bits < FTy.f32.bits} {hc}
    {lhs : FVec Ideal S256x256 .bf16} (hl : ∀ n k, lhs (ix2 n k) = ((D.tr n k : ℝ) : EReal)) {hf hf' : Mxu.Fits A 256}
    {hs : S256x256.Slices ![0, 128] S256x128} (n : Fin 256) (l : Fin 128) :
    (extractStridedSlice S256x128 ![0, 128] (((M.pushed 1 r false (concatenate S256x256 1 [⟨S256x128, truncf (F := Ideal) .bf16 o0 hb⟩,
      ⟨S256x128, truncf (F := Ideal) .bf16 o1 hb'⟩] hc : FVec Ideal S256x256 .bf16)).accLhs 1 r A lhs hf).read 1 A hf') hs : FVec Ideal S256x128 .f32) (ix2 n l)
      = ((D.tr n (tg l) : ℝ) : EReal) := by
  rw [show ((M.pushed 1 r false (concatenate S256x256 1 [⟨S256x128, truncf (F := Ideal) .bf16 o0 hb⟩,
      ⟨S256x128, truncf (F := Ideal) .bf16 o1 hb'⟩] hc : FVec Ideal S256x256 .bf16)).accLhs 1 r A lhs hf).read 1 A hf' = _ from hM.side_read r _ lhs hf]
  pointwise
  rw [pass_plain]
  refine Eq.trans (Finset.sum_congr rfl fun k _ => ?_) (sum_pick (fun k => ((D.tr n k : ℝ) : EReal)) (tg l))
  rw [hl, ← h1]
  congr 1
  pointwise

/-- The score of staying at a target's position, -/
def Data.self (D : Data) (b : Fin 64) (l : Fin 128) : EReal := ((D.tr (D.tg b l) (D.tg b l) : ℝ) : EReal)

/-- and of moving to it from the position before. -/
def Data.move (D : Data) (b : Fin 64) (l : Fin 128) : EReal :=
  if h : l.val < 1 then ⊥ else ((D.tr (D.tg b l) (D.tg b ⟨l.val - 1, by omega⟩) : ℝ) : EReal)

theorem self_val {o a : FVec Ideal S256x128 .f32} {b : Fin 64} (ho : ∀ (k : Fin 256) l, o (ix2 k l) = if k = D.tg b l then 1 else 0)
    (ha : ∀ n l, a (ix2 n l) = ((D.tr n (D.tg b l) : ℝ) : EReal)) {h1 : S256x128.Reduces [0] S128} {h2 h3} {h : S128.ShapeCasts S1x128}
    {h' : S1x128.ShapeCasts S1x128} (l : Fin 128) :
    (shapeCast S1x128 (shapeCast S1x128 (multiReduction (F := Ideal) .add [0] S128 (mulf o a) 0x00000000#32 h1 h2 h3) h) h' : FVec Ideal S1x128 .f32) (ix2 0 l)
      = D.self b l := by
  pointwise
  simp only [ho, ha]
  exact sum_pick' (fun k => ((D.tr k (D.tg b l) : ℝ) : EReal)) (D.tg b l)

theorem move_val {o a : FVec Ideal S256x128 .f32} {b : Fin 64} (ho : ∀ (k : Fin 256) l, o (ix2 k l) = if k = D.tg b l then 1 else 0)
    (ha : ∀ n l, a (ix2 n l) = ((D.tr n (D.tg b l) : ℝ) : EReal)) {h1 : S256x128.Reduces [0] S128} {h2 h3} {h : S128.ShapeCasts S1x128}
    {h' : S1x128.ShapeCasts S1x128} {hi : S1x128.Iotas .tc 32 [1]} {mask : EReal} (hmask : mask = ⊥) {z : FVec Ideal S256x1 .f32}
    {hs : S256x128.Slices ![0, 0] S256x127} {hc} (l : Fin 128) :
    (shapeCast S1x128 (select (cmpi .eq (iota .tc S1x128 32 [1] hi) (broadcast S1x128 0#32)) (broadcast S1x128 mask)
      (shapeCast S1x128 (multiReduction (F := Ideal) .add [0] S128 (mulf o (concatenate S256x128 1 [⟨S256x1, z⟩,
        ⟨S256x127, extractStridedSlice S256x127 ![0, 0] a hs⟩] hc)) 0x00000000#32 h1 h2 h3) h)) h' : FVec Ideal S1x128 .f32) (ix2 0 l)
      = D.move b l := by
  pointwise
  unfold Data.move
  rw [select_first l.2]
  by_cases h0 : l.val = 0
  · rw [if_pos h0, dif_pos (by omega), hmask]
  · have h1 : ¬ l.val < 1 := by omega
    rw [if_neg h0, dif_neg h1]
    simp only [ho, ha, h1, dite_false]
    exact sum_pick' (fun k => ((D.tr k (D.tg b ⟨l.val - 1, by omega⟩) : ℝ) : EReal)) (D.tg b l)

/-! ## The rows stored -/

/-- One more row of a 64-row buffer. -/
theorem rows_put {v : View sig κ sp S64x128 .f32} {f : v.ty.Contents (Elt Ideal)} {L : List (View.Piece (Elt Ideal) S64x128 .f32)}
    {G : Fin 64 → Fin 128 → EReal} {n : ℕ} (H : ∀ (b : Fin 64) l, b.val < n → v.read (Elt Ideal) (v.writes (Elt Ideal) f L) (ix2 b l) = G b l) (hn : n < 64)
    {inb} {val : FVec Ideal S1x128 .f32} (hval : ∀ l, val (ix2 0 l) = G ⟨n, hn⟩ l) (b : Fin 64) (l : Fin 128) (hb : b.val < n + 1) :
    v.read (Elt Ideal) (v.writes (Elt Ideal) f (⟨Rect.unit (s := S64x128) ![n, 0] S1x128.size inb, val⟩ :: L)) (ix2 b l) = G b l := by
  by_cases e : b.val = n
  · rw [View.read_writes_cons_unit_of_mem v f inb val L _ (ix2 0 l) rfl (by
      intro a
      match a with
      | ⟨0, _⟩ => exact e
      | ⟨1, _⟩ => exact (Nat.zero_add _).symm), hval]
    have : b = ⟨n, hn⟩ := Fin.ext e
    rw [this]
  · rw [View.read_writes_cons_unit_of_not_mem v f inb val L _ rfl (0 : Fin 2) (Or.inl (show b.val < n by omega))]
    exact H b l (by omega)

/-- The indicator tiles of the rows below `n`. -/
def OhAt (D : Data) (X : S64x256x256.Idx → EReal) (n : ℕ) : Prop :=
  ∀ (b : Fin 64) (k : Fin 256) (l : Fin 128), b.val < n → X (ix3 b k ⟨l.val, by omega⟩) = if k = D.tg b l then 1 else 0

theorem OhAt.put {v : View sig κ sp S64x256x256 .bf16} {f : v.ty.Contents (Elt Ideal)} {L : List (View.Piece (Elt Ideal) S64x256x256 .bf16)}
    {n : ℕ} (H : OhAt D (v.read (Elt Ideal) (v.writes (Elt Ideal) f L)) n) (hn : n < 64) {inb} {val : FVec Ideal S1x256x256 .bf16}
    (hval : ∀ (k : Fin 256) (l : Fin 128), val (ix3 0 k ⟨l.val, by omega⟩) = if k = D.tg ⟨n, hn⟩ l then 1 else 0) :
    OhAt D (v.read (Elt Ideal) (v.writes (Elt Ideal) f (⟨Rect.unit (s := S64x256x256) ![n, 0, 0] S1x256x256.size inb, val⟩ :: L))) (n + 1) := by
  intro b k l hb
  by_cases e : b.val = n
  · rw [View.read_writes_cons_unit_of_mem v f inb val L _ (ix3 0 k ⟨l.val, by omega⟩) rfl (by
      intro a
      match a with
      | ⟨0, _⟩ => exact e
      | ⟨1, _⟩ => exact (Nat.zero_add _).symm
      | ⟨2, _⟩ => exact (Nat.zero_add _).symm), hval]
    have : b = ⟨n, hn⟩ := Fin.ext e
    rw [this]
  · rw [View.read_writes_cons_unit_of_not_mem v f inb val L _ rfl (0 : Fin 3) (Or.inl (show b.val < n by omega))]
    exact H b k l (by omega)

/-- The units at rest, and the rows below `n` of the three tables the targets fix. -/
structure Rows (D : Data) (M : Mxu Ideal) (Xo : S64x256x256.Idx → EReal) (Xs Xm : S64x128.Idx → EReal) (n : ℕ) : Prop where
  calm : Calm M none
  oh : OhAt D Xo n
  ts : ∀ (b : Fin 64) l, b.val < n → Xs (ix2 b l) = D.self b l
  tm : ∀ (b : Fin 64) l, b.val < n → Xm (ix2 b l) = D.move b l

/-- Two more rows, by one product. -/
theorem Rows.pair {vo : View sig κ sp S64x256x256 .bf16} {fo : vo.ty.Contents (Elt Ideal)} {vs vm : View sig κ sp S64x128 .f32}
    {fs : vs.ty.Contents (Elt Ideal)} {fm : vm.ty.Contents (Elt Ideal)} {Lo : List (View.Piece (Elt Ideal) S64x256x256 .bf16)}
    {Ls Lm : List (View.Piece (Elt Ideal) S64x128 .f32)} {M : Mxu Ideal} {n : ℕ}
    (R : Rows D M (vo.read (Elt Ideal) (vo.writes (Elt Ideal) fo Lo)) (vs.read (Elt Ideal) (vs.writes (Elt Ideal) fs Ls))
      (vm.read (Elt Ideal) (vm.writes (Elt Ideal) fm Lm)) n) (hn : n < 64) (hn' : n + 1 < 64)
    {r : Fin 2} {A : ℕ} {o0 o1 : FVec Ideal S256x128 .f32} {hb hb' hb0 hb1 : FTy.bf16.bits < FTy.f32.bits} {hc hc0 hc1 : Shape.Concatenates [S256x128, S256x128] S256x256 1}
    {z : FVec Ideal S256x128 .bf16} {z1 : FVec Ideal S256x1 .f32} {lhs : FVec Ideal S256x256 .bf16} {hf hf' hf'' : Mxu.Fits A 256}
    {inb0 inb1 jnb0 jnb1 knb0 knb1} {hi hi' : S1x128.Iotas .tc 32 [1]} {mask mask' : EReal}
    {hs0 : S256x256.Slices ![0, 0] S256x128} {hs1 : S256x256.Slices ![0, 128] S256x128} {hs : S256x128.Slices ![0, 0] S256x127} {hcm : Shape.Concatenates [S256x1, S256x127] S256x128 1}
    {h1 : S256x128.Reduces [0] S128} {h2 h3} {h : S128.ShapeCasts S1x128} {h' : S1x128.ShapeCasts S1x128} {ht : S256x256.ShapeCasts S1x256x256}
    (h0 : ∀ (k : Fin 256) l, o0 (ix2 k l) = if k = D.tg ⟨n, hn⟩ l then 1 else 0)
    (h01 : ∀ (k : Fin 256) l, o1 (ix2 k l) = if k = D.tg ⟨n + 1, hn'⟩ l then 1 else 0)
    (hl : ∀ n k, lhs (ix2 n k) = ((D.tr n k : ℝ) : EReal)) (hm : mask = ⊥) (hm' : mask' = ⊥) {P : FVec Ideal S256x256 .f32}
    (hP : P = ((M.pushed 1 r false (concatenate S256x256 1 [⟨S256x128, truncf (F := Ideal) .bf16 o0 hb⟩,
      ⟨S256x128, truncf (F := Ideal) .bf16 o1 hb'⟩] hc : FVec Ideal S256x256 .bf16)).accLhs 1 r A lhs hf).read 1 A hf') :
    Rows D (((M.pushed 1 r false (concatenate S256x256 1 [⟨S256x128, truncf (F := Ideal) .bf16 o0 hb⟩,
        ⟨S256x128, truncf (F := Ideal) .bf16 o1 hb'⟩] hc : FVec Ideal S256x256 .bf16)).accLhs 1 r A lhs hf).pop 1 A 256 hf'')
      (vo.read (Elt Ideal) (vo.writes (Elt Ideal) fo
        (⟨Rect.unit (s := S64x256x256) ![n + 1, 0, 0] S1x256x256.size inb1, shapeCast S1x256x256 (concatenate S256x256 1
            [⟨S256x128, truncf (F := Ideal) .bf16 o1 hb1⟩, ⟨S256x128, z⟩] hc1 : FVec Ideal S256x256 .bf16) ht⟩ ::
          ⟨Rect.unit (s := S64x256x256) ![n, 0, 0] S1x256x256.size inb0, shapeCast S1x256x256 (concatenate S256x256 1
            [⟨S256x128, truncf (F := Ideal) .bf16 o0 hb0⟩, ⟨S256x128, z⟩] hc0 : FVec Ideal S256x256 .bf16) ht⟩ :: Lo)))
      (vs.read (Elt Ideal) (vs.writes (Elt Ideal) fs
        (⟨Rect.unit (s := S64x128) ![n + 1, 0] S1x128.size jnb1, shapeCast S1x128 (shapeCast S1x128 (multiReduction (F := Ideal) .add [0] S128
            (mulf o1 (extractStridedSlice S256x128 ![0, 128] P hs1)) 0x00000000#32 h1 h2 h3) h) h'⟩ ::
          ⟨Rect.unit (s := S64x128) ![n, 0] S1x128.size jnb0, shapeCast S1x128 (shapeCast S1x128 (multiReduction (F := Ideal) .add [0] S128
            (mulf o0 (extractStridedSlice S256x128 ![0, 0] P hs0)) 0x00000000#32 h1 h2 h3) h) h'⟩ :: Ls)))
      (vm.read (Elt Ideal) (vm.writes (Elt Ideal) fm
        (⟨Rect.unit (s := S64x128) ![n + 1, 0] S1x128.size knb1, shapeCast S1x128 (select (cmpi .eq (iota .tc S1x128 32 [1] hi') (broadcast S1x128 0#32))
            (broadcast S1x128 mask') (shapeCast S1x128 (multiReduction (F := Ideal) .add [0] S128 (mulf o1 (concatenate S256x128 1 [⟨S256x1, z1⟩,
              ⟨S256x127, extractStridedSlice S256x127 ![0, 0] (extractStridedSlice S256x128 ![0, 128] P hs1) hs⟩] hcm)) 0x00000000#32 h1 h2 h3) h)) h'⟩ ::
          ⟨Rect.unit (s := S64x128) ![n, 0] S1x128.size knb0, shapeCast S1x128 (select (cmpi .eq (iota .tc S1x128 32 [1] hi) (broadcast S1x128 0#32))
            (broadcast S1x128 mask) (shapeCast S1x128 (multiReduction (F := Ideal) .add [0] S128 (mulf o0 (concatenate S256x128 1 [⟨S256x1, z1⟩,
              ⟨S256x127, extractStridedSlice S256x127 ![0, 0] (extractStridedSlice S256x128 ![0, 0] P hs0) hs⟩] hcm)) 0x00000000#32 h1 h2 h3) h)) h'⟩ :: Lm)))
      (n + 2) := by
  subst hP
  exact ⟨R.calm.side r _ lhs hf hf'', (R.oh.put hn (oh_val h0)).put hn' (oh_val h01),
    rows_put (rows_put R.ts hn (self_val h0 (half0 R.calm h0 hl))) hn' (self_val h01 (half1 R.calm h01 hl)),
    rows_put (rows_put R.tm hn (move_val h0 (half0 R.calm h0 hl) hm)) hn' (move_val h01 (half1 R.calm h01 hl) hm')⟩

/-! ## The first frames' emissions -/

/-- The units at rest, and the emissions of the rows below `n` in slot 0. -/
structure Seen (D : Data) (M : Mxu Ideal) (X : S2x40x64x128.Idx → EReal) (n : ℕ) : Prop where
  calm : Calm M none
  em : EmAt D X 0 0 n

theorem Seen.emit {v : View sig κ sp S2x40x64x128 .f32} {f : v.ty.Contents (Elt Ideal)} {L : List (View.Piece (Elt Ideal) S2x40x64x128 .f32)}
    {M : Mxu Ideal} {n : ℕ} (A : Seen D M (v.read (Elt Ideal) (v.writes (Elt Ideal) f L)) n) {r : Fin 2} {Ad : ℕ}
    {tile : FVec Ideal S256x256 .bf16} {lhs : FVec Ideal S48x256 .bf16} {hf hf' hf'' : Mxu.Fits Ad 48} (hn : n < 64) {inb}
    (htile : ∀ (k : Fin 256) (l : Fin 128), tile (ix2 k ⟨l.val, by omega⟩) = if k = D.tg ⟨n, hn⟩ l then 1 else 0)
    (hlhs : ∀ (j : Fin 40) (k : Fin 256), lhs (ix2 ⟨j.val, by omega⟩ k) = ((D.x ⟨n, hn⟩ (0 + j.val) k : ℝ) : EReal))
    {h : S48x256.Slices ![0, 0] S40x128} {h' : S40x128.ShapeCasts S1x40x1x128} :
    Seen D (((M.pushed 1 r false tile).accLhs 1 r Ad lhs hf).pop 1 Ad 48 hf'')
      (v.read (Elt Ideal) (v.writes (Elt Ideal) f (⟨Rect.unit (s := S2x40x64x128) ![0, 0, n, 0] S1x40x1x128.size inb,
        shapeCast S1x40x1x128 (extractStridedSlice S40x128 ![0, 0] (((M.pushed 1 r false tile).accLhs 1 r Ad lhs hf).read 1 Ad hf') h) h'⟩ :: L))) (n + 1) :=
  ⟨A.calm.side r tile lhs hf hf'', A.em.put rfl hn _ _ (emit_val A.calm htile hlhs h h')⟩

/-! ## The first frame -/

theorem ninf : Ideal.ofBits FTy.f32 0xFF800000#32 = ⊥ := by
  simp [Ideal.ofBits, Ideal.ieee]

/-- The shift is a real number. -/
theorem top_real {tr : FVec Ideal S256x256 .f32} (htr : ∀ n k, tr (ix2 n k) = ((D.tr n k : ℝ) : EReal)) :
    ∃ r : ℝ, k0_pay5 (F := Ideal) tr = (r : EReal) := by
  unfold k0_pay5
  pointwise
  rw [ninf]
  simp only [htr]
  exact fold_max_coe fun x : Fin 256 × Fin 256 => D.tr x.1 x.2

/-- The first frame's row tops, -/
theorem rowtop {x0 : FVec Ideal S64x256 .f32} (hx : ∀ b n, x0 (ix2 b n) = ((D.x b 0 n : ℝ) : EReal)) {h1 : S64x256.Reduces [1] S64} {h2 h3}
    {h : S64.ShapeCasts S64x1} (b : Fin 64) :
    ∃ r : ℝ, (shapeCast S64x1 (multiReduction (F := Ideal) .maximumf [1] S64 x0 0xFF800000#32 h1 h2 h3) h : FVec Ideal S64x1 .f32) (ix2 b 0) = (r : EReal) := by
  pointwise
  rw [ninf]
  simp only [hx]
  exact fold_max_coe fun x => D.x b 0 x

theorem x0read {v : View sig κ sp S40x64x256 .bf16} {f : v.ty.Contents (Elt Ideal)}
    (H : ∀ (j : Fin 40) b n, v.read (Elt Ideal) f (ix3 j b n) = ((D.x b (0 + j.val) n : ℝ) : EReal)) {inb} {h : S1x64x256.ShapeCasts S64x256}
    {V : FVec Ideal S1x64x256 .bf16} (hV : V = v.readAt (Elt Ideal) (Rect.unit (s := S40x64x256) ![0, 0, 0] S1x64x256.size inb).toLoadRect f) (b : Fin 64) (n : Fin 256) :
    (shapeCast S64x256 V h : FVec Ideal S64x256 .bf16) (ix2 b n) = ((D.x b 0 n : ℝ) : EReal) := by
  pointwise
  rw [show D.x b 0 n = D.x b (0 + (0 : Fin 40).val) n from rfl, ← H 0 b n, hV, View.readAt_apply]
  refine congrArg (v.read (Elt Ideal) f) (funext fun c => Fin.ext ?_)
  match c with
  | ⟨0, _⟩ => rfl
  | ⟨1, _⟩ => exact (Nat.zero_add _).trans (Nat.one_mul _)
  | ⟨2, _⟩ => exact (Nat.zero_add _).trans (Nat.one_mul _)

/-- and its weights. -/
theorem fcc_start {g : ℝ} {x0 : FVec Ideal S64x256 .f32} {z0 : FVec Ideal S64x1 .f32} (hx : ∀ b n, x0 (ix2 b n) = ((D.x b 0 n : ℝ) : EReal))
    (hz : ∀ b, ∃ r : ℝ, z0 (ix2 b 0) = (r : EReal)) {hb : S64x1.Broadcasts S64x256} {hc : S64x256.ShapeCasts S64x256} {ht : FTy.bf16.bits < FTy.f32.bits} {hc' : S64x1.ShapeCasts S64x1} :
    FccAt D g 0 (truncf (F := Ideal) .bf16 (shapeCast S64x256 (exp (subf x0 (broadcastTo S64x256 z0 hb))) hc) ht) (shapeCast S64x1 z0 hc') := by
  choose r hr using hz
  refine ⟨fun b => Real.exp (-r b), fun b => Real.exp_pos _, fun b n => ?_, fun b => ?_⟩
  · pointwise
    rw [hx, hr, ← EReal.coe_sub, exp_coe]
    congr 1
    simp only [Data.mass]
    rw [← Real.exp_add]; congr 1; ring
  · pointwise
    rw [hr]
    congr 1
    rw [Real.log_exp]; push_cast; ring

/-- The first frame's path scores. -/
theorem fac_start {e : FVec Ideal S64x128 .f32} (he : ∀ b l, e (ix2 b l) = ((D.x b 0 (D.tg b l) : ℝ) : EReal)) {hi : S64x128.Iotas .tc 32 [1]}
    {mask : EReal} (hm : mask = ⊥) {h : S64x128.ShapeCasts S64x128} (b : Fin 64) (l : Fin 128) :
    (shapeCast S64x128 (select (cmpi .eq (iota .tc S64x128 32 [1] hi) (broadcast S64x128 0#32)) e (broadcast S64x128 mask)) h : FVec Ideal S64x128 .f32) (ix2 b l)
      = D.beta 0 b l := by
  pointwise
  simp only [Data.beta]
  rw [select_first l.2, he, hm]

end Cert.Proof

end
-- ==== Proof.LaterVal.lean ====
/-
  A later point of the grid: the state of the body frame by frame and product by product, to what the point leaves behind.
-/
module

public import proofs.«01_k».proof.Proof.Frame
public import proofs.«01_k».proof.Proof.Steps
public import Idealize.ShloMosaic.Lib.IdealHost

@[expose] public section

set_option maxRecDepth 16384

noncomputable section

namespace Cert.Proof.KI.Later

open Cert.KernelIdeal Cert.KernelIdeal.Gen Cert.Proof Cert.Proof.KI Cert.Proof.KI.stepRun
open Idealize.ShloMosaic Idealize.ShloMosaic.TcCoe

theorem zeros_at (b : Fin 64) (l : Fin 128) : (broadcast S64x128 (FloatOps.ofBits (F := Ideal) .f32 0x00000000#32) : FVec Ideal S64x128 .f32) (ix2 b l) = 0 :=
  Ideal.ofBits_zero_f32

theorem ones_at (b : Fin 64) : (broadcast S64x1 (FloatOps.ofBits (F := Ideal) .f32 0x3F800000#32) : FVec Ideal S64x1 .f32) (ix2 b 0) = 1 :=
  Ideal.ofBits_one_f32

theorem mask_at (b : Fin 64) : (k0_pay673 (F := Ideal)) (ix2 b 0) = ⊥ := rfl

variable {D : Data} {g : ℝ} {p t q τ : ℕ}

/-- What a later point reads: the blocks of the point, and the scratch buffers as frame `t` left them. -/
structure Feed (D : Data) (g : ℝ) (p t q τ : ℕ) (c : Dev nD) (i : grid0.Coords)
    (arg1 : Memref sig .tc .vmem S40x64x256 .bf16) (arg2 : Memref sig .tc .vmem S64x40x256 .f32) (arg6 : Memref sig .tc .vmem S256x256 .f32)
    (arg8 : Memref sig .tc .vmem S64x256 .f32) (arg9 : Memref sig .tc .vmem S64x1 .f32) (arg10 : Memref sig .tc .vmem S64x128 .f32)
    (arg11 : Memref sig .tc .vmem S64x128 .f32) (arg12 : Memref sig .tc .vmem S64x128 .f32) (arg13 : Memref sig .tc .vmem S2x40x64x128 .f32)
    (arg14 : Memref sig .tc .vmem S64x256x256 .bf16) (arg15 : Memref sig .tc .smem S1x1 .f32)
    (f1 : Bf (F := Ideal) c arg1) (f2 : Bf (F := Ideal) c arg2) (f6 : Bf (F := Ideal) c arg6) (f8 : Bf (F := Ideal) c arg8)
    (f9 : Bf (F := Ideal) c arg9) (f10 : Bf (F := Ideal) c arg10) (f11 : Bf (F := Ideal) c arg11) (f12 : Bf (F := Ideal) c arg12)
    (f13 : Bf (F := Ideal) c arg13) (f14 : Bf (F := Ideal) c arg14) (f15 : Bf (F := Ideal) c arg15) : Prop where
  selp : (Scalar.indexCast (Scalar.remsi (BitVec.ofNat 32 (i 0).val) 2#32)).toNat = p
  selq : (Scalar.indexCast (Scalar.remsi (Scalar.addi (BitVec.ofNat 32 (i 0).val) 1#32) 2#32)).toNat = q
  hi : Scalar.cmpi .eq (BitVec.ofNat 32 (i 0).val) 0#32 ≠ 1#1
  hp : p < 2
  hpq : p ≠ q
  x : ∀ (j : Fin 40) (b : Fin 64) (n : Fin 256), arg1.view.read (Elt Ideal) f1 (ix3 j b n) = ((D.x b (t + 1 + j.val) n : ℝ) : EReal)
  xb : ∀ (b : Fin 64) (j : Fin 40) (n : Fin 256), arg2.view.read (Elt Ideal) f2 (ix3 b j n) = ((D.x b (τ + j.val) n : ℝ) : EReal)
  tr : ∀ n k : Fin 256, arg6.view.read (Elt Ideal) f6 (ix2 n k) = ((D.tr n k : ℝ) : EReal)
  gm : arg15.view.read (Elt Ideal) f15 (ix2 0 0) = ((g : ℝ) : EReal)
  fcc : FccAt D g t (arg8.view.read (Elt Ideal) f8) (arg9.view.read (Elt Ideal) f9)
  fac : ∀ b l, arg10.view.read (Elt Ideal) f10 (ix2 b l) = D.beta t b l
  ts : ∀ b l, arg11.view.read (Elt Ideal) f11 (ix2 b l) = ((D.tr (D.tg b l) (D.tg b l) : ℝ) : EReal)
  tm : ∀ b (l : Fin 128), arg12.view.read (Elt Ideal) f12 (ix2 b l) = if h : l.val < 1 then ⊥ else ((D.tr (D.tg b l) (D.tg b ⟨l.val - 1, by omega⟩) : ℝ) : EReal)
  em : EmAt D (arg13.view.read (Elt Ideal) f13) p (t + 1) 64
  oh : ∀ (b : Fin 64) (k : Fin 256) (l : Fin 128), arg14.view.read (Elt Ideal) f14 (ix3 b k ⟨l.val, by omega⟩) = if k = D.tg b l then 1 else 0

variable {c : Dev nD} {i : grid0.Coords}
    {arg1 : Memref sig .tc .vmem S40x64x256 .bf16} {arg2 : Memref sig .tc .vmem S64x40x256 .f32} {arg6 : Memref sig .tc .vmem S256x256 .f32}
    {arg8 : Memref sig .tc .vmem S64x256 .f32} {arg9 : Memref sig .tc .vmem S64x1 .f32} {arg10 : Memref sig .tc .vmem S64x128 .f32}
    {arg11 : Memref sig .tc .vmem S64x128 .f32} {arg12 : Memref sig .tc .vmem S64x128 .f32} {arg13 : Memref sig .tc .vmem S2x40x64x128 .f32}
    {arg14 : Memref sig .tc .vmem S64x256x256 .bf16} {arg15 : Memref sig .tc .smem S1x1 .f32}
    {f1 : Bf (F := Ideal) c arg1} {f2 : Bf (F := Ideal) c arg2} {f6 : Bf (F := Ideal) c arg6} {f8 : Bf (F := Ideal) c arg8}
    {f9 : Bf (F := Ideal) c arg9} {f10 : Bf (F := Ideal) c arg10} {f11 : Bf (F := Ideal) c arg11} {f12 : Bf (F := Ideal) c arg12}
    {f13 : Bf (F := Ideal) c arg13} {f14 : Bf (F := Ideal) c arg14} {f15 : Bf (F := Ideal) c arg15}
    (H : Feed D g p t q τ c i arg1 arg2 arg6 arg8 arg9 arg10 arg11 arg12 arg13 arg14 arg15 f1 f2 f6 f8 f9 f10 f11 f12 f13 f14 f15)

include H

theorem Feed.offp (j : ℕ) : ![(Scalar.indexCast (Scalar.remsi (BitVec.ofNat 32 (i 0).val) 2#32)).toNat, j, 0, 0] = ![p, j, 0, 0] := by rw [H.selp]

theorem Feed.offq (j : ℕ) : ![(Scalar.indexCast (Scalar.remsi (Scalar.addi (BitVec.ofNat 32 (i 0).val) 1#32) 2#32)).toNat, 0, j, 0] = ![q, 0, j, 0] := by
  rw [H.selq]

theorem ts_at (b : Fin 64) (l : Fin 128) : (sl.r_3 (F := Ideal) c arg11 f11) (ix2 b l) = ((D.tr (D.tg b l) (D.tg b l) : ℝ) : EReal) := by
  rw [show sl.r_3 (F := Ideal) c arg11 f11 = _ from View.readAt_full _ _ _]; exact H.ts b l

theorem tm_at (b : Fin 64) (l : Fin 128) : (sl.r_4 (F := Ideal) c arg12 f12) (ix2 b l)
    = if h : l.val < 1 then ⊥ else ((D.tr (D.tg b l) (D.tg b ⟨l.val - 1, by omega⟩) : ℝ) : EReal) := by
  rw [show sl.r_4 (F := Ideal) c arg12 f12 = _ from View.readAt_full _ _ _]; exact H.tm b l

/-- The transition tile the point pushes. -/
abbrev tileOf (c : Dev nD) (arg6 : Memref sig .tc .vmem S256x256 .f32) (arg15 : Memref sig .tc .smem S1x1 .f32) (f6 : Bf (F := Ideal) c arg6)
    (f15 : Bf (F := Ideal) c arg15) : FVec Ideal S256x256 .bf16 :=
  k0_pay674 (View.readAt (Elt Ideal) arg6.view (Rect.unit ![0, 0] S256x256.size inb_S256x256_S256x256_0_0).toLoadRect f6) (sl.r c arg15 f15)

omit H in
theorem tile_at (tr : FVec Ideal S256x256 .f32) (gm : EReal) (htr : ∀ n k : Fin 256, tr (ix2 n k) = ((D.tr n k : ℝ) : EReal))
    (hgm : gm = ((g : ℝ) : EReal)) (n k : Fin 256) : (k0_pay674 (F := Ideal) tr gm) (ix2 n k) = ((Real.exp (D.tr n k - g) : ℝ) : EReal) := by
  subst hgm
  show Ideal.exp (tr (ix2 n k) - ((g : ℝ) : EReal)) = _
  rw [htr, ← EReal.coe_sub, exp_coe]

theorem s0 : At D g (tileOf c arg6 arg15 f6 f15) p (t + 1) q τ t 0 (sl.k0_mxu293 c arg6 arg15 f6 f15)
    (k0_pay676 (View.readAt (Elt Ideal) arg8.view (Rect.unit ![0, 0] S64x256.size inb_S64x256_S64x256_0_0).toLoadRect f8))
    (sl.r_6 c arg9 f9) (sl.r_7 c arg10 f10) (arg13.view.read (Elt Ideal) (arg13.view.writes (Elt Ideal) f13 [])) := by
  refine ⟨Calm.start.load 0 true _ _ _ _, ?_, ?_, ?_, H.em, fun _ _ _ b _ hb => absurd hb (Nat.not_lt_zero _)⟩
  · refine tile_at _ _ (fun n k => ?_) ?_
    · rw [View.readAt_full]; exact H.tr n k
    · refine Eq.trans ?_ H.gm
      exact congrArg (arg15.view.read (Elt Ideal) f15) (funext fun a => Fin.ext (by
        match a with
        | ⟨0, _⟩ => rfl
        | ⟨1, _⟩ => rfl))
  · unfold k0_pay676
    rw [View.readAt_full, show sl.r_6 (F := Ideal) c arg9 f9 = _ from View.readAt_full _ _ _]
    exact H.fcc
  · intro b l
    rw [show sl.r_7 (F := Ideal) c arg10 f10 = _ from View.readAt_full _ _ _]; exact H.fac b l

omit H in
/-- The first frame's result is the one kept at a later point. -/
theorem pick {α : Type} {s : Shape} (h : Scalar.cmpi .eq (BitVec.ofNat 32 (i 0).val) 0#32 ≠ 1#1) (a b : s.Idx → α) :
    Scalar.select (Scalar.cmpi .eq (BitVec.ofNat 32 (i 0).val) 0#32) a b = b := if_neg h

theorem s1a : At D g (tileOf c arg6 arg15 f6 f15) p (t + 1) q τ (t + 1) 0 (sl.k0_mxu295 c arg6 arg8 arg15 f6 f8 f15)
    (sl.v30_r0 c arg1 arg6 arg8 arg15 f1 f6 f8 f15) (sl.r_6 c arg9 f9) (sl.v46_r0 c i arg10 arg11 arg12 arg13 f10 f11 f12 f13)
    (arg13.view.read (Elt Ideal) (arg13.view.writes (Elt Ideal) f13 [])) :=
  ((s0 H).plain rfl (by omega) (by omega) (xread H.x (T := t + 1) (G := 0) (j := 0) (h := by decide) (by decide) (by decide) rfl)
    (eread (s0 H).cur (H.offp 0) H.hp (by decide) rfl) (ts_at H) (tm_at H) zeros_at mask_at)

theorem s1 : At D g (tileOf c arg6 arg15 f6 f15) p (t + 1) q τ (t + 1) 0 (sl.k0_mxu295 c arg6 arg8 arg15 f6 f8 f15)
    (sl.v48_r0 c i arg1 arg6 arg8 arg15 f1 f6 f8 f15) (sl.r_6 c arg9 f9) (sl.v50_r0 c i arg10 arg11 arg12 arg13 f10 f11 f12 f13)
    (arg13.view.read (Elt Ideal) (arg13.view.writes (Elt Ideal) f13 [])) := by
  have e1 : (sl.v48_r0 c i arg1 arg6 arg8 arg15 f1 f6 f8 f15) = (sl.v30_r0 c arg1 arg6 arg8 arg15 f1 f6 f8 f15) := pick H.hi _ _
  have e2 : (sl.v50_r0 c i arg10 arg11 arg12 arg13 f10 f11 f12 f13) = (sl.v46_r0 c i arg10 arg11 arg12 arg13 f10 f11 f12 f13) := pick H.hi _ _
  rw [e1, e2]
  exact s1a H

theorem s2 : At D g (tileOf c arg6 arg15 f6 f15) p (t + 1) q τ (t + 2) 0 (sl.k0_mxu297 c i arg1 arg6 arg8 arg15 f1 f6 f8 f15)
    (sl.v57_r0 c i arg1 arg6 arg8 arg15 f1 f6 f8 f15) (sl.r_6 c arg9 f9) (sl.v73_r0 c i arg10 arg11 arg12 arg13 f10 f11 f12 f13)
    (arg13.view.read (Elt Ideal) (arg13.view.writes (Elt Ideal) f13 [])) :=
  ((s1 H).plain rfl (by omega) (by omega) (xread H.x (T := t + 1) (G := 0) (j := 1) (by decide) (by decide) rfl)
    (eread (s1 H).cur (H.offp 1) H.hp (by decide) rfl) (ts_at H) (tm_at H) zeros_at mask_at)

theorem s3 : At D g (tileOf c arg6 arg15 f6 f15) p (t + 1) q τ (t + 3) 0 (sl.k0_mxu299 c i arg1 arg6 arg8 arg15 f1 f6 f8 f15)
    (sl.v80_r0 c i arg1 arg6 arg8 arg15 f1 f6 f8 f15) (sl.r_6 c arg9 f9) (sl.v96_r0 c i arg10 arg11 arg12 arg13 f10 f11 f12 f13)
    (arg13.view.read (Elt Ideal) (arg13.view.writes (Elt Ideal) f13 [])) :=
  ((s2 H).plain rfl (by omega) (by omega) (xread H.x (T := t + 1) (G := 0) (j := 2) (by decide) (by decide) rfl)
    (eread (s2 H).cur (H.offp 2) H.hp (by decide) rfl) (ts_at H) (tm_at H) zeros_at mask_at)

theorem s4 : At D g (tileOf c arg6 arg15 f6 f15) p (t + 1) q τ (t + 4) 0 (sl.k0_mxu301 c i arg1 arg6 arg8 arg15 f1 f6 f8 f15)
    (sl.v112_r0 c i arg1 arg6 arg8 arg15 f1 f6 f8 f15) (sl.v110_r0 c i arg1 arg6 arg8 arg9 arg15 f1 f6 f8 f9 f15) (sl.v128_r0 c i arg10 arg11 arg12 arg13 f10 f11 f12 f13)
    (arg13.view.read (Elt Ideal) (arg13.view.writes (Elt Ideal) f13 [])) :=
  ((s3 H).renorm rfl (by omega) (by omega) (xread H.x (T := t + 1) (G := 0) (j := 3) (by decide) (by decide) rfl) ones_at
    (eread (s3 H).cur (H.offp 3) H.hp (by decide) rfl) (ts_at H) (tm_at H) zeros_at mask_at)

theorem s5 : At D g (tileOf c arg6 arg15 f6 f15) p (t + 1) q τ (t + 5) 0 (sl.k0_mxu303 c i arg1 arg6 arg8 arg15 f1 f6 f8 f15)
    (sl.v135_r0 c i arg1 arg6 arg8 arg15 f1 f6 f8 f15) (sl.v110_r0 c i arg1 arg6 arg8 arg9 arg15 f1 f6 f8 f9 f15) (sl.v151_r0 c i arg10 arg11 arg12 arg13 f10 f11 f12 f13)
    (arg13.view.read (Elt Ideal) (arg13.view.writes (Elt Ideal) f13 [])) :=
  ((s4 H).plain rfl (by omega) (by omega) (xread H.x (T := t + 1) (G := 0) (j := 4) (by decide) (by decide) rfl)
    (eread (s4 H).cur (H.offp 4) H.hp (by decide) rfl) (ts_at H) (tm_at H) zeros_at mask_at)

theorem s6 : At D g (tileOf c arg6 arg15 f6 f15) p (t + 1) q τ (t + 6) 0 (sl.k0_mxu305 c i arg1 arg6 arg8 arg15 f1 f6 f8 f15)
    (sl.v158_r0 c i arg1 arg6 arg8 arg15 f1 f6 f8 f15) (sl.v110_r0 c i arg1 arg6 arg8 arg9 arg15 f1 f6 f8 f9 f15) (sl.v174_r0 c i arg10 arg11 arg12 arg13 f10 f11 f12 f13)
    (arg13.view.read (Elt Ideal) (arg13.view.writes (Elt Ideal) f13 [])) :=
  ((s5 H).plain rfl (by omega) (by omega) (xread H.x (T := t + 1) (G := 0) (j := 5) (by decide) (by decide) rfl)
    (eread (s5 H).cur (H.offp 5) H.hp (by decide) rfl) (ts_at H) (tm_at H) zeros_at mask_at)

theorem s7 : At D g (tileOf c arg6 arg15 f6 f15) p (t + 1) q τ (t + 7) 0 (sl.k0_mxu307 c i arg1 arg6 arg8 arg15 f1 f6 f8 f15)
    (sl.v181_r0 c i arg1 arg6 arg8 arg15 f1 f6 f8 f15) (sl.v110_r0 c i arg1 arg6 arg8 arg9 arg15 f1 f6 f8 f9 f15) (sl.v197_r0 c i arg10 arg11 arg12 arg13 f10 f11 f12 f13)
    (arg13.view.read (Elt Ideal) (arg13.view.writes (Elt Ideal) f13 [])) :=
  ((s6 H).plain rfl (by omega) (by omega) (xread H.x (T := t + 1) (G := 0) (j := 6) (by decide) (by decide) rfl)
    (eread (s6 H).cur (H.offp 6) H.hp (by decide) rfl) (ts_at H) (tm_at H) zeros_at mask_at)

theorem s8 : At D g (tileOf c arg6 arg15 f6 f15) p (t + 1) q τ (t + 8) 0 (sl.k0_mxu309 c i arg1 arg6 arg8 arg15 f1 f6 f8 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 [])) :=
  ((s7 H).renorm rfl (by omega) (by omega) (xread H.x (T := t + 1) (G := 0) (j := 7) (by decide) (by decide) rfl) ones_at
    (eread (s7 H).cur (H.offp 7) H.hp (by decide) rfl) (ts_at H) (tm_at H) zeros_at mask_at)

theorem e1 : At D g (tileOf c arg6 arg15 f6 f15) p (t + 1) q τ (t + 8) 1 (sl.k0_mxu312 c i arg1 arg2 arg6 arg8 arg14 arg15 f1 f2 f6 f8 f14 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 (sl.H13_1 c i arg1 arg2 arg6 arg8 arg14 arg15 f1 f2 f6 f8 f14 f15))) :=
  ((s8 H).emit (by decide) (H.offq 0) H.hpq (oread H.oh (by decide) rfl) (lread H.xb (by decide) rfl))

theorem e4 : At D g (tileOf c arg6 arg15 f6 f15) p (t + 1) q τ (t + 8) 4 (sl.k0_mxu321 c i arg1 arg2 arg6 arg8 arg14 arg15 f1 f2 f6 f8 f14 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 (sl.H13_4 c i arg1 arg2 arg6 arg8 arg14 arg15 f1 f2 f6 f8 f14 f15))) :=
  ((((e1 H).emit (by decide) (H.offq 1) H.hpq (oread H.oh (by decide) rfl) (lread H.xb (by decide) rfl)).emit (by decide) (H.offq 2) H.hpq (oread H.oh (by decide) rfl) (lread H.xb (by decide) rfl)).emit (by decide) (H.offq 3) H.hpq (oread H.oh (by decide) rfl) (lread H.xb (by decide) rfl))

theorem e6 : At D g (tileOf c arg6 arg15 f6 f15) p (t + 1) q τ (t + 8) 6 (sl.k0_mxu327 c i arg1 arg2 arg6 arg8 arg14 arg15 f1 f2 f6 f8 f14 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 (sl.H13_6 c i arg1 arg2 arg6 arg8 arg14 arg15 f1 f2 f6 f8 f14 f15))) :=
  (((e4 H).emit (by decide) (H.offq 4) H.hpq (oread H.oh (by decide) rfl) (lread H.xb (by decide) rfl)).emit (by decide) (H.offq 5) H.hpq (oread H.oh (by decide) rfl) (lread H.xb (by decide) rfl))

theorem e9 : At D g (tileOf c arg6 arg15 f6 f15) p (t + 1) q τ (t + 8) 9 (sl.k0_mxu336 c i arg1 arg2 arg6 arg8 arg14 arg15 f1 f2 f6 f8 f14 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 (sl.H13_9 c i arg1 arg2 arg6 arg8 arg14 arg15 f1 f2 f6 f8 f14 f15))) :=
  ((((e6 H).emit (by decide) (H.offq 6) H.hpq (oread H.oh (by decide) rfl) (lread H.xb (by decide) rfl)).emit (by decide) (H.offq 7) H.hpq (oread H.oh (by decide) rfl) (lread H.xb (by decide) rfl)).emit (by decide) (H.offq 8) H.hpq (oread H.oh (by decide) rfl) (lread H.xb (by decide) rfl))

theorem e11 : At D g (tileOf c arg6 arg15 f6 f15) p (t + 1) q τ (t + 8) 11 (sl.k0_mxu342 c i arg1 arg2 arg6 arg8 arg14 arg15 f1 f2 f6 f8 f14 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 (sl.H13_11 c i arg1 arg2 arg6 arg8 arg14 arg15 f1 f2 f6 f8 f14 f15))) :=
  (((e9 H).emit (by decide) (H.offq 9) H.hpq (oread H.oh (by decide) rfl) (lread H.xb (by decide) rfl)).emit (by decide) (H.offq 10) H.hpq (oread H.oh (by decide) rfl) (lread H.xb (by decide) rfl))

theorem e12 : At D g (tileOf c arg6 arg15 f6 f15) p (t + 1) q τ (t + 8) 12 (sl.k0_mxu345 c i arg1 arg2 arg6 arg8 arg14 arg15 f1 f2 f6 f8 f14 f15)
    (sl.v213_r0 c i arg1 arg6 arg8 arg15 f1 f6 f8 f15) (sl.v211_r0 c i arg1 arg6 arg8 arg9 arg15 f1 f6 f8 f9 f15) (sl.v229_r0 c i arg10 arg11 arg12 arg13 f10 f11 f12 f13)
    (arg13.view.read (Elt Ideal) (arg13.view.writes (Elt Ideal) f13 (sl.H13_12 c i arg1 arg2 arg6 arg8 arg14 arg15 f1 f2 f6 f8 f14 f15))) :=
  ((e11 H).emit (by decide) (H.offq 11) H.hpq (oread H.oh (by decide) rfl) (lread H.xb (by decide) rfl))

theorem s9 : At D g (tileOf c arg6 arg15 f6 f15) p (t + 1) q τ (t + 9) 12 (sl.k0_mxu347 c i arg1 arg2 arg6 arg8 arg14 arg15 f1 f2 f6 f8 f14 f15)
    (sl.v382_r0 c i arg1 arg2 arg6 arg8 arg14 arg15 f1 f2 f6 f8 f14 f15) (sl.v211_r0 c i arg1 arg6 arg8 arg9 arg15 f1 f6 f8 f9 f15) (sl.v398_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((e12 H).plain rfl (by omega) (by omega) (xread H.x (T := t + 1) (G := 8) (j := 0) (by decide) (by decide) rfl)
    (eread (e12 H).cur (H.offp 8) H.hp (by decide) rfl) (ts_at H) (tm_at H) zeros_at mask_at)

theorem s10 : At D g (tileOf c arg6 arg15 f6 f15) p (t + 1) q τ (t + 10) 12 (sl.k0_mxu349 c i arg1 arg2 arg6 arg8 arg14 arg15 f1 f2 f6 f8 f14 f15)
    (sl.v405_r0 c i arg1 arg2 arg6 arg8 arg14 arg15 f1 f2 f6 f8 f14 f15) (sl.v211_r0 c i arg1 arg6 arg8 arg9 arg15 f1 f6 f8 f9 f15) (sl.v421_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s9 H).plain rfl (by omega) (by omega) (xread H.x (T := t + 1) (G := 8) (j := 1) (by decide) (by decide) rfl)
    (eread (s9 H).cur (H.offp 9) H.hp (by decide) rfl) (ts_at H) (tm_at H) zeros_at mask_at)

theorem s11 : At D g (tileOf c arg6 arg15 f6 f15) p (t + 1) q τ (t + 11) 12 (sl.k0_mxu351 c i arg1 arg2 arg6 arg8 arg14 arg15 f1 f2 f6 f8 f14 f15)
    (sl.v428_r0 c i arg1 arg2 arg6 arg8 arg14 arg15 f1 f2 f6 f8 f14 f15) (sl.v211_r0 c i arg1 arg6 arg8 arg9 arg15 f1 f6 f8 f9 f15) (sl.v444_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s10 H).plain rfl (by omega) (by omega) (xread H.x (T := t + 1) (G := 8) (j := 2) (by decide) (by decide) rfl)
    (eread (s10 H).cur (H.offp 10) H.hp (by decide) rfl) (ts_at H) (tm_at H) zeros_at mask_at)

theorem s12 : At D g (tileOf c arg6 arg15 f6 f15) p (t + 1) q τ (t + 12) 12 (sl.k0_mxu353 c i arg1 arg2 arg6 arg8 arg14 arg15 f1 f2 f6 f8 f14 f15)
    (sl.v460_r0 c i arg1 arg2 arg6 arg8 arg14 arg15 f1 f2 f6 f8 f14 f15) (sl.v458_r0 c i arg1 arg2 arg6 arg8 arg9 arg14 arg15 f1 f2 f6 f8 f9 f14 f15) (sl.v476_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s11 H).renorm rfl (by omega) (by omega) (xread H.x (T := t + 1) (G := 8) (j := 3) (by decide) (by decide) rfl) ones_at
    (eread (s11 H).cur (H.offp 11) H.hp (by decide) rfl) (ts_at H) (tm_at H) zeros_at mask_at)

theorem s13 : At D g (tileOf c arg6 arg15 f6 f15) p (t + 1) q τ (t + 13) 12 (sl.k0_mxu355 c i arg1 arg2 arg6 arg8 arg14 arg15 f1 f2 f6 f8 f14 f15)
    (sl.v483_r0 c i arg1 arg2 arg6 arg8 arg14 arg15 f1 f2 f6 f8 f14 f15) (sl.v458_r0 c i arg1 arg2 arg6 arg8 arg9 arg14 arg15 f1 f2 f6 f8 f9 f14 f15) (sl.v499_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s12 H).plain rfl (by omega) (by omega) (xread H.x (T := t + 1) (G := 8) (j := 4) (by decide) (by decide) rfl)
    (eread (s12 H).cur (H.offp 12) H.hp (by decide) rfl) (ts_at H) (tm_at H) zeros_at mask_at)

theorem s14 : At D g (tileOf c arg6 arg15 f6 f15) p (t + 1) q τ (t + 14) 12 (sl.k0_mxu357 c i arg1 arg2 arg6 arg8 arg14 arg15 f1 f2 f6 f8 f14 f15)
    (sl.v506_r0 c i arg1 arg2 arg6 arg8 arg14 arg15 f1 f2 f6 f8 f14 f15) (sl.v458_r0 c i arg1 arg2 arg6 arg8 arg9 arg14 arg15 f1 f2 f6 f8 f9 f14 f15) (sl.v522_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s13 H).plain rfl (by omega) (by omega) (xread H.x (T := t + 1) (G := 8) (j := 5) (by decide) (by decide) rfl)
    (eread (s13 H).cur (H.offp 13) H.hp (by decide) rfl) (ts_at H) (tm_at H) zeros_at mask_at)

theorem s15 : At D g (tileOf c arg6 arg15 f6 f15) p (t + 1) q τ (t + 15) 12 (sl.k0_mxu359 c i arg1 arg2 arg6 arg8 arg14 arg15 f1 f2 f6 f8 f14 f15)
    (sl.v529_r0 c i arg1 arg2 arg6 arg8 arg14 arg15 f1 f2 f6 f8 f14 f15) (sl.v458_r0 c i arg1 arg2 arg6 arg8 arg9 arg14 arg15 f1 f2 f6 f8 f9 f14 f15) (sl.v545_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s14 H).plain rfl (by omega) (by omega) (xread H.x (T := t + 1) (G := 8) (j := 6) (by decide) (by decide) rfl)
    (eread (s14 H).cur (H.offp 14) H.hp (by decide) rfl) (ts_at H) (tm_at H) zeros_at mask_at)

theorem s16 : At D g (tileOf c arg6 arg15 f6 f15) p (t + 1) q τ (t + 16) 12 (sl.k0_mxu361 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_12 c i arg1 arg2 arg6 arg8 arg14 arg15 f1 f2 f6 f8 f14 f15))) :=
  ((s15 H).renorm rfl (by omega) (by omega) (xread H.x (T := t + 1) (G := 8) (j := 7) (by decide) (by decide) rfl) ones_at
    (eread (s15 H).cur (H.offp 15) H.hp (by decide) rfl) (ts_at H) (tm_at H) zeros_at mask_at)

theorem e13 : At D g (tileOf c arg6 arg15 f6 f15) p (t + 1) q τ (t + 16) 13 (sl.k0_mxu364 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_13 c i arg1 arg2 arg6 arg8 arg14 arg15 f1 f2 f6 f8 f14 f15))) :=
  ((s16 H).emit (by decide) (H.offq 12) H.hpq (oread H.oh (by decide) rfl) (lread H.xb (by decide) rfl))

theorem e15 : At D g (tileOf c arg6 arg15 f6 f15) p (t + 1) q τ (t + 16) 15 (sl.k0_mxu370 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_15 c i arg1 arg2 arg6 arg8 arg14 arg15 f1 f2 f6 f8 f14 f15))) :=
  (((e13 H).emit (by decide) (H.offq 13) H.hpq (oread H.oh (by decide) rfl) (lread H.xb (by decide) rfl)).emit (by decide) (H.offq 14) H.hpq (oread H.oh (by decide) rfl) (lread H.xb (by decide) rfl))

theorem e17 : At D g (tileOf c arg6 arg15 f6 f15) p (t + 1) q τ (t + 16) 17 (sl.k0_mxu376 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_17 c i arg1 arg2 arg6 arg8 arg14 arg15 f1 f2 f6 f8 f14 f15))) :=
  (((e15 H).emit (by decide) (H.offq 15) H.hpq (oread H.oh (by decide) rfl) (lread H.xb (by decide) rfl)).emit (by decide) (H.offq 16) H.hpq (oread H.oh (by decide) rfl) (lread H.xb (by decide) rfl))

theorem e20 : At D g (tileOf c arg6 arg15 f6 f15) p (t + 1) q τ (t + 16) 20 (sl.k0_mxu385 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_20 c i arg1 arg2 arg6 arg8 arg14 arg15 f1 f2 f6 f8 f14 f15))) :=
  ((((e17 H).emit (by decide) (H.offq 17) H.hpq (oread H.oh (by decide) rfl) (lread H.xb (by decide) rfl)).emit (by decide) (H.offq 18) H.hpq (oread H.oh (by decide) rfl) (lread H.xb (by decide) rfl)).emit (by decide) (H.offq 19) H.hpq (oread H.oh (by decide) rfl) (lread H.xb (by decide) rfl))

theorem e22 : At D g (tileOf c arg6 arg15 f6 f15) p (t + 1) q τ (t + 16) 22 (sl.k0_mxu391 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_22 c i arg1 arg2 arg6 arg8 arg14 arg15 f1 f2 f6 f8 f14 f15))) :=
  (((e20 H).emit (by decide) (H.offq 20) H.hpq (oread H.oh (by decide) rfl) (lread H.xb (by decide) rfl)).emit (by decide) (H.offq 21) H.hpq (oread H.oh (by decide) rfl) (lread H.xb (by decide) rfl))

theorem e25 : At D g (tileOf c arg6 arg15 f6 f15) p (t + 1) q τ (t + 16) 25 (sl.k0_mxu400 c i arg1 arg2 arg6 arg8 arg14 arg15 f1 f2 f6 f8 f14 f15)
    (sl.v561_r0 c i arg1 arg2 arg6 arg8 arg14 arg15 f1 f2 f6 f8 f14 f15) (sl.v559_r0 c i arg1 arg2 arg6 arg8 arg9 arg14 arg15 f1 f2 f6 f8 f9 f14 f15) (sl.v577_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((((e22 H).emit (by decide) (H.offq 22) H.hpq (oread H.oh (by decide) rfl) (lread H.xb (by decide) rfl)).emit (by decide) (H.offq 23) H.hpq (oread H.oh (by decide) rfl) (lread H.xb (by decide) rfl)).emit (by decide) (H.offq 24) H.hpq (oread H.oh (by decide) rfl) (lread H.xb (by decide) rfl))

theorem s17 : At D g (tileOf c arg6 arg15 f6 f15) p (t + 1) q τ (t + 17) 25 (sl.k0_mxu402 c i arg1 arg2 arg6 arg8 arg14 arg15 f1 f2 f6 f8 f14 f15)
    (sl.v742_r0 c i arg1 arg2 arg6 arg8 arg14 arg15 f1 f2 f6 f8 f14 f15) (sl.v559_r0 c i arg1 arg2 arg6 arg8 arg9 arg14 arg15 f1 f2 f6 f8 f9 f14 f15) (sl.v758_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((e25 H).plain rfl (by omega) (by omega) (xread H.x (T := t + 1) (G := 16) (j := 0) (by decide) (by decide) rfl)
    (eread (e25 H).cur (H.offp 16) H.hp (by decide) rfl) (ts_at H) (tm_at H) zeros_at mask_at)

theorem s18 : At D g (tileOf c arg6 arg15 f6 f15) p (t + 1) q τ (t + 18) 25 (sl.k0_mxu404 c i arg1 arg2 arg6 arg8 arg14 arg15 f1 f2 f6 f8 f14 f15)
    (sl.v765_r0 c i arg1 arg2 arg6 arg8 arg14 arg15 f1 f2 f6 f8 f14 f15) (sl.v559_r0 c i arg1 arg2 arg6 arg8 arg9 arg14 arg15 f1 f2 f6 f8 f9 f14 f15) (sl.v781_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s17 H).plain rfl (by omega) (by omega) (xread H.x (T := t + 1) (G := 16) (j := 1) (by decide) (by decide) rfl)
    (eread (s17 H).cur (H.offp 17) H.hp (by decide) rfl) (ts_at H) (tm_at H) zeros_at mask_at)

theorem s19 : At D g (tileOf c arg6 arg15 f6 f15) p (t + 1) q τ (t + 19) 25 (sl.k0_mxu406 c i arg1 arg2 arg6 arg8 arg14 arg15 f1 f2 f6 f8 f14 f15)
    (sl.v788_r0 c i arg1 arg2 arg6 arg8 arg14 arg15 f1 f2 f6 f8 f14 f15) (sl.v559_r0 c i arg1 arg2 arg6 arg8 arg9 arg14 arg15 f1 f2 f6 f8 f9 f14 f15) (sl.v804_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s18 H).plain rfl (by omega) (by omega) (xread H.x (T := t + 1) (G := 16) (j := 2) (by decide) (by decide) rfl)
    (eread (s18 H).cur (H.offp 18) H.hp (by decide) rfl) (ts_at H) (tm_at H) zeros_at mask_at)

theorem s20 : At D g (tileOf c arg6 arg15 f6 f15) p (t + 1) q τ (t + 20) 25 (sl.k0_mxu408 c i arg1 arg2 arg6 arg8 arg14 arg15 f1 f2 f6 f8 f14 f15)
    (sl.v820_r0 c i arg1 arg2 arg6 arg8 arg14 arg15 f1 f2 f6 f8 f14 f15) (sl.v818_r0 c i arg1 arg2 arg6 arg8 arg9 arg14 arg15 f1 f2 f6 f8 f9 f14 f15) (sl.v836_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s19 H).renorm rfl (by omega) (by omega) (xread H.x (T := t + 1) (G := 16) (j := 3) (by decide) (by decide) rfl) ones_at
    (eread (s19 H).cur (H.offp 19) H.hp (by decide) rfl) (ts_at H) (tm_at H) zeros_at mask_at)

theorem s21 : At D g (tileOf c arg6 arg15 f6 f15) p (t + 1) q τ (t + 21) 25 (sl.k0_mxu410 c i arg1 arg2 arg6 arg8 arg14 arg15 f1 f2 f6 f8 f14 f15)
    (sl.v843_r0 c i arg1 arg2 arg6 arg8 arg14 arg15 f1 f2 f6 f8 f14 f15) (sl.v818_r0 c i arg1 arg2 arg6 arg8 arg9 arg14 arg15 f1 f2 f6 f8 f9 f14 f15) (sl.v859_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s20 H).plain rfl (by omega) (by omega) (xread H.x (T := t + 1) (G := 16) (j := 4) (by decide) (by decide) rfl)
    (eread (s20 H).cur (H.offp 20) H.hp (by decide) rfl) (ts_at H) (tm_at H) zeros_at mask_at)

theorem s22 : At D g (tileOf c arg6 arg15 f6 f15) p (t + 1) q τ (t + 22) 25 (sl.k0_mxu412 c i arg1 arg2 arg6 arg8 arg14 arg15 f1 f2 f6 f8 f14 f15)
    (sl.v866_r0 c i arg1 arg2 arg6 arg8 arg14 arg15 f1 f2 f6 f8 f14 f15) (sl.v818_r0 c i arg1 arg2 arg6 arg8 arg9 arg14 arg15 f1 f2 f6 f8 f9 f14 f15) (sl.v882_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s21 H).plain rfl (by omega) (by omega) (xread H.x (T := t + 1) (G := 16) (j := 5) (by decide) (by decide) rfl)
    (eread (s21 H).cur (H.offp 21) H.hp (by decide) rfl) (ts_at H) (tm_at H) zeros_at mask_at)

theorem s23 : At D g (tileOf c arg6 arg15 f6 f15) p (t + 1) q τ (t + 23) 25 (sl.k0_mxu414 c i arg1 arg2 arg6 arg8 arg14 arg15 f1 f2 f6 f8 f14 f15)
    (sl.v889_r0 c i arg1 arg2 arg6 arg8 arg14 arg15 f1 f2 f6 f8 f14 f15) (sl.v818_r0 c i arg1 arg2 arg6 arg8 arg9 arg14 arg15 f1 f2 f6 f8 f9 f14 f15) (sl.v905_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s22 H).plain rfl (by omega) (by omega) (xread H.x (T := t + 1) (G := 16) (j := 6) (by decide) (by decide) rfl)
    (eread (s22 H).cur (H.offp 22) H.hp (by decide) rfl) (ts_at H) (tm_at H) zeros_at mask_at)

theorem s24 : At D g (tileOf c arg6 arg15 f6 f15) p (t + 1) q τ (t + 24) 25 (sl.k0_mxu416 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_25 c i arg1 arg2 arg6 arg8 arg14 arg15 f1 f2 f6 f8 f14 f15))) :=
  ((s23 H).renorm rfl (by omega) (by omega) (xread H.x (T := t + 1) (G := 16) (j := 7) (by decide) (by decide) rfl) ones_at
    (eread (s23 H).cur (H.offp 23) H.hp (by decide) rfl) (ts_at H) (tm_at H) zeros_at mask_at)

theorem e26 : At D g (tileOf c arg6 arg15 f6 f15) p (t + 1) q τ (t + 24) 26 (sl.k0_mxu419 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_26 c i arg1 arg2 arg6 arg8 arg14 arg15 f1 f2 f6 f8 f14 f15))) :=
  ((s24 H).emit (by decide) (H.offq 25) H.hpq (oread H.oh (by decide) rfl) (lread H.xb (by decide) rfl))

theorem e29 : At D g (tileOf c arg6 arg15 f6 f15) p (t + 1) q τ (t + 24) 29 (sl.k0_mxu428 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_29 c i arg1 arg2 arg6 arg8 arg14 arg15 f1 f2 f6 f8 f14 f15))) :=
  ((((e26 H).emit (by decide) (H.offq 26) H.hpq (oread H.oh (by decide) rfl) (lread H.xb (by decide) rfl)).emit (by decide) (H.offq 27) H.hpq (oread H.oh (by decide) rfl) (lread H.xb (by decide) rfl)).emit (by decide) (H.offq 28) H.hpq (oread H.oh (by decide) rfl) (lread H.xb (by decide) rfl))

theorem e31 : At D g (tileOf c arg6 arg15 f6 f15) p (t + 1) q τ (t + 24) 31 (sl.k0_mxu434 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_31 c i arg1 arg2 arg6 arg8 arg14 arg15 f1 f2 f6 f8 f14 f15))) :=
  (((e29 H).emit (by decide) (H.offq 29) H.hpq (oread H.oh (by decide) rfl) (lread H.xb (by decide) rfl)).emit (by decide) (H.offq 30) H.hpq (oread H.oh (by decide) rfl) (lread H.xb (by decide) rfl))

theorem e33 : At D g (tileOf c arg6 arg15 f6 f15) p (t + 1) q τ (t + 24) 33 (sl.k0_mxu440 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_33 c i arg1 arg2 arg6 arg8 arg14 arg15 f1 f2 f6 f8 f14 f15))) :=
  (((e31 H).emit (by decide) (H.offq 31) H.hpq (oread H.oh (by decide) rfl) (lread H.xb (by decide) rfl)).emit (by decide) (H.offq 32) H.hpq (oread H.oh (by decide) rfl) (lread H.xb (by decide) rfl))

theorem e36 : At D g (tileOf c arg6 arg15 f6 f15) p (t + 1) q τ (t + 24) 36 (sl.k0_mxu449 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_36 c i arg1 arg2 arg6 arg8 arg14 arg15 f1 f2 f6 f8 f14 f15))) :=
  ((((e33 H).emit (by decide) (H.offq 33) H.hpq (oread H.oh (by decide) rfl) (lread H.xb (by decide) rfl)).emit (by decide) (H.offq 34) H.hpq (oread H.oh (by decide) rfl) (lread H.xb (by decide) rfl)).emit (by decide) (H.offq 35) H.hpq (oread H.oh (by decide) rfl) (lread H.xb (by decide) rfl))

theorem e38 : At D g (tileOf c arg6 arg15 f6 f15) p (t + 1) q τ (t + 24) 38 (sl.k0_mxu455 c i arg1 arg2 arg6 arg8 arg14 arg15 f1 f2 f6 f8 f14 f15)
    (sl.v921_r0 c i arg1 arg2 arg6 arg8 arg14 arg15 f1 f2 f6 f8 f14 f15) (sl.v919_r0 c i arg1 arg2 arg6 arg8 arg9 arg14 arg15 f1 f2 f6 f8 f9 f14 f15) (sl.v937_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  (((e36 H).emit (by decide) (H.offq 36) H.hpq (oread H.oh (by decide) rfl) (lread H.xb (by decide) rfl)).emit (by decide) (H.offq 37) H.hpq (oread H.oh (by decide) rfl) (lread H.xb (by decide) rfl))

theorem s25 : At D g (tileOf c arg6 arg15 f6 f15) p (t + 1) q τ (t + 25) 38 (sl.k0_mxu457 c i arg1 arg2 arg6 arg8 arg14 arg15 f1 f2 f6 f8 f14 f15)
    (sl.v1102_r0 c i arg1 arg2 arg6 arg8 arg14 arg15 f1 f2 f6 f8 f14 f15) (sl.v919_r0 c i arg1 arg2 arg6 arg8 arg9 arg14 arg15 f1 f2 f6 f8 f9 f14 f15) (sl.v1118_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((e38 H).plain rfl (by omega) (by omega) (xread H.x (T := t + 1) (G := 24) (j := 0) (by decide) (by decide) rfl)
    (eread (e38 H).cur (H.offp 24) H.hp (by decide) rfl) (ts_at H) (tm_at H) zeros_at mask_at)

theorem s26 : At D g (tileOf c arg6 arg15 f6 f15) p (t + 1) q τ (t + 26) 38 (sl.k0_mxu459 c i arg1 arg2 arg6 arg8 arg14 arg15 f1 f2 f6 f8 f14 f15)
    (sl.v1125_r0 c i arg1 arg2 arg6 arg8 arg14 arg15 f1 f2 f6 f8 f14 f15) (sl.v919_r0 c i arg1 arg2 arg6 arg8 arg9 arg14 arg15 f1 f2 f6 f8 f9 f14 f15) (sl.v1141_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s25 H).plain rfl (by omega) (by omega) (xread H.x (T := t + 1) (G := 24) (j := 1) (by decide) (by decide) rfl)
    (eread (s25 H).cur (H.offp 25) H.hp (by decide) rfl) (ts_at H) (tm_at H) zeros_at mask_at)

theorem s27 : At D g (tileOf c arg6 arg15 f6 f15) p (t + 1) q τ (t + 27) 38 (sl.k0_mxu461 c i arg1 arg2 arg6 arg8 arg14 arg15 f1 f2 f6 f8 f14 f15)
    (sl.v1148_r0 c i arg1 arg2 arg6 arg8 arg14 arg15 f1 f2 f6 f8 f14 f15) (sl.v919_r0 c i arg1 arg2 arg6 arg8 arg9 arg14 arg15 f1 f2 f6 f8 f9 f14 f15) (sl.v1164_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s26 H).plain rfl (by omega) (by omega) (xread H.x (T := t + 1) (G := 24) (j := 2) (by decide) (by decide) rfl)
    (eread (s26 H).cur (H.offp 26) H.hp (by decide) rfl) (ts_at H) (tm_at H) zeros_at mask_at)

theorem s28 : At D g (tileOf c arg6 arg15 f6 f15) p (t + 1) q τ (t + 28) 38 (sl.k0_mxu463 c i arg1 arg2 arg6 arg8 arg14 arg15 f1 f2 f6 f8 f14 f15)
    (sl.v1180_r0 c i arg1 arg2 arg6 arg8 arg14 arg15 f1 f2 f6 f8 f14 f15) (sl.v1178_r0 c i arg1 arg2 arg6 arg8 arg9 arg14 arg15 f1 f2 f6 f8 f9 f14 f15) (sl.v1196_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s27 H).renorm rfl (by omega) (by omega) (xread H.x (T := t + 1) (G := 24) (j := 3) (by decide) (by decide) rfl) ones_at
    (eread (s27 H).cur (H.offp 27) H.hp (by decide) rfl) (ts_at H) (tm_at H) zeros_at mask_at)

theorem s29 : At D g (tileOf c arg6 arg15 f6 f15) p (t + 1) q τ (t + 29) 38 (sl.k0_mxu465 c i arg1 arg2 arg6 arg8 arg14 arg15 f1 f2 f6 f8 f14 f15)
    (sl.v1203_r0 c i arg1 arg2 arg6 arg8 arg14 arg15 f1 f2 f6 f8 f14 f15) (sl.v1178_r0 c i arg1 arg2 arg6 arg8 arg9 arg14 arg15 f1 f2 f6 f8 f9 f14 f15) (sl.v1219_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s28 H).plain rfl (by omega) (by omega) (xread H.x (T := t + 1) (G := 24) (j := 4) (by decide) (by decide) rfl)
    (eread (s28 H).cur (H.offp 28) H.hp (by decide) rfl) (ts_at H) (tm_at H) zeros_at mask_at)

theorem s30 : At D g (tileOf c arg6 arg15 f6 f15) p (t + 1) q τ (t + 30) 38 (sl.k0_mxu467 c i arg1 arg2 arg6 arg8 arg14 arg15 f1 f2 f6 f8 f14 f15)
    (sl.v1226_r0 c i arg1 arg2 arg6 arg8 arg14 arg15 f1 f2 f6 f8 f14 f15) (sl.v1178_r0 c i arg1 arg2 arg6 arg8 arg9 arg14 arg15 f1 f2 f6 f8 f9 f14 f15) (sl.v1242_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s29 H).plain rfl (by omega) (by omega) (xread H.x (T := t + 1) (G := 24) (j := 5) (by decide) (by decide) rfl)
    (eread (s29 H).cur (H.offp 29) H.hp (by decide) rfl) (ts_at H) (tm_at H) zeros_at mask_at)

theorem s31 : At D g (tileOf c arg6 arg15 f6 f15) p (t + 1) q τ (t + 31) 38 (sl.k0_mxu469 c i arg1 arg2 arg6 arg8 arg14 arg15 f1 f2 f6 f8 f14 f15)
    (sl.v1249_r0 c i arg1 arg2 arg6 arg8 arg14 arg15 f1 f2 f6 f8 f14 f15) (sl.v1178_r0 c i arg1 arg2 arg6 arg8 arg9 arg14 arg15 f1 f2 f6 f8 f9 f14 f15) (sl.v1265_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s30 H).plain rfl (by omega) (by omega) (xread H.x (T := t + 1) (G := 24) (j := 6) (by decide) (by decide) rfl)
    (eread (s30 H).cur (H.offp 30) H.hp (by decide) rfl) (ts_at H) (tm_at H) zeros_at mask_at)

theorem s32 : At D g (tileOf c arg6 arg15 f6 f15) p (t + 1) q τ (t + 32) 38 (sl.k0_mxu471 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_38 c i arg1 arg2 arg6 arg8 arg14 arg15 f1 f2 f6 f8 f14 f15))) :=
  ((s31 H).renorm rfl (by omega) (by omega) (xread H.x (T := t + 1) (G := 24) (j := 7) (by decide) (by decide) rfl) ones_at
    (eread (s31 H).cur (H.offp 31) H.hp (by decide) rfl) (ts_at H) (tm_at H) zeros_at mask_at)

theorem e40 : At D g (tileOf c arg6 arg15 f6 f15) p (t + 1) q τ (t + 32) 40 (sl.k0_mxu477 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_40 c i arg1 arg2 arg6 arg8 arg14 arg15 f1 f2 f6 f8 f14 f15))) :=
  (((s32 H).emit (by decide) (H.offq 38) H.hpq (oread H.oh (by decide) rfl) (lread H.xb (by decide) rfl)).emit (by decide) (H.offq 39) H.hpq (oread H.oh (by decide) rfl) (lread H.xb (by decide) rfl))

theorem e42 : At D g (tileOf c arg6 arg15 f6 f15) p (t + 1) q τ (t + 32) 42 (sl.k0_mxu483 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_42 c i arg1 arg2 arg6 arg8 arg14 arg15 f1 f2 f6 f8 f14 f15))) :=
  (((e40 H).emit (by decide) (H.offq 40) H.hpq (oread H.oh (by decide) rfl) (lread H.xb (by decide) rfl)).emit (by decide) (H.offq 41) H.hpq (oread H.oh (by decide) rfl) (lread H.xb (by decide) rfl))

theorem e45 : At D g (tileOf c arg6 arg15 f6 f15) p (t + 1) q τ (t + 32) 45 (sl.k0_mxu492 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_45 c i arg1 arg2 arg6 arg8 arg14 arg15 f1 f2 f6 f8 f14 f15))) :=
  ((((e42 H).emit (by decide) (H.offq 42) H.hpq (oread H.oh (by decide) rfl) (lread H.xb (by decide) rfl)).emit (by decide) (H.offq 43) H.hpq (oread H.oh (by decide) rfl) (lread H.xb (by decide) rfl)).emit (by decide) (H.offq 44) H.hpq (oread H.oh (by decide) rfl) (lread H.xb (by decide) rfl))

theorem e47 : At D g (tileOf c arg6 arg15 f6 f15) p (t + 1) q τ (t + 32) 47 (sl.k0_mxu498 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_47 c i arg1 arg2 arg6 arg8 arg14 arg15 f1 f2 f6 f8 f14 f15))) :=
  (((e45 H).emit (by decide) (H.offq 45) H.hpq (oread H.oh (by decide) rfl) (lread H.xb (by decide) rfl)).emit (by decide) (H.offq 46) H.hpq (oread H.oh (by decide) rfl) (lread H.xb (by decide) rfl))

theorem e49 : At D g (tileOf c arg6 arg15 f6 f15) p (t + 1) q τ (t + 32) 49 (sl.k0_mxu504 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_49 c i arg1 arg2 arg6 arg8 arg14 arg15 f1 f2 f6 f8 f14 f15))) :=
  (((e47 H).emit (by decide) (H.offq 47) H.hpq (oread H.oh (by decide) rfl) (lread H.xb (by decide) rfl)).emit (by decide) (H.offq 48) H.hpq (oread H.oh (by decide) rfl) (lread H.xb (by decide) rfl))

theorem e51 : At D g (tileOf c arg6 arg15 f6 f15) p (t + 1) q τ (t + 32) 51 (sl.k0_mxu510 c i arg1 arg2 arg6 arg8 arg14 arg15 f1 f2 f6 f8 f14 f15)
    (sl.v1281_r0 c i arg1 arg2 arg6 arg8 arg14 arg15 f1 f2 f6 f8 f14 f15) (sl.v1279_r0 c i arg1 arg2 arg6 arg8 arg9 arg14 arg15 f1 f2 f6 f8 f9 f14 f15) (sl.v1297_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  (((e49 H).emit (by decide) (H.offq 49) H.hpq (oread H.oh (by decide) rfl) (lread H.xb (by decide) rfl)).emit (by decide) (H.offq 50) H.hpq (oread H.oh (by decide) rfl) (lread H.xb (by decide) rfl))

theorem s33 : At D g (tileOf c arg6 arg15 f6 f15) p (t + 1) q τ (t + 33) 51 (sl.k0_mxu512 c i arg1 arg2 arg6 arg8 arg14 arg15 f1 f2 f6 f8 f14 f15)
    (sl.v1462_r0 c i arg1 arg2 arg6 arg8 arg14 arg15 f1 f2 f6 f8 f14 f15) (sl.v1279_r0 c i arg1 arg2 arg6 arg8 arg9 arg14 arg15 f1 f2 f6 f8 f9 f14 f15) (sl.v1478_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((e51 H).plain rfl (by omega) (by omega) (xread H.x (T := t + 1) (G := 32) (j := 0) (by decide) (by decide) rfl)
    (eread (e51 H).cur (H.offp 32) H.hp (by decide) rfl) (ts_at H) (tm_at H) zeros_at mask_at)

theorem s34 : At D g (tileOf c arg6 arg15 f6 f15) p (t + 1) q τ (t + 34) 51 (sl.k0_mxu514 c i arg1 arg2 arg6 arg8 arg14 arg15 f1 f2 f6 f8 f14 f15)
    (sl.v1485_r0 c i arg1 arg2 arg6 arg8 arg14 arg15 f1 f2 f6 f8 f14 f15) (sl.v1279_r0 c i arg1 arg2 arg6 arg8 arg9 arg14 arg15 f1 f2 f6 f8 f9 f14 f15) (sl.v1501_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s33 H).plain rfl (by omega) (by omega) (xread H.x (T := t + 1) (G := 32) (j := 1) (by decide) (by decide) rfl)
    (eread (s33 H).cur (H.offp 33) H.hp (by decide) rfl) (ts_at H) (tm_at H) zeros_at mask_at)

theorem s35 : At D g (tileOf c arg6 arg15 f6 f15) p (t + 1) q τ (t + 35) 51 (sl.k0_mxu516 c i arg1 arg2 arg6 arg8 arg14 arg15 f1 f2 f6 f8 f14 f15)
    (sl.v1508_r0 c i arg1 arg2 arg6 arg8 arg14 arg15 f1 f2 f6 f8 f14 f15) (sl.v1279_r0 c i arg1 arg2 arg6 arg8 arg9 arg14 arg15 f1 f2 f6 f8 f9 f14 f15) (sl.v1524_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s34 H).plain rfl (by omega) (by omega) (xread H.x (T := t + 1) (G := 32) (j := 2) (by decide) (by decide) rfl)
    (eread (s34 H).cur (H.offp 34) H.hp (by decide) rfl) (ts_at H) (tm_at H) zeros_at mask_at)

theorem s36 : At D g (tileOf c arg6 arg15 f6 f15) p (t + 1) q τ (t + 36) 51 (sl.k0_mxu518 c i arg1 arg2 arg6 arg8 arg14 arg15 f1 f2 f6 f8 f14 f15)
    (sl.v1540_r0 c i arg1 arg2 arg6 arg8 arg14 arg15 f1 f2 f6 f8 f14 f15) (sl.v1538_r0 c i arg1 arg2 arg6 arg8 arg9 arg14 arg15 f1 f2 f6 f8 f9 f14 f15) (sl.v1556_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s35 H).renorm rfl (by omega) (by omega) (xread H.x (T := t + 1) (G := 32) (j := 3) (by decide) (by decide) rfl) ones_at
    (eread (s35 H).cur (H.offp 35) H.hp (by decide) rfl) (ts_at H) (tm_at H) zeros_at mask_at)

theorem s37 : At D g (tileOf c arg6 arg15 f6 f15) p (t + 1) q τ (t + 37) 51 (sl.k0_mxu520 c i arg1 arg2 arg6 arg8 arg14 arg15 f1 f2 f6 f8 f14 f15)
    (sl.v1563_r0 c i arg1 arg2 arg6 arg8 arg14 arg15 f1 f2 f6 f8 f14 f15) (sl.v1538_r0 c i arg1 arg2 arg6 arg8 arg9 arg14 arg15 f1 f2 f6 f8 f9 f14 f15) (sl.v1579_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s36 H).plain rfl (by omega) (by omega) (xread H.x (T := t + 1) (G := 32) (j := 4) (by decide) (by decide) rfl)
    (eread (s36 H).cur (H.offp 36) H.hp (by decide) rfl) (ts_at H) (tm_at H) zeros_at mask_at)

theorem s38 : At D g (tileOf c arg6 arg15 f6 f15) p (t + 1) q τ (t + 38) 51 (sl.k0_mxu522 c i arg1 arg2 arg6 arg8 arg14 arg15 f1 f2 f6 f8 f14 f15)
    (sl.v1586_r0 c i arg1 arg2 arg6 arg8 arg14 arg15 f1 f2 f6 f8 f14 f15) (sl.v1538_r0 c i arg1 arg2 arg6 arg8 arg9 arg14 arg15 f1 f2 f6 f8 f9 f14 f15) (sl.v1602_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s37 H).plain rfl (by omega) (by omega) (xread H.x (T := t + 1) (G := 32) (j := 5) (by decide) (by decide) rfl)
    (eread (s37 H).cur (H.offp 37) H.hp (by decide) rfl) (ts_at H) (tm_at H) zeros_at mask_at)

theorem s39 : At D g (tileOf c arg6 arg15 f6 f15) p (t + 1) q τ (t + 39) 51 (sl.k0_mxu524 c i arg1 arg2 arg6 arg8 arg14 arg15 f1 f2 f6 f8 f14 f15)
    (sl.v1609_r0 c i arg1 arg2 arg6 arg8 arg14 arg15 f1 f2 f6 f8 f14 f15) (sl.v1538_r0 c i arg1 arg2 arg6 arg8 arg9 arg14 arg15 f1 f2 f6 f8 f9 f14 f15) (sl.v1625_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s38 H).plain rfl (by omega) (by omega) (xread H.x (T := t + 1) (G := 32) (j := 6) (by decide) (by decide) rfl)
    (eread (s38 H).cur (H.offp 38) H.hp (by decide) rfl) (ts_at H) (tm_at H) zeros_at mask_at)

theorem s40 : At D g (tileOf c arg6 arg15 f6 f15) p (t + 1) q τ (t + 40) 51 (sl.k0_mxu526 c i arg1 arg2 arg6 arg8 arg14 arg15 f1 f2 f6 f8 f14 f15)
    (sl.v1641_r0 c i arg1 arg2 arg6 arg8 arg14 arg15 f1 f2 f6 f8 f14 f15) (sl.v1639_r0 c i arg1 arg2 arg6 arg8 arg9 arg14 arg15 f1 f2 f6 f8 f9 f14 f15) (sl.v1657_r0 c i arg1 arg2 arg6 arg8 arg10 arg11 arg12 arg13 arg14 arg15 f1 f2 f6 f8 f10 f11 f12 f13 f14 f15)
    (arg13.view.read (Elt Ideal) (arg13.view.writes (Elt Ideal) f13 (sl.H13_51 c i arg1 arg2 arg6 arg8 arg14 arg15 f1 f2 f6 f8 f14 f15))) :=
  ((s39 H).renorm rfl (by omega) (by omega) (xread H.x (T := t + 1) (G := 32) (j := 7) (by decide) (by decide) rfl) ones_at
    (eread (s39 H).cur (H.offp 39) H.hp (by decide) rfl) (ts_at H) (tm_at H) zeros_at mask_at)

theorem e53 : At D g (tileOf c arg6 arg15 f6 f15) p (t + 1) q τ (t + 40) 53 (sl.k0_mxu532 c i arg1 arg2 arg6 arg8 arg14 arg15 f1 f2 f6 f8 f14 f15)
    (sl.v1641_r0 c i arg1 arg2 arg6 arg8 arg14 arg15 f1 f2 f6 f8 f14 f15) (sl.v1639_r0 c i arg1 arg2 arg6 arg8 arg9 arg14 arg15 f1 f2 f6 f8 f9 f14 f15) (sl.v1657_r0 c i arg1 arg2 arg6 arg8 arg10 arg11 arg12 arg13 arg14 arg15 f1 f2 f6 f8 f10 f11 f12 f13 f14 f15)
    (arg13.view.read (Elt Ideal) (arg13.view.writes (Elt Ideal) f13 (sl.H13_53 c i arg1 arg2 arg6 arg8 arg14 arg15 f1 f2 f6 f8 f14 f15))) :=
  (((s40 H).emit (by decide) (H.offq 51) H.hpq (oread H.oh (by decide) rfl) (lread H.xb (by decide) rfl)).emit (by decide) (H.offq 52) H.hpq (oread H.oh (by decide) rfl) (lread H.xb (by decide) rfl))

theorem e56 : At D g (tileOf c arg6 arg15 f6 f15) p (t + 1) q τ (t + 40) 56 (sl.k0_mxu541 c i arg1 arg2 arg6 arg8 arg14 arg15 f1 f2 f6 f8 f14 f15)
    (sl.v1641_r0 c i arg1 arg2 arg6 arg8 arg14 arg15 f1 f2 f6 f8 f14 f15) (sl.v1639_r0 c i arg1 arg2 arg6 arg8 arg9 arg14 arg15 f1 f2 f6 f8 f9 f14 f15) (sl.v1657_r0 c i arg1 arg2 arg6 arg8 arg10 arg11 arg12 arg13 arg14 arg15 f1 f2 f6 f8 f10 f11 f12 f13 f14 f15)
    (arg13.view.read (Elt Ideal) (arg13.view.writes (Elt Ideal) f13 (sl.H13_56 c i arg1 arg2 arg6 arg8 arg14 arg15 f1 f2 f6 f8 f14 f15))) :=
  ((((e53 H).emit (by decide) (H.offq 53) H.hpq (oread H.oh (by decide) rfl) (lread H.xb (by decide) rfl)).emit (by decide) (H.offq 54) H.hpq (oread H.oh (by decide) rfl) (lread H.xb (by decide) rfl)).emit (by decide) (H.offq 55) H.hpq (oread H.oh (by decide) rfl) (lread H.xb (by decide) rfl))

theorem e58 : At D g (tileOf c arg6 arg15 f6 f15) p (t + 1) q τ (t + 40) 58 (sl.k0_mxu547 c i arg1 arg2 arg6 arg8 arg14 arg15 f1 f2 f6 f8 f14 f15)
    (sl.v1641_r0 c i arg1 arg2 arg6 arg8 arg14 arg15 f1 f2 f6 f8 f14 f15) (sl.v1639_r0 c i arg1 arg2 arg6 arg8 arg9 arg14 arg15 f1 f2 f6 f8 f9 f14 f15) (sl.v1657_r0 c i arg1 arg2 arg6 arg8 arg10 arg11 arg12 arg13 arg14 arg15 f1 f2 f6 f8 f10 f11 f12 f13 f14 f15)
    (arg13.view.read (Elt Ideal) (arg13.view.writes (Elt Ideal) f13 (sl.H13_58 c i arg1 arg2 arg6 arg8 arg14 arg15 f1 f2 f6 f8 f14 f15))) :=
  (((e56 H).emit (by decide) (H.offq 56) H.hpq (oread H.oh (by decide) rfl) (lread H.xb (by decide) rfl)).emit (by decide) (H.offq 57) H.hpq (oread H.oh (by decide) rfl) (lread H.xb (by decide) rfl))

theorem e61 : At D g (tileOf c arg6 arg15 f6 f15) p (t + 1) q τ (t + 40) 61 (sl.k0_mxu556 c i arg1 arg2 arg6 arg8 arg14 arg15 f1 f2 f6 f8 f14 f15)
    (sl.v1641_r0 c i arg1 arg2 arg6 arg8 arg14 arg15 f1 f2 f6 f8 f14 f15) (sl.v1639_r0 c i arg1 arg2 arg6 arg8 arg9 arg14 arg15 f1 f2 f6 f8 f9 f14 f15) (sl.v1657_r0 c i arg1 arg2 arg6 arg8 arg10 arg11 arg12 arg13 arg14 arg15 f1 f2 f6 f8 f10 f11 f12 f13 f14 f15)
    (arg13.view.read (Elt Ideal) (arg13.view.writes (Elt Ideal) f13 (sl.H13_61 c i arg1 arg2 arg6 arg8 arg14 arg15 f1 f2 f6 f8 f14 f15))) :=
  ((((e58 H).emit (by decide) (H.offq 58) H.hpq (oread H.oh (by decide) rfl) (lread H.xb (by decide) rfl)).emit (by decide) (H.offq 59) H.hpq (oread H.oh (by decide) rfl) (lread H.xb (by decide) rfl)).emit (by decide) (H.offq 60) H.hpq (oread H.oh (by decide) rfl) (lread H.xb (by decide) rfl))

theorem e64 : At D g (tileOf c arg6 arg15 f6 f15) p (t + 1) q τ (t + 40) 64 (sl.k0_mxu565 c i arg1 arg2 arg6 arg8 arg14 arg15 f1 f2 f6 f8 f14 f15)
    (sl.v1641_r0 c i arg1 arg2 arg6 arg8 arg14 arg15 f1 f2 f6 f8 f14 f15) (sl.v1639_r0 c i arg1 arg2 arg6 arg8 arg9 arg14 arg15 f1 f2 f6 f8 f9 f14 f15) (sl.v1657_r0 c i arg1 arg2 arg6 arg8 arg10 arg11 arg12 arg13 arg14 arg15 f1 f2 f6 f8 f10 f11 f12 f13 f14 f15)
    (arg13.view.read (Elt Ideal) (arg13.view.writes (Elt Ideal) f13 (sl.H13_64 c i arg1 arg2 arg6 arg8 arg14 arg15 f1 f2 f6 f8 f14 f15))) :=
  ((((e61 H).emit (by decide) (H.offq 61) H.hpq (oread H.oh (by decide) rfl) (lread H.xb (by decide) rfl)).emit (by decide) (H.offq 62) H.hpq (oread H.oh (by decide) rfl) (lread H.xb (by decide) rfl)).emit (by decide) (H.offq 63) H.hpq (oread H.oh (by decide) rfl) (lread H.xb (by decide) rfl))

end Cert.Proof.KI.Later

end
-- ==== Proof.Tables.lean ====
/-
  The grid's first point: the tables its targets fix and the first frames' emissions.
-/
module

public import proofs.«01_k».proof.Proof.First
public import proofs.«01_k».proof.Proof.LaterVal

@[expose] public section

set_option maxRecDepth 16384

noncomputable section

namespace Cert.Proof.KI.Start

open Cert.KernelIdeal Cert.KernelIdeal.Gen Cert.Proof Cert.Proof.KI Cert.Proof.KI.initRun
open Cert.Proof.KI.Later (zeros_at ones_at mask_at tile_at)
open Idealize.ShloMosaic Idealize.ShloMosaic.TcCoe

variable {D : Data} {g : ℝ}

/-- What the first point reads: the blocks of the point, and the largest transition score `g`. -/
structure Feed (D : Data) (g : ℝ) (c : Dev nD)
    (arg1 : Memref sig .tc .vmem S40x64x256 .bf16) (arg2 : Memref sig .tc .vmem S64x40x256 .f32) (arg3 : Memref sig .tc .vmem S64x40x256 .f32)
    (arg4 : Memref sig .tc .vmem S64x128 .i32) (arg6 : Memref sig .tc .vmem S256x256 .f32)
    (f1 : Bf (F := Ideal) c arg1) (f2 : Bf (F := Ideal) c arg2) (f3 : Bf (F := Ideal) c arg3) (f4 : Bf (F := Ideal) c arg4)
    (f6 : Bf (F := Ideal) c arg6) : Prop where
  x : ∀ (j : Fin 40) (b : Fin 64) (n : Fin 256), arg1.view.read (Elt Ideal) f1 (ix3 j b n) = ((D.x b (0 + j.val) n : ℝ) : EReal)
  xb : ∀ (b : Fin 64) (j : Fin 40) (n : Fin 256), arg2.view.read (Elt Ideal) f2 (ix3 b j n) = ((D.x b (40 + j.val) n : ℝ) : EReal)
  x0 : ∀ (b : Fin 64) (j : Fin 40) (n : Fin 256), arg3.view.read (Elt Ideal) f3 (ix3 b j n) = ((D.x b (0 + j.val) n : ℝ) : EReal)
  tg : ∀ b l, arg4.view.read (Elt Ideal) f4 (ix2 b l) = BitVec.ofNat 32 (D.tg b l).val
  tr : ∀ n k : Fin 256, arg6.view.read (Elt Ideal) f6 (ix2 n k) = ((D.tr n k : ℝ) : EReal)
  gm : sl.v1832_r0 c arg6 f6 = ((g : ℝ) : EReal)

variable {c : Dev nD}
    {arg1 : Memref sig .tc .vmem S40x64x256 .bf16} {arg2 : Memref sig .tc .vmem S64x40x256 .f32} {arg3 : Memref sig .tc .vmem S64x40x256 .f32}
    {arg4 : Memref sig .tc .vmem S64x128 .i32} {arg6 : Memref sig .tc .vmem S256x256 .f32}
    {arg8 : Memref sig .tc .vmem S64x256 .f32} {arg9 : Memref sig .tc .vmem S64x1 .f32} {arg10 : Memref sig .tc .vmem S64x128 .f32}
    {arg11 : Memref sig .tc .vmem S64x128 .f32} {arg12 : Memref sig .tc .vmem S64x128 .f32} {arg13 : Memref sig .tc .vmem S2x40x64x128 .f32}
    {arg14 : Memref sig .tc .vmem S64x256x256 .bf16}
    {f1 : Bf (F := Ideal) c arg1} {f2 : Bf (F := Ideal) c arg2} {f3 : Bf (F := Ideal) c arg3} {f4 : Bf (F := Ideal) c arg4}
    {f6 : Bf (F := Ideal) c arg6}
    (H : Feed D g c arg1 arg2 arg3 arg4 arg6 f1 f2 f3 f4 f6)

include H

theorem trs (n k : Fin 256) : (sl.v1834_r0 c arg6 f6) (ix2 n k) = ((D.tr n k : ℝ) : EReal) := by
  have e : (sl.v1834_r0 c arg6 f6) = truncf (F := Ideal) .bf16 (View.readAt (Elt Ideal) arg6.view (Rect.unit ![0, 0] S256x256.size inb_S256x256_S256x256_0_0).toLoadRect f6) bitsLt_bf16_f32 := rfl
  rw [e, View.readAt_full]
  exact H.tr n k

theorem Feed.row {n : ℕ} (hn : n < 64) {inb} {V : IVec S1x128 32} (hV : V = arg4.view.readAt (Elt Ideal) (Rect.unit (s := S64x128) ![n, 0] S1x128.size inb).toLoadRect f4)
    (k : Fin 256) (l : Fin 128) :
    (sitofp (F := Ideal) .f32 (extui 32 (cmpi .eq (iota .tc S256x128 32 [0] iota_S256x128_d0_w32) (broadcastTo S256x128 V broadcasts_S1x128_S256x128)) natLt_1_32)
      : FVec Ideal S256x128 .f32) (ix2 k l) = if k = D.tg ⟨n, hn⟩ l then 1 else 0 :=
  ohf_val (tgread H.tg hn hV) k l

omit H in
theorem p0 : Rows D Mxu.init (arg14.view.read (Elt Ideal) (arg14.view.writes (Elt Ideal) arg14.view.junk []))
    (arg11.view.read (Elt Ideal) (arg11.view.writes (Elt Ideal) arg11.view.junk []))
    (arg12.view.read (Elt Ideal) (arg12.view.writes (Elt Ideal) arg12.view.junk [])) 0 :=
  ⟨Calm.start, fun _ _ _ hb => absurd hb (Nat.not_lt_zero _), fun _ _ hb => absurd hb (Nat.not_lt_zero _), fun _ _ hb => absurd hb (Nat.not_lt_zero _)⟩

theorem p2 : Rows D (sl.k0_mxu5 c arg4 arg6 f4 f6) (arg14.view.read (Elt Ideal) (arg14.view.writes (Elt Ideal) arg14.view.junk (sl.H14_2 c arg4 f4)))
    (arg11.view.read (Elt Ideal) (arg11.view.writes (Elt Ideal) arg11.view.junk (sl.H11_2 c arg4 arg6 f4 f6)))
    (arg12.view.read (Elt Ideal) (arg12.view.writes (Elt Ideal) arg12.view.junk (sl.H12_2 c arg4 arg6 f4 f6))) 2 :=
  p0.pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p4 : Rows D (sl.k0_mxu8 c arg4 arg6 f4 f6) (arg14.view.read (Elt Ideal) (arg14.view.writes (Elt Ideal) arg14.view.junk (sl.H14_4 c arg4 f4)))
    (arg11.view.read (Elt Ideal) (arg11.view.writes (Elt Ideal) arg11.view.junk (sl.H11_4 c arg4 arg6 f4 f6)))
    (arg12.view.read (Elt Ideal) (arg12.view.writes (Elt Ideal) arg12.view.junk (sl.H12_4 c arg4 arg6 f4 f6))) 4 :=
  (p2 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p6 : Rows D (sl.k0_mxu11 c arg4 arg6 f4 f6) (arg14.view.read (Elt Ideal) (arg14.view.writes (Elt Ideal) arg14.view.junk (sl.H14_6 c arg4 f4)))
    (arg11.view.read (Elt Ideal) (arg11.view.writes (Elt Ideal) arg11.view.junk (sl.H11_6 c arg4 arg6 f4 f6)))
    (arg12.view.read (Elt Ideal) (arg12.view.writes (Elt Ideal) arg12.view.junk (sl.H12_6 c arg4 arg6 f4 f6))) 6 :=
  (p4 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p8 : Rows D (sl.k0_mxu14 c arg4 arg6 f4 f6) (arg14.view.read (Elt Ideal) (arg14.view.writes (Elt Ideal) arg14.view.junk (sl.H14_8 c arg4 f4)))
    (arg11.view.read (Elt Ideal) (arg11.view.writes (Elt Ideal) arg11.view.junk (sl.H11_8 c arg4 arg6 f4 f6)))
    (arg12.view.read (Elt Ideal) (arg12.view.writes (Elt Ideal) arg12.view.junk (sl.H12_8 c arg4 arg6 f4 f6))) 8 :=
  (p6 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p10 : Rows D (sl.k0_mxu17 c arg4 arg6 f4 f6) (arg14.view.read (Elt Ideal) (arg14.view.writes (Elt Ideal) arg14.view.junk (sl.H14_10 c arg4 f4)))
    (arg11.view.read (Elt Ideal) (arg11.view.writes (Elt Ideal) arg11.view.junk (sl.H11_10 c arg4 arg6 f4 f6)))
    (arg12.view.read (Elt Ideal) (arg12.view.writes (Elt Ideal) arg12.view.junk (sl.H12_10 c arg4 arg6 f4 f6))) 10 :=
  (p8 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p12 : Rows D (sl.k0_mxu20 c arg4 arg6 f4 f6) (arg14.view.read (Elt Ideal) (arg14.view.writes (Elt Ideal) arg14.view.junk (sl.H14_12 c arg4 f4)))
    (arg11.view.read (Elt Ideal) (arg11.view.writes (Elt Ideal) arg11.view.junk (sl.H11_12 c arg4 arg6 f4 f6)))
    (arg12.view.read (Elt Ideal) (arg12.view.writes (Elt Ideal) arg12.view.junk (sl.H12_12 c arg4 arg6 f4 f6))) 12 :=
  (p10 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p14 : Rows D (sl.k0_mxu23 c arg4 arg6 f4 f6) (arg14.view.read (Elt Ideal) (arg14.view.writes (Elt Ideal) arg14.view.junk (sl.H14_14 c arg4 f4)))
    (arg11.view.read (Elt Ideal) (arg11.view.writes (Elt Ideal) arg11.view.junk (sl.H11_14 c arg4 arg6 f4 f6)))
    (arg12.view.read (Elt Ideal) (arg12.view.writes (Elt Ideal) arg12.view.junk (sl.H12_14 c arg4 arg6 f4 f6))) 14 :=
  (p12 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p16 : Rows D (sl.k0_mxu26 c arg4 arg6 f4 f6) (arg14.view.read (Elt Ideal) (arg14.view.writes (Elt Ideal) arg14.view.junk (sl.H14_16 c arg4 f4)))
    (arg11.view.read (Elt Ideal) (arg11.view.writes (Elt Ideal) arg11.view.junk (sl.H11_16 c arg4 arg6 f4 f6)))
    (arg12.view.read (Elt Ideal) (arg12.view.writes (Elt Ideal) arg12.view.junk (sl.H12_16 c arg4 arg6 f4 f6))) 16 :=
  (p14 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p18 : Rows D (sl.k0_mxu29 c arg4 arg6 f4 f6) (arg14.view.read (Elt Ideal) (arg14.view.writes (Elt Ideal) arg14.view.junk (sl.H14_18 c arg4 f4)))
    (arg11.view.read (Elt Ideal) (arg11.view.writes (Elt Ideal) arg11.view.junk (sl.H11_18 c arg4 arg6 f4 f6)))
    (arg12.view.read (Elt Ideal) (arg12.view.writes (Elt Ideal) arg12.view.junk (sl.H12_18 c arg4 arg6 f4 f6))) 18 :=
  (p16 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p20 : Rows D (sl.k0_mxu32 c arg4 arg6 f4 f6) (arg14.view.read (Elt Ideal) (arg14.view.writes (Elt Ideal) arg14.view.junk (sl.H14_20 c arg4 f4)))
    (arg11.view.read (Elt Ideal) (arg11.view.writes (Elt Ideal) arg11.view.junk (sl.H11_20 c arg4 arg6 f4 f6)))
    (arg12.view.read (Elt Ideal) (arg12.view.writes (Elt Ideal) arg12.view.junk (sl.H12_20 c arg4 arg6 f4 f6))) 20 :=
  (p18 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p22 : Rows D (sl.k0_mxu35 c arg4 arg6 f4 f6) (arg14.view.read (Elt Ideal) (arg14.view.writes (Elt Ideal) arg14.view.junk (sl.H14_22 c arg4 f4)))
    (arg11.view.read (Elt Ideal) (arg11.view.writes (Elt Ideal) arg11.view.junk (sl.H11_22 c arg4 arg6 f4 f6)))
    (arg12.view.read (Elt Ideal) (arg12.view.writes (Elt Ideal) arg12.view.junk (sl.H12_22 c arg4 arg6 f4 f6))) 22 :=
  (p20 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p24 : Rows D (sl.k0_mxu38 c arg4 arg6 f4 f6) (arg14.view.read (Elt Ideal) (arg14.view.writes (Elt Ideal) arg14.view.junk (sl.H14_24 c arg4 f4)))
    (arg11.view.read (Elt Ideal) (arg11.view.writes (Elt Ideal) arg11.view.junk (sl.H11_24 c arg4 arg6 f4 f6)))
    (arg12.view.read (Elt Ideal) (arg12.view.writes (Elt Ideal) arg12.view.junk (sl.H12_24 c arg4 arg6 f4 f6))) 24 :=
  (p22 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p26 : Rows D (sl.k0_mxu41 c arg4 arg6 f4 f6) (arg14.view.read (Elt Ideal) (arg14.view.writes (Elt Ideal) arg14.view.junk (sl.H14_26 c arg4 f4)))
    (arg11.view.read (Elt Ideal) (arg11.view.writes (Elt Ideal) arg11.view.junk (sl.H11_26 c arg4 arg6 f4 f6)))
    (arg12.view.read (Elt Ideal) (arg12.view.writes (Elt Ideal) arg12.view.junk (sl.H12_26 c arg4 arg6 f4 f6))) 26 :=
  (p24 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p28 : Rows D (sl.k0_mxu44 c arg4 arg6 f4 f6) (arg14.view.read (Elt Ideal) (arg14.view.writes (Elt Ideal) arg14.view.junk (sl.H14_28 c arg4 f4)))
    (arg11.view.read (Elt Ideal) (arg11.view.writes (Elt Ideal) arg11.view.junk (sl.H11_28 c arg4 arg6 f4 f6)))
    (arg12.view.read (Elt Ideal) (arg12.view.writes (Elt Ideal) arg12.view.junk (sl.H12_28 c arg4 arg6 f4 f6))) 28 :=
  (p26 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p30 : Rows D (sl.k0_mxu47 c arg4 arg6 f4 f6) (arg14.view.read (Elt Ideal) (arg14.view.writes (Elt Ideal) arg14.view.junk (sl.H14_30 c arg4 f4)))
    (arg11.view.read (Elt Ideal) (arg11.view.writes (Elt Ideal) arg11.view.junk (sl.H11_30 c arg4 arg6 f4 f6)))
    (arg12.view.read (Elt Ideal) (arg12.view.writes (Elt Ideal) arg12.view.junk (sl.H12_30 c arg4 arg6 f4 f6))) 30 :=
  (p28 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p32 : Rows D (sl.k0_mxu50 c arg4 arg6 f4 f6) (arg14.view.read (Elt Ideal) (arg14.view.writes (Elt Ideal) arg14.view.junk (sl.H14_32 c arg4 f4)))
    (arg11.view.read (Elt Ideal) (arg11.view.writes (Elt Ideal) arg11.view.junk (sl.H11_32 c arg4 arg6 f4 f6)))
    (arg12.view.read (Elt Ideal) (arg12.view.writes (Elt Ideal) arg12.view.junk (sl.H12_32 c arg4 arg6 f4 f6))) 32 :=
  (p30 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p34 : Rows D (sl.k0_mxu53 c arg4 arg6 f4 f6) (arg14.view.read (Elt Ideal) (arg14.view.writes (Elt Ideal) arg14.view.junk (sl.H14_34 c arg4 f4)))
    (arg11.view.read (Elt Ideal) (arg11.view.writes (Elt Ideal) arg11.view.junk (sl.H11_34 c arg4 arg6 f4 f6)))
    (arg12.view.read (Elt Ideal) (arg12.view.writes (Elt Ideal) arg12.view.junk (sl.H12_34 c arg4 arg6 f4 f6))) 34 :=
  (p32 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p36 : Rows D (sl.k0_mxu56 c arg4 arg6 f4 f6) (arg14.view.read (Elt Ideal) (arg14.view.writes (Elt Ideal) arg14.view.junk (sl.H14_36 c arg4 f4)))
    (arg11.view.read (Elt Ideal) (arg11.view.writes (Elt Ideal) arg11.view.junk (sl.H11_36 c arg4 arg6 f4 f6)))
    (arg12.view.read (Elt Ideal) (arg12.view.writes (Elt Ideal) arg12.view.junk (sl.H12_36 c arg4 arg6 f4 f6))) 36 :=
  (p34 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p38 : Rows D (sl.k0_mxu59 c arg4 arg6 f4 f6) (arg14.view.read (Elt Ideal) (arg14.view.writes (Elt Ideal) arg14.view.junk (sl.H14_38 c arg4 f4)))
    (arg11.view.read (Elt Ideal) (arg11.view.writes (Elt Ideal) arg11.view.junk (sl.H11_38 c arg4 arg6 f4 f6)))
    (arg12.view.read (Elt Ideal) (arg12.view.writes (Elt Ideal) arg12.view.junk (sl.H12_38 c arg4 arg6 f4 f6))) 38 :=
  (p36 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p40 : Rows D (sl.k0_mxu62 c arg4 arg6 f4 f6) (arg14.view.read (Elt Ideal) (arg14.view.writes (Elt Ideal) arg14.view.junk (sl.H14_40 c arg4 f4)))
    (arg11.view.read (Elt Ideal) (arg11.view.writes (Elt Ideal) arg11.view.junk (sl.H11_40 c arg4 arg6 f4 f6)))
    (arg12.view.read (Elt Ideal) (arg12.view.writes (Elt Ideal) arg12.view.junk (sl.H12_40 c arg4 arg6 f4 f6))) 40 :=
  (p38 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p42 : Rows D (sl.k0_mxu65 c arg4 arg6 f4 f6) (arg14.view.read (Elt Ideal) (arg14.view.writes (Elt Ideal) arg14.view.junk (sl.H14_42 c arg4 f4)))
    (arg11.view.read (Elt Ideal) (arg11.view.writes (Elt Ideal) arg11.view.junk (sl.H11_42 c arg4 arg6 f4 f6)))
    (arg12.view.read (Elt Ideal) (arg12.view.writes (Elt Ideal) arg12.view.junk (sl.H12_42 c arg4 arg6 f4 f6))) 42 :=
  (p40 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p44 : Rows D (sl.k0_mxu68 c arg4 arg6 f4 f6) (arg14.view.read (Elt Ideal) (arg14.view.writes (Elt Ideal) arg14.view.junk (sl.H14_44 c arg4 f4)))
    (arg11.view.read (Elt Ideal) (arg11.view.writes (Elt Ideal) arg11.view.junk (sl.H11_44 c arg4 arg6 f4 f6)))
    (arg12.view.read (Elt Ideal) (arg12.view.writes (Elt Ideal) arg12.view.junk (sl.H12_44 c arg4 arg6 f4 f6))) 44 :=
  (p42 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p46 : Rows D (sl.k0_mxu71 c arg4 arg6 f4 f6) (arg14.view.read (Elt Ideal) (arg14.view.writes (Elt Ideal) arg14.view.junk (sl.H14_46 c arg4 f4)))
    (arg11.view.read (Elt Ideal) (arg11.view.writes (Elt Ideal) arg11.view.junk (sl.H11_46 c arg4 arg6 f4 f6)))
    (arg12.view.read (Elt Ideal) (arg12.view.writes (Elt Ideal) arg12.view.junk (sl.H12_46 c arg4 arg6 f4 f6))) 46 :=
  (p44 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p48 : Rows D (sl.k0_mxu74 c arg4 arg6 f4 f6) (arg14.view.read (Elt Ideal) (arg14.view.writes (Elt Ideal) arg14.view.junk (sl.H14_48 c arg4 f4)))
    (arg11.view.read (Elt Ideal) (arg11.view.writes (Elt Ideal) arg11.view.junk (sl.H11_48 c arg4 arg6 f4 f6)))
    (arg12.view.read (Elt Ideal) (arg12.view.writes (Elt Ideal) arg12.view.junk (sl.H12_48 c arg4 arg6 f4 f6))) 48 :=
  (p46 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p50 : Rows D (sl.k0_mxu77 c arg4 arg6 f4 f6) (arg14.view.read (Elt Ideal) (arg14.view.writes (Elt Ideal) arg14.view.junk (sl.H14_50 c arg4 f4)))
    (arg11.view.read (Elt Ideal) (arg11.view.writes (Elt Ideal) arg11.view.junk (sl.H11_50 c arg4 arg6 f4 f6)))
    (arg12.view.read (Elt Ideal) (arg12.view.writes (Elt Ideal) arg12.view.junk (sl.H12_50 c arg4 arg6 f4 f6))) 50 :=
  (p48 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p52 : Rows D (sl.k0_mxu80 c arg4 arg6 f4 f6) (arg14.view.read (Elt Ideal) (arg14.view.writes (Elt Ideal) arg14.view.junk (sl.H14_52 c arg4 f4)))
    (arg11.view.read (Elt Ideal) (arg11.view.writes (Elt Ideal) arg11.view.junk (sl.H11_52 c arg4 arg6 f4 f6)))
    (arg12.view.read (Elt Ideal) (arg12.view.writes (Elt Ideal) arg12.view.junk (sl.H12_52 c arg4 arg6 f4 f6))) 52 :=
  (p50 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p54 : Rows D (sl.k0_mxu83 c arg4 arg6 f4 f6) (arg14.view.read (Elt Ideal) (arg14.view.writes (Elt Ideal) arg14.view.junk (sl.H14_54 c arg4 f4)))
    (arg11.view.read (Elt Ideal) (arg11.view.writes (Elt Ideal) arg11.view.junk (sl.H11_54 c arg4 arg6 f4 f6)))
    (arg12.view.read (Elt Ideal) (arg12.view.writes (Elt Ideal) arg12.view.junk (sl.H12_54 c arg4 arg6 f4 f6))) 54 :=
  (p52 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p56 : Rows D (sl.k0_mxu86 c arg4 arg6 f4 f6) (arg14.view.read (Elt Ideal) (arg14.view.writes (Elt Ideal) arg14.view.junk (sl.H14_56 c arg4 f4)))
    (arg11.view.read (Elt Ideal) (arg11.view.writes (Elt Ideal) arg11.view.junk (sl.H11_56 c arg4 arg6 f4 f6)))
    (arg12.view.read (Elt Ideal) (arg12.view.writes (Elt Ideal) arg12.view.junk (sl.H12_56 c arg4 arg6 f4 f6))) 56 :=
  (p54 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p58 : Rows D (sl.k0_mxu89 c arg4 arg6 f4 f6) (arg14.view.read (Elt Ideal) (arg14.view.writes (Elt Ideal) arg14.view.junk (sl.H14_58 c arg4 f4)))
    (arg11.view.read (Elt Ideal) (arg11.view.writes (Elt Ideal) arg11.view.junk (sl.H11_58 c arg4 arg6 f4 f6)))
    (arg12.view.read (Elt Ideal) (arg12.view.writes (Elt Ideal) arg12.view.junk (sl.H12_58 c arg4 arg6 f4 f6))) 58 :=
  (p56 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p60 : Rows D (sl.k0_mxu92 c arg4 arg6 f4 f6) (arg14.view.read (Elt Ideal) (arg14.view.writes (Elt Ideal) arg14.view.junk (sl.H14_60 c arg4 f4)))
    (arg11.view.read (Elt Ideal) (arg11.view.writes (Elt Ideal) arg11.view.junk (sl.H11_60 c arg4 arg6 f4 f6)))
    (arg12.view.read (Elt Ideal) (arg12.view.writes (Elt Ideal) arg12.view.junk (sl.H12_60 c arg4 arg6 f4 f6))) 60 :=
  (p58 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p62 : Rows D (sl.k0_mxu95 c arg4 arg6 f4 f6) (arg14.view.read (Elt Ideal) (arg14.view.writes (Elt Ideal) arg14.view.junk (sl.H14_62 c arg4 f4)))
    (arg11.view.read (Elt Ideal) (arg11.view.writes (Elt Ideal) arg11.view.junk (sl.H11_62 c arg4 arg6 f4 f6)))
    (arg12.view.read (Elt Ideal) (arg12.view.writes (Elt Ideal) arg12.view.junk (sl.H12_62 c arg4 arg6 f4 f6))) 62 :=
  (p60 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

theorem p64 : Rows D (sl.k0_mxu98 c arg4 arg6 f4 f6) (arg14.view.read (Elt Ideal) (arg14.view.writes (Elt Ideal) arg14.view.junk (sl.H14_64 c arg4 f4)))
    (arg11.view.read (Elt Ideal) (arg11.view.writes (Elt Ideal) arg11.view.junk (sl.H11_64 c arg4 arg6 f4 f6)))
    (arg12.view.read (Elt Ideal) (arg12.view.writes (Elt Ideal) arg12.view.junk (sl.H12_64 c arg4 arg6 f4 f6))) 64 :=
  (p62 H).pair (by decide) (by decide) (H.row (by decide) rfl) (H.row (by decide) rfl) (trs H) rfl rfl rfl
    (hc := concatenates_S256x128_S256x128_S256x256_d1) (hc0 := concatenates_S256x128_S256x128_S256x256_d1)
    (hc1 := concatenates_S256x128_S256x128_S256x256_d1) (hs0 := slices_S256x256_o0_0_S256x128) (hs1 := slices_S256x256_o0_128_S256x128)

/-- The row's indicator tile, at every row. -/
theorem ohs (b : Fin 64) (k : Fin 256) (l : Fin 128) : arg14.view.read (Elt Ideal) (arg14.view.writes (Elt Ideal) arg14.view.junk (sl.H14_64 c arg4 f4)) (ix3 b k ⟨l.val, by omega⟩)
    = if k = D.tg b l then 1 else 0 := (p64 (arg11 := sc3) (arg12 := sc4) H).oh b k l b.2

theorem ts_at (b : Fin 64) (l : Fin 128) : (sl.v7_r0 c arg4 arg6 arg11 f4 f6) (ix2 b l) = ((D.tr (D.tg b l) (D.tg b l) : ℝ) : EReal) := by
  rw [show sl.v7_r0 c arg4 arg6 arg11 f4 f6 = _ from View.readAt_full _ _ _]
  exact (p64 (arg12 := sc4) (arg14 := sc6) H).ts b l b.2

theorem tm_at (b : Fin 64) (l : Fin 128) : (sl.v8_r0 c arg4 arg6 arg12 f4 f6) (ix2 b l)
    = if h : l.val < 1 then ⊥ else ((D.tr (D.tg b l) (D.tg b ⟨l.val - 1, by omega⟩) : ℝ) : EReal) := by
  rw [show sl.v8_r0 c arg4 arg6 arg12 f4 f6 = _ from View.readAt_full _ _ _]
  exact (p64 (arg11 := sc3) (arg14 := sc6) H).tm b l b.2

theorem q0 : Seen D (sl.k0_mxu98 c arg4 arg6 f4 f6) (arg13.view.read (Elt Ideal) (arg13.view.writes (Elt Ideal) arg13.view.junk [])) 0 :=
  ⟨(p64 (arg11 := sc3) (arg12 := sc4) (arg14 := sc6) H).calm, fun _ _ _ b _ hb => absurd hb (Nat.not_lt_zero _)⟩

theorem q2 : Seen D (sl.k0_mxu104 c arg3 arg4 arg6 arg14 f3 f4 f6) (arg13.view.read (Elt Ideal) (arg13.view.writes (Elt Ideal) arg13.view.junk (sl.H13_2 c arg3 arg4 arg6 arg14 f3 f4 f6))) 2 :=
  (((q0 H).emit (by decide) (oread (ohs H) (by decide) rfl) (lread H.x0 (by decide) rfl)).emit (by decide) (oread (ohs H) (by decide) rfl) (lread H.x0 (by decide) rfl))

theorem q4 : Seen D (sl.k0_mxu110 c arg3 arg4 arg6 arg14 f3 f4 f6) (arg13.view.read (Elt Ideal) (arg13.view.writes (Elt Ideal) arg13.view.junk (sl.H13_4 c arg3 arg4 arg6 arg14 f3 f4 f6))) 4 :=
  (((q2 H).emit (by decide) (oread (ohs H) (by decide) rfl) (lread H.x0 (by decide) rfl)).emit (by decide) (oread (ohs H) (by decide) rfl) (lread H.x0 (by decide) rfl))

theorem q7 : Seen D (sl.k0_mxu119 c arg3 arg4 arg6 arg14 f3 f4 f6) (arg13.view.read (Elt Ideal) (arg13.view.writes (Elt Ideal) arg13.view.junk (sl.H13_7 c arg3 arg4 arg6 arg14 f3 f4 f6))) 7 :=
  ((((q4 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q9 : Seen D (sl.k0_mxu125 c arg3 arg4 arg6 arg14 f3 f4 f6) (arg13.view.read (Elt Ideal) (arg13.view.writes (Elt Ideal) arg13.view.junk (sl.H13_9 c arg3 arg4 arg6 arg14 f3 f4 f6))) 9 :=
  (((q7 H).emit (by decide) (oread (ohs H) (by decide) rfl) (lread H.x0 (by decide) rfl)).emit (by decide) (oread (ohs H) (by decide) rfl) (lread H.x0 (by decide) rfl))

theorem q12 : Seen D (sl.k0_mxu134 c arg3 arg4 arg6 arg14 f3 f4 f6) (arg13.view.read (Elt Ideal) (arg13.view.writes (Elt Ideal) arg13.view.junk (sl.H13_12 c arg3 arg4 arg6 arg14 f3 f4 f6))) 12 :=
  ((((q9 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q14 : Seen D (sl.k0_mxu140 c arg3 arg4 arg6 arg14 f3 f4 f6) (arg13.view.read (Elt Ideal) (arg13.view.writes (Elt Ideal) arg13.view.junk (sl.H13_14 c arg3 arg4 arg6 arg14 f3 f4 f6))) 14 :=
  (((q12 H).emit (by decide) (oread (ohs H) (by decide) rfl) (lread H.x0 (by decide) rfl)).emit (by decide) (oread (ohs H) (by decide) rfl) (lread H.x0 (by decide) rfl))

theorem q16 : Seen D (sl.k0_mxu146 c arg3 arg4 arg6 arg14 f3 f4 f6) (arg13.view.read (Elt Ideal) (arg13.view.writes (Elt Ideal) arg13.view.junk (sl.H13_16 c arg3 arg4 arg6 arg14 f3 f4 f6))) 16 :=
  (((q14 H).emit (by decide) (oread (ohs H) (by decide) rfl) (lread H.x0 (by decide) rfl)).emit (by decide) (oread (ohs H) (by decide) rfl) (lread H.x0 (by decide) rfl))

theorem q19 : Seen D (sl.k0_mxu155 c arg3 arg4 arg6 arg14 f3 f4 f6) (arg13.view.read (Elt Ideal) (arg13.view.writes (Elt Ideal) arg13.view.junk (sl.H13_19 c arg3 arg4 arg6 arg14 f3 f4 f6))) 19 :=
  ((((q16 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q21 : Seen D (sl.k0_mxu161 c arg3 arg4 arg6 arg14 f3 f4 f6) (arg13.view.read (Elt Ideal) (arg13.view.writes (Elt Ideal) arg13.view.junk (sl.H13_21 c arg3 arg4 arg6 arg14 f3 f4 f6))) 21 :=
  (((q19 H).emit (by decide) (oread (ohs H) (by decide) rfl) (lread H.x0 (by decide) rfl)).emit (by decide) (oread (ohs H) (by decide) rfl) (lread H.x0 (by decide) rfl))

theorem q24 : Seen D (sl.k0_mxu170 c arg3 arg4 arg6 arg14 f3 f4 f6) (arg13.view.read (Elt Ideal) (arg13.view.writes (Elt Ideal) arg13.view.junk (sl.H13_24 c arg3 arg4 arg6 arg14 f3 f4 f6))) 24 :=
  ((((q21 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q26 : Seen D (sl.k0_mxu176 c arg3 arg4 arg6 arg14 f3 f4 f6) (arg13.view.read (Elt Ideal) (arg13.view.writes (Elt Ideal) arg13.view.junk (sl.H13_26 c arg3 arg4 arg6 arg14 f3 f4 f6))) 26 :=
  (((q24 H).emit (by decide) (oread (ohs H) (by decide) rfl) (lread H.x0 (by decide) rfl)).emit (by decide) (oread (ohs H) (by decide) rfl) (lread H.x0 (by decide) rfl))

theorem q28 : Seen D (sl.k0_mxu182 c arg3 arg4 arg6 arg14 f3 f4 f6) (arg13.view.read (Elt Ideal) (arg13.view.writes (Elt Ideal) arg13.view.junk (sl.H13_28 c arg3 arg4 arg6 arg14 f3 f4 f6))) 28 :=
  (((q26 H).emit (by decide) (oread (ohs H) (by decide) rfl) (lread H.x0 (by decide) rfl)).emit (by decide) (oread (ohs H) (by decide) rfl) (lread H.x0 (by decide) rfl))

theorem q31 : Seen D (sl.k0_mxu191 c arg3 arg4 arg6 arg14 f3 f4 f6) (arg13.view.read (Elt Ideal) (arg13.view.writes (Elt Ideal) arg13.view.junk (sl.H13_31 c arg3 arg4 arg6 arg14 f3 f4 f6))) 31 :=
  ((((q28 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q33 : Seen D (sl.k0_mxu197 c arg3 arg4 arg6 arg14 f3 f4 f6) (arg13.view.read (Elt Ideal) (arg13.view.writes (Elt Ideal) arg13.view.junk (sl.H13_33 c arg3 arg4 arg6 arg14 f3 f4 f6))) 33 :=
  (((q31 H).emit (by decide) (oread (ohs H) (by decide) rfl) (lread H.x0 (by decide) rfl)).emit (by decide) (oread (ohs H) (by decide) rfl) (lread H.x0 (by decide) rfl))

theorem q36 : Seen D (sl.k0_mxu206 c arg3 arg4 arg6 arg14 f3 f4 f6) (arg13.view.read (Elt Ideal) (arg13.view.writes (Elt Ideal) arg13.view.junk (sl.H13_36 c arg3 arg4 arg6 arg14 f3 f4 f6))) 36 :=
  ((((q33 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q38 : Seen D (sl.k0_mxu212 c arg3 arg4 arg6 arg14 f3 f4 f6) (arg13.view.read (Elt Ideal) (arg13.view.writes (Elt Ideal) arg13.view.junk (sl.H13_38 c arg3 arg4 arg6 arg14 f3 f4 f6))) 38 :=
  (((q36 H).emit (by decide) (oread (ohs H) (by decide) rfl) (lread H.x0 (by decide) rfl)).emit (by decide) (oread (ohs H) (by decide) rfl) (lread H.x0 (by decide) rfl))

theorem q40 : Seen D (sl.k0_mxu218 c arg3 arg4 arg6 arg14 f3 f4 f6) (arg13.view.read (Elt Ideal) (arg13.view.writes (Elt Ideal) arg13.view.junk (sl.H13_40 c arg3 arg4 arg6 arg14 f3 f4 f6))) 40 :=
  (((q38 H).emit (by decide) (oread (ohs H) (by decide) rfl) (lread H.x0 (by decide) rfl)).emit (by decide) (oread (ohs H) (by decide) rfl) (lread H.x0 (by decide) rfl))

theorem q43 : Seen D (sl.k0_mxu227 c arg3 arg4 arg6 arg14 f3 f4 f6) (arg13.view.read (Elt Ideal) (arg13.view.writes (Elt Ideal) arg13.view.junk (sl.H13_43 c arg3 arg4 arg6 arg14 f3 f4 f6))) 43 :=
  ((((q40 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q45 : Seen D (sl.k0_mxu233 c arg3 arg4 arg6 arg14 f3 f4 f6) (arg13.view.read (Elt Ideal) (arg13.view.writes (Elt Ideal) arg13.view.junk (sl.H13_45 c arg3 arg4 arg6 arg14 f3 f4 f6))) 45 :=
  (((q43 H).emit (by decide) (oread (ohs H) (by decide) rfl) (lread H.x0 (by decide) rfl)).emit (by decide) (oread (ohs H) (by decide) rfl) (lread H.x0 (by decide) rfl))

theorem q48 : Seen D (sl.k0_mxu242 c arg3 arg4 arg6 arg14 f3 f4 f6) (arg13.view.read (Elt Ideal) (arg13.view.writes (Elt Ideal) arg13.view.junk (sl.H13_48 c arg3 arg4 arg6 arg14 f3 f4 f6))) 48 :=
  ((((q45 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q50 : Seen D (sl.k0_mxu248 c arg3 arg4 arg6 arg14 f3 f4 f6) (arg13.view.read (Elt Ideal) (arg13.view.writes (Elt Ideal) arg13.view.junk (sl.H13_50 c arg3 arg4 arg6 arg14 f3 f4 f6))) 50 :=
  (((q48 H).emit (by decide) (oread (ohs H) (by decide) rfl) (lread H.x0 (by decide) rfl)).emit (by decide) (oread (ohs H) (by decide) rfl) (lread H.x0 (by decide) rfl))

theorem q52 : Seen D (sl.k0_mxu254 c arg3 arg4 arg6 arg14 f3 f4 f6) (arg13.view.read (Elt Ideal) (arg13.view.writes (Elt Ideal) arg13.view.junk (sl.H13_52 c arg3 arg4 arg6 arg14 f3 f4 f6))) 52 :=
  (((q50 H).emit (by decide) (oread (ohs H) (by decide) rfl) (lread H.x0 (by decide) rfl)).emit (by decide) (oread (ohs H) (by decide) rfl) (lread H.x0 (by decide) rfl))

theorem q55 : Seen D (sl.k0_mxu263 c arg3 arg4 arg6 arg14 f3 f4 f6) (arg13.view.read (Elt Ideal) (arg13.view.writes (Elt Ideal) arg13.view.junk (sl.H13_55 c arg3 arg4 arg6 arg14 f3 f4 f6))) 55 :=
  ((((q52 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q57 : Seen D (sl.k0_mxu269 c arg3 arg4 arg6 arg14 f3 f4 f6) (arg13.view.read (Elt Ideal) (arg13.view.writes (Elt Ideal) arg13.view.junk (sl.H13_57 c arg3 arg4 arg6 arg14 f3 f4 f6))) 57 :=
  (((q55 H).emit (by decide) (oread (ohs H) (by decide) rfl) (lread H.x0 (by decide) rfl)).emit (by decide) (oread (ohs H) (by decide) rfl) (lread H.x0 (by decide) rfl))

theorem q60 : Seen D (sl.k0_mxu278 c arg3 arg4 arg6 arg14 f3 f4 f6) (arg13.view.read (Elt Ideal) (arg13.view.writes (Elt Ideal) arg13.view.junk (sl.H13_60 c arg3 arg4 arg6 arg14 f3 f4 f6))) 60 :=
  ((((q57 H).emit (by decide) (oread (ohs H) (by decide) rfl) (lread H.x0 (by decide) rfl)).emit (by decide) (oread (ohs H) (by decide) rfl) (lread H.x0 (by decide) rfl)).emit (by decide) (oread (ohs H) (by decide) rfl) (lread H.x0 (by decide) rfl))

theorem q62 : Seen D (sl.k0_mxu284 c arg3 arg4 arg6 arg14 f3 f4 f6) (arg13.view.read (Elt Ideal) (arg13.view.writes (Elt Ideal) arg13.view.junk (sl.H13_62 c arg3 arg4 arg6 arg14 f3 f4 f6))) 62 :=
  (((q60 H).emit (by decide) (oread (ohs H) (by decide) rfl) (lread H.x0 (by decide) rfl)).emit (by decide) (oread (ohs H) (by decide) rfl) (lread H.x0 (by decide) rfl))

theorem q64 : Seen D (sl.k0_mxu290 c arg3 arg4 arg6 arg14 f3 f4 f6) (arg13.view.read (Elt Ideal) (arg13.view.writes (Elt Ideal) arg13.view.junk (sl.H13_64 c arg3 arg4 arg6 arg14 f3 f4 f6))) 64 :=
  (((q62 H).emit (by decide) (oread (ohs H) (by decide) rfl) (lread H.x0 (by decide) rfl)).emit (by decide) (oread (ohs H) (by decide) rfl) (lread H.x0 (by decide) rfl))

end Cert.Proof.KI.Start

end
-- ==== Proof.StartVal.lean ====
/-
  The grid's first point: the state of the body frame by frame,
  to what the point leaves behind.
-/
module

public import proofs.«01_k».proof.Proof.Tables

@[expose] public section

set_option maxRecDepth 16384

noncomputable section

namespace Cert.Proof.KI.Start

open Cert.KernelIdeal Cert.KernelIdeal.Gen Cert.Proof Cert.Proof.KI Cert.Proof.KI.initRun
open Cert.Proof.KI.Later (zeros_at ones_at mask_at tile_at)
open Idealize.ShloMosaic Idealize.ShloMosaic.TcCoe

variable {D : Data} {g : ℝ}

variable {c : Dev nD}
    {arg1 : Memref sig .tc .vmem S40x64x256 .bf16} {arg2 : Memref sig .tc .vmem S64x40x256 .f32} {arg3 : Memref sig .tc .vmem S64x40x256 .f32}
    {arg4 : Memref sig .tc .vmem S64x128 .i32} {arg6 : Memref sig .tc .vmem S256x256 .f32}
    {arg8 : Memref sig .tc .vmem S64x256 .f32} {arg9 : Memref sig .tc .vmem S64x1 .f32} {arg10 : Memref sig .tc .vmem S64x128 .f32}
    {arg11 : Memref sig .tc .vmem S64x128 .f32} {arg12 : Memref sig .tc .vmem S64x128 .f32} {arg13 : Memref sig .tc .vmem S2x40x64x128 .f32}
    {arg14 : Memref sig .tc .vmem S64x256x256 .bf16}
    {f1 : Bf (F := Ideal) c arg1} {f2 : Bf (F := Ideal) c arg2} {f3 : Bf (F := Ideal) c arg3} {f4 : Bf (F := Ideal) c arg4}
    {f6 : Bf (F := Ideal) c arg6}
    (H : Feed D g c arg1 arg2 arg3 arg4 arg6 f1 f2 f3 f4 f6)

include H

/-- The transition tile the point pushes. -/
abbrev tileOf (c : Dev nD) (arg6 : Memref sig .tc .vmem S256x256 .f32) (f6 : Bf (F := Ideal) c arg6) : FVec Ideal S256x256 .bf16 :=
  k0_pay674 (View.readAt (Elt Ideal) arg6.view (Rect.unit ![0, 0] S256x256.size inb_S256x256_S256x256_0_0).toLoadRect f6) (sl.v1832_r0 c arg6 f6)

/-- The first frame's scores. -/
theorem x0_at (b : Fin 64) (n : Fin 256) : (sl.v4464_r0 c arg1 f1) (ix2 b n) = ((D.x b 0 n : ℝ) : EReal) := by
  refine (x0read (v := arg1.view) (f := f1) (inb := by decide) H.x ?_ b n : (sl.v4463_r0 c arg1 f1) (ix2 b n) = _)
  rfl

theorem fcc_at : FccAt D g 0 (sl.r_215 c arg1 arg8 f1) (sl.v20_r0 c arg1 arg9 f1) := by
  have e1 : sl.v20_r0 c arg1 arg9 f1 = k0_pay671 (sl.v4466_r0 c arg1 f1) :=
    (View.readAt_full _ _ _).trans (View.read_writes_full _ _ _ _ _)
  have e2 : sl.r_215 c arg1 arg8 f1 = k0_pay676 (sl.v4472_r0 c arg1 f1) :=
    congrArg k0_pay676 ((View.readAt_full _ _ _).trans (View.read_writes_full _ _ _ _ _))
  have e3 : ∀ b, ∃ r : ℝ, sl.v4466_r0 c arg1 f1 (ix2 b 0) = (r : EReal) := fun b => rowtop (x0 := sl.v4464_r0 c arg1 f1) (x0_at H) b
  rw [e1, e2]
  delta k0_pay671 k0_pay676 sl.v4472_r0 sl.v4469_r0 sl.v4468_r0 sl.v4467_r0
  exact fcc_start (x0 := sl.v4464_r0 c arg1 f1) (z0 := sl.v4466_r0 c arg1 f1) (x0_at H) e3

theorem fac_at (b : Fin 64) (l : Fin 128) : (sl.v21_r0 c arg3 arg4 arg6 arg10 arg13 arg14 f3 f4 f6) (ix2 b l) = D.beta 0 b l := by
  rw [show sl.v21_r0 c arg3 arg4 arg6 arg10 arg13 arg14 f3 f4 f6 = _ from (View.readAt_full _ _ _).trans (View.read_writes_full _ _ _ _ _)]
  exact fac_start (eread (q64 (arg13 := arg13) H).em rfl (by decide) (by decide) rfl) rfl b l

theorem s0 : At D g (tileOf c arg6 f6) 0 0 1 40 0 0 (sl.k0_mxu293 c arg3 arg4 arg6 arg14 f3 f4 f6)
    (sl.r_215 c arg1 arg8 f1) (sl.v20_r0 c arg1 arg9 f1) (sl.v21_r0 c arg3 arg4 arg6 arg10 arg13 arg14 f3 f4 f6)
    (arg13.view.read (Elt Ideal) (arg13.view.writes (Elt Ideal) arg13.view.junk (sl.H13_64 c arg3 arg4 arg6 arg14 f3 f4 f6))) :=
  ⟨(q64 (arg13 := arg13) H).calm.load 0 true _ _ _ _, tile_at _ _ (fun n k => by rw [View.readAt_full]; exact H.tr n k) H.gm, fcc_at (arg8 := arg8) (arg9 := arg9) H, fac_at (arg10 := arg10) (arg13 := arg13) (arg14 := arg14) H, (q64 (arg13 := arg13) H).em,
    fun _ _ _ b _ hb => absurd hb (Nat.not_lt_zero _)⟩
attribute [local irreducible] sl.k0_mxu293

theorem s1 : At D g (tileOf c arg6 f6) 0 0 1 40 0 0 (sl.k0_mxu295 c arg1 arg3 arg4 arg6 arg8 arg14 f1 f3 f4 f6)
    (sl.v48_r0 c arg1 arg3 arg4 arg6 arg8 arg14 f1 f3 f4 f6) (sl.v20_r0 c arg1 arg9 f1) (sl.v50_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ⟨(s0 (arg8 := arg8) (arg9 := arg9) (arg10 := arg10) (arg13 := arg13) (arg14 := arg14) H).calm.turn _ _ _ _, (s0 (arg8 := arg8) (arg9 := arg9) (arg10 := arg10) (arg13 := arg13) (arg14 := arg14) H).tile, fcc_at (arg8 := arg8) (arg9 := arg9) H, fac_at (arg10 := arg10) (arg13 := arg13) (arg14 := arg14) H, (s0 (arg8 := arg8) (arg9 := arg9) (arg10 := arg10) (arg13 := arg13) (arg14 := arg14) H).cur, (s0 (arg8 := arg8) (arg9 := arg9) (arg10 := arg10) (arg13 := arg13) (arg14 := arg14) H).nxt⟩
attribute [local irreducible] sl.k0_mxu295

theorem s2 : At D g (tileOf c arg6 f6) 0 0 1 40 1 0 (sl.k0_mxu297 c arg1 arg3 arg4 arg6 arg8 arg14 f1 f3 f4 f6)
    (sl.v57_r0 c arg1 arg3 arg4 arg6 arg8 arg14 f1 f3 f4 f6) (sl.v20_r0 c arg1 arg9 f1) (sl.v73_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s1 (arg8 := arg8) (arg9 := arg9) (arg10 := arg10) (arg11 := arg11) (arg12 := arg12) (arg13 := arg13) (arg14 := arg14) H).plain rfl (by omega) (by omega) (xread H.x (T := 0) (G := 0) (j := 1) (by decide) (by decide) rfl)
    (eread (s1 (arg8 := arg8) (arg9 := arg9) (arg10 := arg10) (arg11 := arg11) (arg12 := arg12) (arg13 := arg13) (arg14 := arg14) H).cur (p := 0) (j := 1) rfl (by decide) (by decide) rfl)
    (ts_at (arg11 := arg11) H) (tm_at (arg12 := arg12) H) zeros_at mask_at)
attribute [local irreducible] sl.k0_mxu297

theorem s3 : At D g (tileOf c arg6 f6) 0 0 1 40 2 0 (sl.k0_mxu299 c arg1 arg3 arg4 arg6 arg8 arg14 f1 f3 f4 f6)
    (sl.v80_r0 c arg1 arg3 arg4 arg6 arg8 arg14 f1 f3 f4 f6) (sl.v20_r0 c arg1 arg9 f1) (sl.v96_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s2 (arg8 := arg8) (arg9 := arg9) (arg10 := arg10) (arg11 := arg11) (arg12 := arg12) (arg13 := arg13) (arg14 := arg14) H).plain rfl (by omega) (by omega) (xread H.x (T := 0) (G := 0) (j := 2) (by decide) (by decide) rfl)
    (eread (s2 (arg8 := arg8) (arg9 := arg9) (arg10 := arg10) (arg11 := arg11) (arg12 := arg12) (arg13 := arg13) (arg14 := arg14) H).cur (p := 0) (j := 2) rfl (by decide) (by decide) rfl)
    (ts_at (arg11 := arg11) H) (tm_at (arg12 := arg12) H) zeros_at mask_at)
attribute [local irreducible] sl.k0_mxu299

theorem s4 : At D g (tileOf c arg6 f6) 0 0 1 40 3 0 (sl.k0_mxu301 c arg1 arg3 arg4 arg6 arg8 arg14 f1 f3 f4 f6)
    (sl.v112_r0 c arg1 arg3 arg4 arg6 arg8 arg14 f1 f3 f4 f6) (sl.v110_r0 c arg1 arg3 arg4 arg6 arg8 arg9 arg14 f1 f3 f4 f6) (sl.v128_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s3 (arg8 := arg8) (arg9 := arg9) (arg10 := arg10) (arg11 := arg11) (arg12 := arg12) (arg13 := arg13) (arg14 := arg14) H).renorm rfl (by omega) (by omega) (xread H.x (T := 0) (G := 0) (j := 3) (by decide) (by decide) rfl) ones_at
    (eread (s3 (arg8 := arg8) (arg9 := arg9) (arg10 := arg10) (arg11 := arg11) (arg12 := arg12) (arg13 := arg13) (arg14 := arg14) H).cur (p := 0) (j := 3) rfl (by decide) (by decide) rfl)
    (ts_at (arg11 := arg11) H) (tm_at (arg12 := arg12) H) zeros_at mask_at)
attribute [local irreducible] sl.k0_mxu301

theorem s5 : At D g (tileOf c arg6 f6) 0 0 1 40 4 0 (sl.k0_mxu303 c arg1 arg3 arg4 arg6 arg8 arg14 f1 f3 f4 f6)
    (sl.v135_r0 c arg1 arg3 arg4 arg6 arg8 arg14 f1 f3 f4 f6) (sl.v110_r0 c arg1 arg3 arg4 arg6 arg8 arg9 arg14 f1 f3 f4 f6) (sl.v151_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s4 (arg8 := arg8) (arg9 := arg9) (arg10 := arg10) (arg11 := arg11) (arg12 := arg12) (arg13 := arg13) (arg14 := arg14) H).plain rfl (by omega) (by omega) (xread H.x (T := 0) (G := 0) (j := 4) (by decide) (by decide) rfl)
    (eread (s4 (arg8 := arg8) (arg9 := arg9) (arg10 := arg10) (arg11 := arg11) (arg12 := arg12) (arg13 := arg13) (arg14 := arg14) H).cur (p := 0) (j := 4) rfl (by decide) (by decide) rfl)
    (ts_at (arg11 := arg11) H) (tm_at (arg12 := arg12) H) zeros_at mask_at)
attribute [local irreducible] sl.k0_mxu303

theorem s6 : At D g (tileOf c arg6 f6) 0 0 1 40 5 0 (sl.k0_mxu305 c arg1 arg3 arg4 arg6 arg8 arg14 f1 f3 f4 f6)
    (sl.v158_r0 c arg1 arg3 arg4 arg6 arg8 arg14 f1 f3 f4 f6) (sl.v110_r0 c arg1 arg3 arg4 arg6 arg8 arg9 arg14 f1 f3 f4 f6) (sl.v174_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s5 (arg8 := arg8) (arg9 := arg9) (arg10 := arg10) (arg11 := arg11) (arg12 := arg12) (arg13 := arg13) (arg14 := arg14) H).plain rfl (by omega) (by omega) (xread H.x (T := 0) (G := 0) (j := 5) (by decide) (by decide) rfl)
    (eread (s5 (arg8 := arg8) (arg9 := arg9) (arg10 := arg10) (arg11 := arg11) (arg12 := arg12) (arg13 := arg13) (arg14 := arg14) H).cur (p := 0) (j := 5) rfl (by decide) (by decide) rfl)
    (ts_at (arg11 := arg11) H) (tm_at (arg12 := arg12) H) zeros_at mask_at)
attribute [local irreducible] sl.k0_mxu305

theorem s7 : At D g (tileOf c arg6 f6) 0 0 1 40 6 0 (sl.k0_mxu307 c arg1 arg3 arg4 arg6 arg8 arg14 f1 f3 f4 f6)
    (sl.v181_r0 c arg1 arg3 arg4 arg6 arg8 arg14 f1 f3 f4 f6) (sl.v110_r0 c arg1 arg3 arg4 arg6 arg8 arg9 arg14 f1 f3 f4 f6) (sl.v197_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s6 (arg8 := arg8) (arg9 := arg9) (arg10 := arg10) (arg11 := arg11) (arg12 := arg12) (arg13 := arg13) (arg14 := arg14) H).plain rfl (by omega) (by omega) (xread H.x (T := 0) (G := 0) (j := 6) (by decide) (by decide) rfl)
    (eread (s6 (arg8 := arg8) (arg9 := arg9) (arg10 := arg10) (arg11 := arg11) (arg12 := arg12) (arg13 := arg13) (arg14 := arg14) H).cur (p := 0) (j := 6) rfl (by decide) (by decide) rfl)
    (ts_at (arg11 := arg11) H) (tm_at (arg12 := arg12) H) zeros_at mask_at)
attribute [local irreducible] sl.k0_mxu307

theorem s8 : At D g (tileOf c arg6 f6) 0 0 1 40 7 0 (sl.k0_mxu309 c arg1 arg3 arg4 arg6 arg8 arg14 f1 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_64 c arg3 arg4 arg6 arg14 f3 f4 f6))) :=
  ((s7 (arg8 := arg8) (arg9 := arg9) (arg10 := arg10) (arg11 := arg11) (arg12 := arg12) (arg13 := arg13) (arg14 := arg14) H).renorm rfl (by omega) (by omega) (xread H.x (T := 0) (G := 0) (j := 7) (by decide) (by decide) rfl) ones_at
    (eread (s7 (arg8 := arg8) (arg9 := arg9) (arg10 := arg10) (arg11 := arg11) (arg12 := arg12) (arg13 := arg13) (arg14 := arg14) H).cur (p := 0) (j := 7) rfl (by decide) (by decide) rfl)
    (ts_at (arg11 := arg11) H) (tm_at (arg12 := arg12) H) zeros_at mask_at)
attribute [local irreducible] sl.k0_mxu309

theorem e1 : At D g (tileOf c arg6 f6) 0 0 1 40 7 1 (sl.k0_mxu312 c arg1 arg2 arg3 arg4 arg6 arg8 arg14 f1 f2 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_65 c arg1 arg2 arg3 arg4 arg6 arg8 arg14 f1 f2 f3 f4 f6))) :=
  ((s8 (arg8 := arg8) (arg9 := arg9) (arg10 := arg10) (arg11 := arg11) (arg12 := arg12) (arg13 := arg13) (arg14 := arg14) H).emit (by decide) (rfl : _ = ![1, 0, 0, 0]) (by decide) (oread (ohs (arg14 := arg14) H) (by decide) rfl) (lread H.xb (by decide) rfl))
attribute [local irreducible] sl.k0_mxu312

theorem e4 : At D g (tileOf c arg6 f6) 0 0 1 40 7 4 (sl.k0_mxu321 c arg1 arg2 arg3 arg4 arg6 arg8 arg14 f1 f2 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_68 c arg1 arg2 arg3 arg4 arg6 arg8 arg14 f1 f2 f3 f4 f6))) :=
  ((((e1 (arg8 := arg8) (arg9 := arg9) (arg10 := arg10) (arg11 := arg11) (arg12 := arg12) (arg13 := arg13) (arg14 := arg14) H).emit (by decide) (rfl : _ = ![1, 0, 1, 0]) (by decide) (oread (ohs (arg14 := arg14) H) (by decide) rfl) (lread H.xb (by decide) rfl)).emit (by decide) (rfl : _ = ![1, 0, 2, 0]) (by decide) (oread (ohs (arg14 := arg14) H) (by decide) rfl) (lread H.xb (by decide) rfl)).emit (by decide) (rfl : _ = ![1, 0, 3, 0]) (by decide) (oread (ohs (arg14 := arg14) H) (by decide) rfl) (lread H.xb (by decide) rfl))
attribute [local irreducible] sl.k0_mxu321

theorem e6 : At D g (tileOf c arg6 f6) 0 0 1 40 7 6 (sl.k0_mxu327 c arg1 arg2 arg3 arg4 arg6 arg8 arg14 f1 f2 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_70 c arg1 arg2 arg3 arg4 arg6 arg8 arg14 f1 f2 f3 f4 f6))) :=
  (((e4 (arg8 := arg8) (arg9 := arg9) (arg10 := arg10) (arg11 := arg11) (arg12 := arg12) (arg13 := arg13) (arg14 := arg14) H).emit (by decide) (rfl : _ = ![1, 0, 4, 0]) (by decide) (oread (ohs (arg14 := arg14) H) (by decide) rfl) (lread H.xb (by decide) rfl)).emit (by decide) (rfl : _ = ![1, 0, 5, 0]) (by decide) (oread (ohs (arg14 := arg14) H) (by decide) rfl) (lread H.xb (by decide) rfl))
attribute [local irreducible] sl.k0_mxu327

theorem e9 : At D g (tileOf c arg6 f6) 0 0 1 40 7 9 (sl.k0_mxu336 c arg1 arg2 arg3 arg4 arg6 arg8 arg14 f1 f2 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_73 c arg1 arg2 arg3 arg4 arg6 arg8 arg14 f1 f2 f3 f4 f6))) :=
  ((((e6 (arg8 := arg8) (arg9 := arg9) (arg10 := arg10) (arg11 := arg11) (arg12 := arg12) (arg13 := arg13) (arg14 := arg14) H).emit (by decide) (rfl : _ = ![1, 0, 6, 0]) (by decide) (oread (ohs (arg14 := arg14) H) (by decide) rfl) (lread H.xb (by decide) rfl)).emit (by decide) (rfl : _ = ![1, 0, 7, 0]) (by decide) (oread (ohs (arg14 := arg14) H) (by decide) rfl) (lread H.xb (by decide) rfl)).emit (by decide) (rfl : _ = ![1, 0, 8, 0]) (by decide) (oread (ohs (arg14 := arg14) H) (by decide) rfl) (lread H.xb (by decide) rfl))
attribute [local irreducible] sl.k0_mxu336

theorem e11 : At D g (tileOf c arg6 f6) 0 0 1 40 7 11 (sl.k0_mxu342 c arg1 arg2 arg3 arg4 arg6 arg8 arg14 f1 f2 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_75 c arg1 arg2 arg3 arg4 arg6 arg8 arg14 f1 f2 f3 f4 f6))) :=
  (((e9 (arg8 := arg8) (arg9 := arg9) (arg10 := arg10) (arg11 := arg11) (arg12 := arg12) (arg13 := arg13) (arg14 := arg14) H).emit (by decide) (rfl : _ = ![1, 0, 9, 0]) (by decide) (oread (ohs (arg14 := arg14) H) (by decide) rfl) (lread H.xb (by decide) rfl)).emit (by decide) (rfl : _ = ![1, 0, 10, 0]) (by decide) (oread (ohs (arg14 := arg14) H) (by decide) rfl) (lread H.xb (by decide) rfl))
attribute [local irreducible] sl.k0_mxu342

theorem e12 : At D g (tileOf c arg6 f6) 0 0 1 40 7 12 (sl.k0_mxu345 c arg1 arg2 arg3 arg4 arg6 arg8 arg14 f1 f2 f3 f4 f6)
    (sl.v213_r0 c arg1 arg3 arg4 arg6 arg8 arg14 f1 f3 f4 f6) (sl.v211_r0 c arg1 arg3 arg4 arg6 arg8 arg9 arg14 f1 f3 f4 f6) (sl.v229_r0 c arg3 arg4 arg6 arg10 arg11 arg12 arg13 arg14 f3 f4 f6)
    (arg13.view.read (Elt Ideal) (arg13.view.writes (Elt Ideal) arg13.view.junk (sl.H13_76 c arg1 arg2 arg3 arg4 arg6 arg8 arg14 f1 f2 f3 f4 f6))) :=
  ((e11 (arg8 := arg8) (arg9 := arg9) (arg10 := arg10) (arg11 := arg11) (arg12 := arg12) (arg13 := arg13) (arg14 := arg14) H).emit (by decide) (rfl : _ = ![1, 0, 11, 0]) (by decide) (oread (ohs (arg14 := arg14) H) (by decide) rfl) (lread H.xb (by decide) rfl))
attribute [local irreducible] sl.k0_mxu345

theorem s9 : At D g (tileOf c arg6 f6) 0 0 1 40 8 12 (sl.k0_mxu347 c arg1 arg2 arg3 arg4 arg6 arg8 arg14 f1 f2 f3 f4 f6)
    (sl.v382_r0 c arg1 arg2 arg3 arg4 arg6 arg8 arg14 f1 f2 f3 f4 f6) (sl.v211_r0 c arg1 arg3 arg4 arg6 arg8 arg9 arg14 f1 f3 f4 f6) (sl.v398_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((e12 (arg8 := arg8) (arg9 := arg9) (arg10 := arg10) (arg11 := arg11) (arg12 := arg12) (arg13 := arg13) (arg14 := arg14) H).plain rfl (by omega) (by omega) (xread H.x (T := 0) (G := 8) (j := 0) (by decide) (by decide) rfl)
    (eread (e12 (arg8 := arg8) (arg9 := arg9) (arg10 := arg10) (arg11 := arg11) (arg12 := arg12) (arg13 := arg13) (arg14 := arg14) H).cur (p := 0) (j := 8) rfl (by decide) (by decide) rfl)
    (ts_at (arg11 := arg11) H) (tm_at (arg12 := arg12) H) zeros_at mask_at)
attribute [local irreducible] sl.k0_mxu347

theorem s10 : At D g (tileOf c arg6 f6) 0 0 1 40 9 12 (sl.k0_mxu349 c arg1 arg2 arg3 arg4 arg6 arg8 arg14 f1 f2 f3 f4 f6)
    (sl.v405_r0 c arg1 arg2 arg3 arg4 arg6 arg8 arg14 f1 f2 f3 f4 f6) (sl.v211_r0 c arg1 arg3 arg4 arg6 arg8 arg9 arg14 f1 f3 f4 f6) (sl.v421_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s9 (arg8 := arg8) (arg9 := arg9) (arg10 := arg10) (arg11 := arg11) (arg12 := arg12) (arg13 := arg13) (arg14 := arg14) H).plain rfl (by omega) (by omega) (xread H.x (T := 0) (G := 8) (j := 1) (by decide) (by decide) rfl)
    (eread (s9 (arg8 := arg8) (arg9 := arg9) (arg10 := arg10) (arg11 := arg11) (arg12 := arg12) (arg13 := arg13) (arg14 := arg14) H).cur (p := 0) (j := 9) rfl (by decide) (by decide) rfl)
    (ts_at (arg11 := arg11) H) (tm_at (arg12 := arg12) H) zeros_at mask_at)
attribute [local irreducible] sl.k0_mxu349

theorem s11 : At D g (tileOf c arg6 f6) 0 0 1 40 10 12 (sl.k0_mxu351 c arg1 arg2 arg3 arg4 arg6 arg8 arg14 f1 f2 f3 f4 f6)
    (sl.v428_r0 c arg1 arg2 arg3 arg4 arg6 arg8 arg14 f1 f2 f3 f4 f6) (sl.v211_r0 c arg1 arg3 arg4 arg6 arg8 arg9 arg14 f1 f3 f4 f6) (sl.v444_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s10 (arg8 := arg8) (arg9 := arg9) (arg10 := arg10) (arg11 := arg11) (arg12 := arg12) (arg13 := arg13) (arg14 := arg14) H).plain rfl (by omega) (by omega) (xread H.x (T := 0) (G := 8) (j := 2) (by decide) (by decide) rfl)
    (eread (s10 (arg8 := arg8) (arg9 := arg9) (arg10 := arg10) (arg11 := arg11) (arg12 := arg12) (arg13 := arg13) (arg14 := arg14) H).cur (p := 0) (j := 10) rfl (by decide) (by decide) rfl)
    (ts_at (arg11 := arg11) H) (tm_at (arg12 := arg12) H) zeros_at mask_at)
attribute [local irreducible] sl.k0_mxu351

theorem s12 : At D g (tileOf c arg6 f6) 0 0 1 40 11 12 (sl.k0_mxu353 c arg1 arg2 arg3 arg4 arg6 arg8 arg14 f1 f2 f3 f4 f6)
    (sl.v460_r0 c arg1 arg2 arg3 arg4 arg6 arg8 arg14 f1 f2 f3 f4 f6) (sl.v458_r0 c arg1 arg2 arg3 arg4 arg6 arg8 arg9 arg14 f1 f2 f3 f4 f6) (sl.v476_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s11 (arg8 := arg8) (arg9 := arg9) (arg10 := arg10) (arg11 := arg11) (arg12 := arg12) (arg13 := arg13) (arg14 := arg14) H).renorm rfl (by omega) (by omega) (xread H.x (T := 0) (G := 8) (j := 3) (by decide) (by decide) rfl) ones_at
    (eread (s11 (arg8 := arg8) (arg9 := arg9) (arg10 := arg10) (arg11 := arg11) (arg12 := arg12) (arg13 := arg13) (arg14 := arg14) H).cur (p := 0) (j := 11) rfl (by decide) (by decide) rfl)
    (ts_at (arg11 := arg11) H) (tm_at (arg12 := arg12) H) zeros_at mask_at)
attribute [local irreducible] sl.k0_mxu353

theorem s13 : At D g (tileOf c arg6 f6) 0 0 1 40 12 12 (sl.k0_mxu355 c arg1 arg2 arg3 arg4 arg6 arg8 arg14 f1 f2 f3 f4 f6)
    (sl.v483_r0 c arg1 arg2 arg3 arg4 arg6 arg8 arg14 f1 f2 f3 f4 f6) (sl.v458_r0 c arg1 arg2 arg3 arg4 arg6 arg8 arg9 arg14 f1 f2 f3 f4 f6) (sl.v499_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s12 (arg8 := arg8) (arg9 := arg9) (arg10 := arg10) (arg11 := arg11) (arg12 := arg12) (arg13 := arg13) (arg14 := arg14) H).plain rfl (by omega) (by omega) (xread H.x (T := 0) (G := 8) (j := 4) (by decide) (by decide) rfl)
    (eread (s12 (arg8 := arg8) (arg9 := arg9) (arg10 := arg10) (arg11 := arg11) (arg12 := arg12) (arg13 := arg13) (arg14 := arg14) H).cur (p := 0) (j := 12) rfl (by decide) (by decide) rfl)
    (ts_at (arg11 := arg11) H) (tm_at (arg12 := arg12) H) zeros_at mask_at)
attribute [local irreducible] sl.k0_mxu355

theorem s14 : At D g (tileOf c arg6 f6) 0 0 1 40 13 12 (sl.k0_mxu357 c arg1 arg2 arg3 arg4 arg6 arg8 arg14 f1 f2 f3 f4 f6)
    (sl.v506_r0 c arg1 arg2 arg3 arg4 arg6 arg8 arg14 f1 f2 f3 f4 f6) (sl.v458_r0 c arg1 arg2 arg3 arg4 arg6 arg8 arg9 arg14 f1 f2 f3 f4 f6) (sl.v522_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s13 (arg8 := arg8) (arg9 := arg9) (arg10 := arg10) (arg11 := arg11) (arg12 := arg12) (arg13 := arg13) (arg14 := arg14) H).plain rfl (by omega) (by omega) (xread H.x (T := 0) (G := 8) (j := 5) (by decide) (by decide) rfl)
    (eread (s13 (arg8 := arg8) (arg9 := arg9) (arg10 := arg10) (arg11 := arg11) (arg12 := arg12) (arg13 := arg13) (arg14 := arg14) H).cur (p := 0) (j := 13) rfl (by decide) (by decide) rfl)
    (ts_at (arg11 := arg11) H) (tm_at (arg12 := arg12) H) zeros_at mask_at)
attribute [local irreducible] sl.k0_mxu357

theorem s15 : At D g (tileOf c arg6 f6) 0 0 1 40 14 12 (sl.k0_mxu359 c arg1 arg2 arg3 arg4 arg6 arg8 arg14 f1 f2 f3 f4 f6)
    (sl.v529_r0 c arg1 arg2 arg3 arg4 arg6 arg8 arg14 f1 f2 f3 f4 f6) (sl.v458_r0 c arg1 arg2 arg3 arg4 arg6 arg8 arg9 arg14 f1 f2 f3 f4 f6) (sl.v545_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s14 (arg8 := arg8) (arg9 := arg9) (arg10 := arg10) (arg11 := arg11) (arg12 := arg12) (arg13 := arg13) (arg14 := arg14) H).plain rfl (by omega) (by omega) (xread H.x (T := 0) (G := 8) (j := 6) (by decide) (by decide) rfl)
    (eread (s14 (arg8 := arg8) (arg9 := arg9) (arg10 := arg10) (arg11 := arg11) (arg12 := arg12) (arg13 := arg13) (arg14 := arg14) H).cur (p := 0) (j := 14) rfl (by decide) (by decide) rfl)
    (ts_at (arg11 := arg11) H) (tm_at (arg12 := arg12) H) zeros_at mask_at)
attribute [local irreducible] sl.k0_mxu359

theorem s16 : At D g (tileOf c arg6 f6) 0 0 1 40 15 12 (sl.k0_mxu361 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_76 c arg1 arg2 arg3 arg4 arg6 arg8 arg14 f1 f2 f3 f4 f6))) :=
  ((s15 (arg8 := arg8) (arg9 := arg9) (arg10 := arg10) (arg11 := arg11) (arg12 := arg12) (arg13 := arg13) (arg14 := arg14) H).renorm rfl (by omega) (by omega) (xread H.x (T := 0) (G := 8) (j := 7) (by decide) (by decide) rfl) ones_at
    (eread (s15 (arg8 := arg8) (arg9 := arg9) (arg10 := arg10) (arg11 := arg11) (arg12 := arg12) (arg13 := arg13) (arg14 := arg14) H).cur (p := 0) (j := 15) rfl (by decide) (by decide) rfl)
    (ts_at (arg11 := arg11) H) (tm_at (arg12 := arg12) H) zeros_at mask_at)
attribute [local irreducible] sl.k0_mxu361

theorem e13 : At D g (tileOf c arg6 f6) 0 0 1 40 15 13 (sl.k0_mxu364 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_77 c arg1 arg2 arg3 arg4 arg6 arg8 arg14 f1 f2 f3 f4 f6))) :=
  ((s16 (arg8 := arg8) (arg9 := arg9) (arg10 := arg10) (arg11 := arg11) (arg12 := arg12) (arg13 := arg13) (arg14 := arg14) H).emit (by decide) (rfl : _ = ![1, 0, 12, 0]) (by decide) (oread (ohs (arg14 := arg14) H) (by decide) rfl) (lread H.xb (by decide) rfl))
attribute [local irreducible] sl.k0_mxu364

theorem e15 : At D g (tileOf c arg6 f6) 0 0 1 40 15 15 (sl.k0_mxu370 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_79 c arg1 arg2 arg3 arg4 arg6 arg8 arg14 f1 f2 f3 f4 f6))) :=
  (((e13 (arg8 := arg8) (arg9 := arg9) (arg10 := arg10) (arg11 := arg11) (arg12 := arg12) (arg13 := arg13) (arg14 := arg14) H).emit (by decide) (rfl : _ = ![1, 0, 13, 0]) (by decide) (oread (ohs (arg14 := arg14) H) (by decide) rfl) (lread H.xb (by decide) rfl)).emit (by decide) (rfl : _ = ![1, 0, 14, 0]) (by decide) (oread (ohs (arg14 := arg14) H) (by decide) rfl) (lread H.xb (by decide) rfl))
attribute [local irreducible] sl.k0_mxu370

theorem e17 : At D g (tileOf c arg6 f6) 0 0 1 40 15 17 (sl.k0_mxu376 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_81 c arg1 arg2 arg3 arg4 arg6 arg8 arg14 f1 f2 f3 f4 f6))) :=
  (((e15 (arg8 := arg8) (arg9 := arg9) (arg10 := arg10) (arg11 := arg11) (arg12 := arg12) (arg13 := arg13) (arg14 := arg14) H).emit (by decide) (rfl : _ = ![1, 0, 15, 0]) (by decide) (oread (ohs (arg14 := arg14) H) (by decide) rfl) (lread H.xb (by decide) rfl)).emit (by decide) (rfl : _ = ![1, 0, 16, 0]) (by decide) (oread (ohs (arg14 := arg14) H) (by decide) rfl) (lread H.xb (by decide) rfl))
attribute [local irreducible] sl.k0_mxu376

theorem e20 : At D g (tileOf c arg6 f6) 0 0 1 40 15 20 (sl.k0_mxu385 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_84 c arg1 arg2 arg3 arg4 arg6 arg8 arg14 f1 f2 f3 f4 f6))) :=
  ((((e17 (arg8 := arg8) (arg9 := arg9) (arg10 := arg10) (arg11 := arg11) (arg12 := arg12) (arg13 := arg13) (arg14 := arg14) H).emit (by decide) (rfl : _ = ![1, 0, 17, 0]) (by decide) (oread (ohs (arg14 := arg14) H) (by decide) rfl) (lread H.xb (by decide) rfl)).emit (by decide) (rfl : _ = ![1, 0, 18, 0]) (by decide) (oread (ohs (arg14 := arg14) H) (by decide) rfl) (lread H.xb (by decide) rfl)).emit (by decide) (rfl : _ = ![1, 0, 19, 0]) (by decide) (oread (ohs (arg14 := arg14) H) (by decide) rfl) (lread H.xb (by decide) rfl))
attribute [local irreducible] sl.k0_mxu385

theorem e22 : At D g (tileOf c arg6 f6) 0 0 1 40 15 22 (sl.k0_mxu391 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_86 c arg1 arg2 arg3 arg4 arg6 arg8 arg14 f1 f2 f3 f4 f6))) :=
  (((e20 (arg8 := arg8) (arg9 := arg9) (arg10 := arg10) (arg11 := arg11) (arg12 := arg12) (arg13 := arg13) (arg14 := arg14) H).emit (by decide) (rfl : _ = ![1, 0, 20, 0]) (by decide) (oread (ohs (arg14 := arg14) H) (by decide) rfl) (lread H.xb (by decide) rfl)).emit (by decide) (rfl : _ = ![1, 0, 21, 0]) (by decide) (oread (ohs (arg14 := arg14) H) (by decide) rfl) (lread H.xb (by decide) rfl))
attribute [local irreducible] sl.k0_mxu391

theorem e25 : At D g (tileOf c arg6 f6) 0 0 1 40 15 25 (sl.k0_mxu400 c arg1 arg2 arg3 arg4 arg6 arg8 arg14 f1 f2 f3 f4 f6)
    (sl.v561_r0 c arg1 arg2 arg3 arg4 arg6 arg8 arg14 f1 f2 f3 f4 f6) (sl.v559_r0 c arg1 arg2 arg3 arg4 arg6 arg8 arg9 arg14 f1 f2 f3 f4 f6) (sl.v577_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((((e22 (arg8 := arg8) (arg9 := arg9) (arg10 := arg10) (arg11 := arg11) (arg12 := arg12) (arg13 := arg13) (arg14 := arg14) H).emit (by decide) (rfl : _ = ![1, 0, 22, 0]) (by decide) (oread (ohs (arg14 := arg14) H) (by decide) rfl) (lread H.xb (by decide) rfl)).emit (by decide) (rfl : _ = ![1, 0, 23, 0]) (by decide) (oread (ohs (arg14 := arg14) H) (by decide) rfl) (lread H.xb (by decide) rfl)).emit (by decide) (rfl : _ = ![1, 0, 24, 0]) (by decide) (oread (ohs (arg14 := arg14) H) (by decide) rfl) (lread H.xb (by decide) rfl))
attribute [local irreducible] sl.k0_mxu400

theorem s17 : At D g (tileOf c arg6 f6) 0 0 1 40 16 25 (sl.k0_mxu402 c arg1 arg2 arg3 arg4 arg6 arg8 arg14 f1 f2 f3 f4 f6)
    (sl.v742_r0 c arg1 arg2 arg3 arg4 arg6 arg8 arg14 f1 f2 f3 f4 f6) (sl.v559_r0 c arg1 arg2 arg3 arg4 arg6 arg8 arg9 arg14 f1 f2 f3 f4 f6) (sl.v758_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((e25 (arg8 := arg8) (arg9 := arg9) (arg10 := arg10) (arg11 := arg11) (arg12 := arg12) (arg13 := arg13) (arg14 := arg14) H).plain rfl (by omega) (by omega) (xread H.x (T := 0) (G := 16) (j := 0) (by decide) (by decide) rfl)
    (eread (e25 (arg8 := arg8) (arg9 := arg9) (arg10 := arg10) (arg11 := arg11) (arg12 := arg12) (arg13 := arg13) (arg14 := arg14) H).cur (p := 0) (j := 16) rfl (by decide) (by decide) rfl)
    (ts_at (arg11 := arg11) H) (tm_at (arg12 := arg12) H) zeros_at mask_at)
attribute [local irreducible] sl.k0_mxu402

theorem s18 : At D g (tileOf c arg6 f6) 0 0 1 40 17 25 (sl.k0_mxu404 c arg1 arg2 arg3 arg4 arg6 arg8 arg14 f1 f2 f3 f4 f6)
    (sl.v765_r0 c arg1 arg2 arg3 arg4 arg6 arg8 arg14 f1 f2 f3 f4 f6) (sl.v559_r0 c arg1 arg2 arg3 arg4 arg6 arg8 arg9 arg14 f1 f2 f3 f4 f6) (sl.v781_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s17 (arg8 := arg8) (arg9 := arg9) (arg10 := arg10) (arg11 := arg11) (arg12 := arg12) (arg13 := arg13) (arg14 := arg14) H).plain rfl (by omega) (by omega) (xread H.x (T := 0) (G := 16) (j := 1) (by decide) (by decide) rfl)
    (eread (s17 (arg8 := arg8) (arg9 := arg9) (arg10 := arg10) (arg11 := arg11) (arg12 := arg12) (arg13 := arg13) (arg14 := arg14) H).cur (p := 0) (j := 17) rfl (by decide) (by decide) rfl)
    (ts_at (arg11 := arg11) H) (tm_at (arg12 := arg12) H) zeros_at mask_at)
attribute [local irreducible] sl.k0_mxu404

theorem s19 : At D g (tileOf c arg6 f6) 0 0 1 40 18 25 (sl.k0_mxu406 c arg1 arg2 arg3 arg4 arg6 arg8 arg14 f1 f2 f3 f4 f6)
    (sl.v788_r0 c arg1 arg2 arg3 arg4 arg6 arg8 arg14 f1 f2 f3 f4 f6) (sl.v559_r0 c arg1 arg2 arg3 arg4 arg6 arg8 arg9 arg14 f1 f2 f3 f4 f6) (sl.v804_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s18 (arg8 := arg8) (arg9 := arg9) (arg10 := arg10) (arg11 := arg11) (arg12 := arg12) (arg13 := arg13) (arg14 := arg14) H).plain rfl (by omega) (by omega) (xread H.x (T := 0) (G := 16) (j := 2) (by decide) (by decide) rfl)
    (eread (s18 (arg8 := arg8) (arg9 := arg9) (arg10 := arg10) (arg11 := arg11) (arg12 := arg12) (arg13 := arg13) (arg14 := arg14) H).cur (p := 0) (j := 18) rfl (by decide) (by decide) rfl)
    (ts_at (arg11 := arg11) H) (tm_at (arg12 := arg12) H) zeros_at mask_at)
attribute [local irreducible] sl.k0_mxu406

theorem s20 : At D g (tileOf c arg6 f6) 0 0 1 40 19 25 (sl.k0_mxu408 c arg1 arg2 arg3 arg4 arg6 arg8 arg14 f1 f2 f3 f4 f6)
    (sl.v820_r0 c arg1 arg2 arg3 arg4 arg6 arg8 arg14 f1 f2 f3 f4 f6) (sl.v818_r0 c arg1 arg2 arg3 arg4 arg6 arg8 arg9 arg14 f1 f2 f3 f4 f6) (sl.v836_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s19 (arg8 := arg8) (arg9 := arg9) (arg10 := arg10) (arg11 := arg11) (arg12 := arg12) (arg13 := arg13) (arg14 := arg14) H).renorm rfl (by omega) (by omega) (xread H.x (T := 0) (G := 16) (j := 3) (by decide) (by decide) rfl) ones_at
    (eread (s19 (arg8 := arg8) (arg9 := arg9) (arg10 := arg10) (arg11 := arg11) (arg12 := arg12) (arg13 := arg13) (arg14 := arg14) H).cur (p := 0) (j := 19) rfl (by decide) (by decide) rfl)
    (ts_at (arg11 := arg11) H) (tm_at (arg12 := arg12) H) zeros_at mask_at)
attribute [local irreducible] sl.k0_mxu408

theorem s21 : At D g (tileOf c arg6 f6) 0 0 1 40 20 25 (sl.k0_mxu410 c arg1 arg2 arg3 arg4 arg6 arg8 arg14 f1 f2 f3 f4 f6)
    (sl.v843_r0 c arg1 arg2 arg3 arg4 arg6 arg8 arg14 f1 f2 f3 f4 f6) (sl.v818_r0 c arg1 arg2 arg3 arg4 arg6 arg8 arg9 arg14 f1 f2 f3 f4 f6) (sl.v859_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s20 (arg8 := arg8) (arg9 := arg9) (arg10 := arg10) (arg11 := arg11) (arg12 := arg12) (arg13 := arg13) (arg14 := arg14) H).plain rfl (by omega) (by omega) (xread H.x (T := 0) (G := 16) (j := 4) (by decide) (by decide) rfl)
    (eread (s20 (arg8 := arg8) (arg9 := arg9) (arg10 := arg10) (arg11 := arg11) (arg12 := arg12) (arg13 := arg13) (arg14 := arg14) H).cur (p := 0) (j := 20) rfl (by decide) (by decide) rfl)
    (ts_at (arg11 := arg11) H) (tm_at (arg12 := arg12) H) zeros_at mask_at)
attribute [local irreducible] sl.k0_mxu410

theorem s22 : At D g (tileOf c arg6 f6) 0 0 1 40 21 25 (sl.k0_mxu412 c arg1 arg2 arg3 arg4 arg6 arg8 arg14 f1 f2 f3 f4 f6)
    (sl.v866_r0 c arg1 arg2 arg3 arg4 arg6 arg8 arg14 f1 f2 f3 f4 f6) (sl.v818_r0 c arg1 arg2 arg3 arg4 arg6 arg8 arg9 arg14 f1 f2 f3 f4 f6) (sl.v882_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s21 (arg8 := arg8) (arg9 := arg9) (arg10 := arg10) (arg11 := arg11) (arg12 := arg12) (arg13 := arg13) (arg14 := arg14) H).plain rfl (by omega) (by omega) (xread H.x (T := 0) (G := 16) (j := 5) (by decide) (by decide) rfl)
    (eread (s21 (arg8 := arg8) (arg9 := arg9) (arg10 := arg10) (arg11 := arg11) (arg12 := arg12) (arg13 := arg13) (arg14 := arg14) H).cur (p := 0) (j := 21) rfl (by decide) (by decide) rfl)
    (ts_at (arg11 := arg11) H) (tm_at (arg12 := arg12) H) zeros_at mask_at)
attribute [local irreducible] sl.k0_mxu412

theorem s23 : At D g (tileOf c arg6 f6) 0 0 1 40 22 25 (sl.k0_mxu414 c arg1 arg2 arg3 arg4 arg6 arg8 arg14 f1 f2 f3 f4 f6)
    (sl.v889_r0 c arg1 arg2 arg3 arg4 arg6 arg8 arg14 f1 f2 f3 f4 f6) (sl.v818_r0 c arg1 arg2 arg3 arg4 arg6 arg8 arg9 arg14 f1 f2 f3 f4 f6) (sl.v905_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s22 (arg8 := arg8) (arg9 := arg9) (arg10 := arg10) (arg11 := arg11) (arg12 := arg12) (arg13 := arg13) (arg14 := arg14) H).plain rfl (by omega) (by omega) (xread H.x (T := 0) (G := 16) (j := 6) (by decide) (by decide) rfl)
    (eread (s22 (arg8 := arg8) (arg9 := arg9) (arg10 := arg10) (arg11 := arg11) (arg12 := arg12) (arg13 := arg13) (arg14 := arg14) H).cur (p := 0) (j := 22) rfl (by decide) (by decide) rfl)
    (ts_at (arg11 := arg11) H) (tm_at (arg12 := arg12) H) zeros_at mask_at)
attribute [local irreducible] sl.k0_mxu414

theorem s24 : At D g (tileOf c arg6 f6) 0 0 1 40 23 25 (sl.k0_mxu416 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_89 c arg1 arg2 arg3 arg4 arg6 arg8 arg14 f1 f2 f3 f4 f6))) :=
  ((s23 (arg8 := arg8) (arg9 := arg9) (arg10 := arg10) (arg11 := arg11) (arg12 := arg12) (arg13 := arg13) (arg14 := arg14) H).renorm rfl (by omega) (by omega) (xread H.x (T := 0) (G := 16) (j := 7) (by decide) (by decide) rfl) ones_at
    (eread (s23 (arg8 := arg8) (arg9 := arg9) (arg10 := arg10) (arg11 := arg11) (arg12 := arg12) (arg13 := arg13) (arg14 := arg14) H).cur (p := 0) (j := 23) rfl (by decide) (by decide) rfl)
    (ts_at (arg11 := arg11) H) (tm_at (arg12 := arg12) H) zeros_at mask_at)
attribute [local irreducible] sl.k0_mxu416

theorem e26 : At D g (tileOf c arg6 f6) 0 0 1 40 23 26 (sl.k0_mxu419 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_90 c arg1 arg2 arg3 arg4 arg6 arg8 arg14 f1 f2 f3 f4 f6))) :=
  ((s24 (arg8 := arg8) (arg9 := arg9) (arg10 := arg10) (arg11 := arg11) (arg12 := arg12) (arg13 := arg13) (arg14 := arg14) H).emit (by decide) (rfl : _ = ![1, 0, 25, 0]) (by decide) (oread (ohs (arg14 := arg14) H) (by decide) rfl) (lread H.xb (by decide) rfl))
attribute [local irreducible] sl.k0_mxu419

theorem e29 : At D g (tileOf c arg6 f6) 0 0 1 40 23 29 (sl.k0_mxu428 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_93 c arg1 arg2 arg3 arg4 arg6 arg8 arg14 f1 f2 f3 f4 f6))) :=
  ((((e26 (arg8 := arg8) (arg9 := arg9) (arg10 := arg10) (arg11 := arg11) (arg12 := arg12) (arg13 := arg13) (arg14 := arg14) H).emit (by decide) (rfl : _ = ![1, 0, 26, 0]) (by decide) (oread (ohs (arg14 := arg14) H) (by decide) rfl) (lread H.xb (by decide) rfl)).emit (by decide) (rfl : _ = ![1, 0, 27, 0]) (by decide) (oread (ohs (arg14 := arg14) H) (by decide) rfl) (lread H.xb (by decide) rfl)).emit (by decide) (rfl : _ = ![1, 0, 28, 0]) (by decide) (oread (ohs (arg14 := arg14) H) (by decide) rfl) (lread H.xb (by decide) rfl))
attribute [local irreducible] sl.k0_mxu428

theorem e31 : At D g (tileOf c arg6 f6) 0 0 1 40 23 31 (sl.k0_mxu434 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_95 c arg1 arg2 arg3 arg4 arg6 arg8 arg14 f1 f2 f3 f4 f6))) :=
  (((e29 (arg8 := arg8) (arg9 := arg9) (arg10 := arg10) (arg11 := arg11) (arg12 := arg12) (arg13 := arg13) (arg14 := arg14) H).emit (by decide) (rfl : _ = ![1, 0, 29, 0]) (by decide) (oread (ohs (arg14 := arg14) H) (by decide) rfl) (lread H.xb (by decide) rfl)).emit (by decide) (rfl : _ = ![1, 0, 30, 0]) (by decide) (oread (ohs (arg14 := arg14) H) (by decide) rfl) (lread H.xb (by decide) rfl))
attribute [local irreducible] sl.k0_mxu434

theorem e33 : At D g (tileOf c arg6 f6) 0 0 1 40 23 33 (sl.k0_mxu440 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_97 c arg1 arg2 arg3 arg4 arg6 arg8 arg14 f1 f2 f3 f4 f6))) :=
  (((e31 (arg8 := arg8) (arg9 := arg9) (arg10 := arg10) (arg11 := arg11) (arg12 := arg12) (arg13 := arg13) (arg14 := arg14) H).emit (by decide) (rfl : _ = ![1, 0, 31, 0]) (by decide) (oread (ohs (arg14 := arg14) H) (by decide) rfl) (lread H.xb (by decide) rfl)).emit (by decide) (rfl : _ = ![1, 0, 32, 0]) (by decide) (oread (ohs (arg14 := arg14) H) (by decide) rfl) (lread H.xb (by decide) rfl))
attribute [local irreducible] sl.k0_mxu440

theorem e36 : At D g (tileOf c arg6 f6) 0 0 1 40 23 36 (sl.k0_mxu449 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_100 c arg1 arg2 arg3 arg4 arg6 arg8 arg14 f1 f2 f3 f4 f6))) :=
  ((((e33 (arg8 := arg8) (arg9 := arg9) (arg10 := arg10) (arg11 := arg11) (arg12 := arg12) (arg13 := arg13) (arg14 := arg14) H).emit (by decide) (rfl : _ = ![1, 0, 33, 0]) (by decide) (oread (ohs (arg14 := arg14) H) (by decide) rfl) (lread H.xb (by decide) rfl)).emit (by decide) (rfl : _ = ![1, 0, 34, 0]) (by decide) (oread (ohs (arg14 := arg14) H) (by decide) rfl) (lread H.xb (by decide) rfl)).emit (by decide) (rfl : _ = ![1, 0, 35, 0]) (by decide) (oread (ohs (arg14 := arg14) H) (by decide) rfl) (lread H.xb (by decide) rfl))
attribute [local irreducible] sl.k0_mxu449

theorem e38 : At D g (tileOf c arg6 f6) 0 0 1 40 23 38 (sl.k0_mxu455 c arg1 arg2 arg3 arg4 arg6 arg8 arg14 f1 f2 f3 f4 f6)
    (sl.v921_r0 c arg1 arg2 arg3 arg4 arg6 arg8 arg14 f1 f2 f3 f4 f6) (sl.v919_r0 c arg1 arg2 arg3 arg4 arg6 arg8 arg9 arg14 f1 f2 f3 f4 f6) (sl.v937_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  (((e36 (arg8 := arg8) (arg9 := arg9) (arg10 := arg10) (arg11 := arg11) (arg12 := arg12) (arg13 := arg13) (arg14 := arg14) H).emit (by decide) (rfl : _ = ![1, 0, 36, 0]) (by decide) (oread (ohs (arg14 := arg14) H) (by decide) rfl) (lread H.xb (by decide) rfl)).emit (by decide) (rfl : _ = ![1, 0, 37, 0]) (by decide) (oread (ohs (arg14 := arg14) H) (by decide) rfl) (lread H.xb (by decide) rfl))
attribute [local irreducible] sl.k0_mxu455

theorem s25 : At D g (tileOf c arg6 f6) 0 0 1 40 24 38 (sl.k0_mxu457 c arg1 arg2 arg3 arg4 arg6 arg8 arg14 f1 f2 f3 f4 f6)
    (sl.v1102_r0 c arg1 arg2 arg3 arg4 arg6 arg8 arg14 f1 f2 f3 f4 f6) (sl.v919_r0 c arg1 arg2 arg3 arg4 arg6 arg8 arg9 arg14 f1 f2 f3 f4 f6) (sl.v1118_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((e38 (arg8 := arg8) (arg9 := arg9) (arg10 := arg10) (arg11 := arg11) (arg12 := arg12) (arg13 := arg13) (arg14 := arg14) H).plain rfl (by omega) (by omega) (xread H.x (T := 0) (G := 24) (j := 0) (by decide) (by decide) rfl)
    (eread (e38 (arg8 := arg8) (arg9 := arg9) (arg10 := arg10) (arg11 := arg11) (arg12 := arg12) (arg13 := arg13) (arg14 := arg14) H).cur (p := 0) (j := 24) rfl (by decide) (by decide) rfl)
    (ts_at (arg11 := arg11) H) (tm_at (arg12 := arg12) H) zeros_at mask_at)
attribute [local irreducible] sl.k0_mxu457

theorem s26 : At D g (tileOf c arg6 f6) 0 0 1 40 25 38 (sl.k0_mxu459 c arg1 arg2 arg3 arg4 arg6 arg8 arg14 f1 f2 f3 f4 f6)
    (sl.v1125_r0 c arg1 arg2 arg3 arg4 arg6 arg8 arg14 f1 f2 f3 f4 f6) (sl.v919_r0 c arg1 arg2 arg3 arg4 arg6 arg8 arg9 arg14 f1 f2 f3 f4 f6) (sl.v1141_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s25 (arg8 := arg8) (arg9 := arg9) (arg10 := arg10) (arg11 := arg11) (arg12 := arg12) (arg13 := arg13) (arg14 := arg14) H).plain rfl (by omega) (by omega) (xread H.x (T := 0) (G := 24) (j := 1) (by decide) (by decide) rfl)
    (eread (s25 (arg8 := arg8) (arg9 := arg9) (arg10 := arg10) (arg11 := arg11) (arg12 := arg12) (arg13 := arg13) (arg14 := arg14) H).cur (p := 0) (j := 25) rfl (by decide) (by decide) rfl)
    (ts_at (arg11 := arg11) H) (tm_at (arg12 := arg12) H) zeros_at mask_at)
attribute [local irreducible] sl.k0_mxu459

theorem s27 : At D g (tileOf c arg6 f6) 0 0 1 40 26 38 (sl.k0_mxu461 c arg1 arg2 arg3 arg4 arg6 arg8 arg14 f1 f2 f3 f4 f6)
    (sl.v1148_r0 c arg1 arg2 arg3 arg4 arg6 arg8 arg14 f1 f2 f3 f4 f6) (sl.v919_r0 c arg1 arg2 arg3 arg4 arg6 arg8 arg9 arg14 f1 f2 f3 f4 f6) (sl.v1164_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s26 (arg8 := arg8) (arg9 := arg9) (arg10 := arg10) (arg11 := arg11) (arg12 := arg12) (arg13 := arg13) (arg14 := arg14) H).plain rfl (by omega) (by omega) (xread H.x (T := 0) (G := 24) (j := 2) (by decide) (by decide) rfl)
    (eread (s26 (arg8 := arg8) (arg9 := arg9) (arg10 := arg10) (arg11 := arg11) (arg12 := arg12) (arg13 := arg13) (arg14 := arg14) H).cur (p := 0) (j := 26) rfl (by decide) (by decide) rfl)
    (ts_at (arg11 := arg11) H) (tm_at (arg12 := arg12) H) zeros_at mask_at)
attribute [local irreducible] sl.k0_mxu461

theorem s28 : At D g (tileOf c arg6 f6) 0 0 1 40 27 38 (sl.k0_mxu463 c arg1 arg2 arg3 arg4 arg6 arg8 arg14 f1 f2 f3 f4 f6)
    (sl.v1180_r0 c arg1 arg2 arg3 arg4 arg6 arg8 arg14 f1 f2 f3 f4 f6) (sl.v1178_r0 c arg1 arg2 arg3 arg4 arg6 arg8 arg9 arg14 f1 f2 f3 f4 f6) (sl.v1196_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s27 (arg8 := arg8) (arg9 := arg9) (arg10 := arg10) (arg11 := arg11) (arg12 := arg12) (arg13 := arg13) (arg14 := arg14) H).renorm rfl (by omega) (by omega) (xread H.x (T := 0) (G := 24) (j := 3) (by decide) (by decide) rfl) ones_at
    (eread (s27 (arg8 := arg8) (arg9 := arg9) (arg10 := arg10) (arg11 := arg11) (arg12 := arg12) (arg13 := arg13) (arg14 := arg14) H).cur (p := 0) (j := 27) rfl (by decide) (by decide) rfl)
    (ts_at (arg11 := arg11) H) (tm_at (arg12 := arg12) H) zeros_at mask_at)
attribute [local irreducible] sl.k0_mxu463

theorem s29 : At D g (tileOf c arg6 f6) 0 0 1 40 28 38 (sl.k0_mxu465 c arg1 arg2 arg3 arg4 arg6 arg8 arg14 f1 f2 f3 f4 f6)
    (sl.v1203_r0 c arg1 arg2 arg3 arg4 arg6 arg8 arg14 f1 f2 f3 f4 f6) (sl.v1178_r0 c arg1 arg2 arg3 arg4 arg6 arg8 arg9 arg14 f1 f2 f3 f4 f6) (sl.v1219_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s28 (arg8 := arg8) (arg9 := arg9) (arg10 := arg10) (arg11 := arg11) (arg12 := arg12) (arg13 := arg13) (arg14 := arg14) H).plain rfl (by omega) (by omega) (xread H.x (T := 0) (G := 24) (j := 4) (by decide) (by decide) rfl)
    (eread (s28 (arg8 := arg8) (arg9 := arg9) (arg10 := arg10) (arg11 := arg11) (arg12 := arg12) (arg13 := arg13) (arg14 := arg14) H).cur (p := 0) (j := 28) rfl (by decide) (by decide) rfl)
    (ts_at (arg11 := arg11) H) (tm_at (arg12 := arg12) H) zeros_at mask_at)
attribute [local irreducible] sl.k0_mxu465

theorem s30 : At D g (tileOf c arg6 f6) 0 0 1 40 29 38 (sl.k0_mxu467 c arg1 arg2 arg3 arg4 arg6 arg8 arg14 f1 f2 f3 f4 f6)
    (sl.v1226_r0 c arg1 arg2 arg3 arg4 arg6 arg8 arg14 f1 f2 f3 f4 f6) (sl.v1178_r0 c arg1 arg2 arg3 arg4 arg6 arg8 arg9 arg14 f1 f2 f3 f4 f6) (sl.v1242_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s29 (arg8 := arg8) (arg9 := arg9) (arg10 := arg10) (arg11 := arg11) (arg12 := arg12) (arg13 := arg13) (arg14 := arg14) H).plain rfl (by omega) (by omega) (xread H.x (T := 0) (G := 24) (j := 5) (by decide) (by decide) rfl)
    (eread (s29 (arg8 := arg8) (arg9 := arg9) (arg10 := arg10) (arg11 := arg11) (arg12 := arg12) (arg13 := arg13) (arg14 := arg14) H).cur (p := 0) (j := 29) rfl (by decide) (by decide) rfl)
    (ts_at (arg11 := arg11) H) (tm_at (arg12 := arg12) H) zeros_at mask_at)
attribute [local irreducible] sl.k0_mxu467

theorem s31 : At D g (tileOf c arg6 f6) 0 0 1 40 30 38 (sl.k0_mxu469 c arg1 arg2 arg3 arg4 arg6 arg8 arg14 f1 f2 f3 f4 f6)
    (sl.v1249_r0 c arg1 arg2 arg3 arg4 arg6 arg8 arg14 f1 f2 f3 f4 f6) (sl.v1178_r0 c arg1 arg2 arg3 arg4 arg6 arg8 arg9 arg14 f1 f2 f3 f4 f6) (sl.v1265_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s30 (arg8 := arg8) (arg9 := arg9) (arg10 := arg10) (arg11 := arg11) (arg12 := arg12) (arg13 := arg13) (arg14 := arg14) H).plain rfl (by omega) (by omega) (xread H.x (T := 0) (G := 24) (j := 6) (by decide) (by decide) rfl)
    (eread (s30 (arg8 := arg8) (arg9 := arg9) (arg10 := arg10) (arg11 := arg11) (arg12 := arg12) (arg13 := arg13) (arg14 := arg14) H).cur (p := 0) (j := 30) rfl (by decide) (by decide) rfl)
    (ts_at (arg11 := arg11) H) (tm_at (arg12 := arg12) H) zeros_at mask_at)
attribute [local irreducible] sl.k0_mxu469

theorem s32 : At D g (tileOf c arg6 f6) 0 0 1 40 31 38 (sl.k0_mxu471 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_102 c arg1 arg2 arg3 arg4 arg6 arg8 arg14 f1 f2 f3 f4 f6))) :=
  ((s31 (arg8 := arg8) (arg9 := arg9) (arg10 := arg10) (arg11 := arg11) (arg12 := arg12) (arg13 := arg13) (arg14 := arg14) H).renorm rfl (by omega) (by omega) (xread H.x (T := 0) (G := 24) (j := 7) (by decide) (by decide) rfl) ones_at
    (eread (s31 (arg8 := arg8) (arg9 := arg9) (arg10 := arg10) (arg11 := arg11) (arg12 := arg12) (arg13 := arg13) (arg14 := arg14) H).cur (p := 0) (j := 31) rfl (by decide) (by decide) rfl)
    (ts_at (arg11 := arg11) H) (tm_at (arg12 := arg12) H) zeros_at mask_at)
attribute [local irreducible] sl.k0_mxu471

theorem e40 : At D g (tileOf c arg6 f6) 0 0 1 40 31 40 (sl.k0_mxu477 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_104 c arg1 arg2 arg3 arg4 arg6 arg8 arg14 f1 f2 f3 f4 f6))) :=
  (((s32 (arg8 := arg8) (arg9 := arg9) (arg10 := arg10) (arg11 := arg11) (arg12 := arg12) (arg13 := arg13) (arg14 := arg14) H).emit (by decide) (rfl : _ = ![1, 0, 38, 0]) (by decide) (oread (ohs (arg14 := arg14) H) (by decide) rfl) (lread H.xb (by decide) rfl)).emit (by decide) (rfl : _ = ![1, 0, 39, 0]) (by decide) (oread (ohs (arg14 := arg14) H) (by decide) rfl) (lread H.xb (by decide) rfl))
attribute [local irreducible] sl.k0_mxu477

theorem e42 : At D g (tileOf c arg6 f6) 0 0 1 40 31 42 (sl.k0_mxu483 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_106 c arg1 arg2 arg3 arg4 arg6 arg8 arg14 f1 f2 f3 f4 f6))) :=
  (((e40 (arg8 := arg8) (arg9 := arg9) (arg10 := arg10) (arg11 := arg11) (arg12 := arg12) (arg13 := arg13) (arg14 := arg14) H).emit (by decide) (rfl : _ = ![1, 0, 40, 0]) (by decide) (oread (ohs (arg14 := arg14) H) (by decide) rfl) (lread H.xb (by decide) rfl)).emit (by decide) (rfl : _ = ![1, 0, 41, 0]) (by decide) (oread (ohs (arg14 := arg14) H) (by decide) rfl) (lread H.xb (by decide) rfl))
attribute [local irreducible] sl.k0_mxu483

theorem e45 : At D g (tileOf c arg6 f6) 0 0 1 40 31 45 (sl.k0_mxu492 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_109 c arg1 arg2 arg3 arg4 arg6 arg8 arg14 f1 f2 f3 f4 f6))) :=
  ((((e42 (arg8 := arg8) (arg9 := arg9) (arg10 := arg10) (arg11 := arg11) (arg12 := arg12) (arg13 := arg13) (arg14 := arg14) H).emit (by decide) (rfl : _ = ![1, 0, 42, 0]) (by decide) (oread (ohs (arg14 := arg14) H) (by decide) rfl) (lread H.xb (by decide) rfl)).emit (by decide) (rfl : _ = ![1, 0, 43, 0]) (by decide) (oread (ohs (arg14 := arg14) H) (by decide) rfl) (lread H.xb (by decide) rfl)).emit (by decide) (rfl : _ = ![1, 0, 44, 0]) (by decide) (oread (ohs (arg14 := arg14) H) (by decide) rfl) (lread H.xb (by decide) rfl))
attribute [local irreducible] sl.k0_mxu492

theorem e47 : At D g (tileOf c arg6 f6) 0 0 1 40 31 47 (sl.k0_mxu498 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_111 c arg1 arg2 arg3 arg4 arg6 arg8 arg14 f1 f2 f3 f4 f6))) :=
  (((e45 (arg8 := arg8) (arg9 := arg9) (arg10 := arg10) (arg11 := arg11) (arg12 := arg12) (arg13 := arg13) (arg14 := arg14) H).emit (by decide) (rfl : _ = ![1, 0, 45, 0]) (by decide) (oread (ohs (arg14 := arg14) H) (by decide) rfl) (lread H.xb (by decide) rfl)).emit (by decide) (rfl : _ = ![1, 0, 46, 0]) (by decide) (oread (ohs (arg14 := arg14) H) (by decide) rfl) (lread H.xb (by decide) rfl))
attribute [local irreducible] sl.k0_mxu498

theorem e49 : At D g (tileOf c arg6 f6) 0 0 1 40 31 49 (sl.k0_mxu504 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_113 c arg1 arg2 arg3 arg4 arg6 arg8 arg14 f1 f2 f3 f4 f6))) :=
  (((e47 (arg8 := arg8) (arg9 := arg9) (arg10 := arg10) (arg11 := arg11) (arg12 := arg12) (arg13 := arg13) (arg14 := arg14) H).emit (by decide) (rfl : _ = ![1, 0, 47, 0]) (by decide) (oread (ohs (arg14 := arg14) H) (by decide) rfl) (lread H.xb (by decide) rfl)).emit (by decide) (rfl : _ = ![1, 0, 48, 0]) (by decide) (oread (ohs (arg14 := arg14) H) (by decide) rfl) (lread H.xb (by decide) rfl))
attribute [local irreducible] sl.k0_mxu504

theorem e51 : At D g (tileOf c arg6 f6) 0 0 1 40 31 51 (sl.k0_mxu510 c arg1 arg2 arg3 arg4 arg6 arg8 arg14 f1 f2 f3 f4 f6)
    (sl.v1281_r0 c arg1 arg2 arg3 arg4 arg6 arg8 arg14 f1 f2 f3 f4 f6) (sl.v1279_r0 c arg1 arg2 arg3 arg4 arg6 arg8 arg9 arg14 f1 f2 f3 f4 f6) (sl.v1297_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  (((e49 (arg8 := arg8) (arg9 := arg9) (arg10 := arg10) (arg11 := arg11) (arg12 := arg12) (arg13 := arg13) (arg14 := arg14) H).emit (by decide) (rfl : _ = ![1, 0, 49, 0]) (by decide) (oread (ohs (arg14 := arg14) H) (by decide) rfl) (lread H.xb (by decide) rfl)).emit (by decide) (rfl : _ = ![1, 0, 50, 0]) (by decide) (oread (ohs (arg14 := arg14) H) (by decide) rfl) (lread H.xb (by decide) rfl))
attribute [local irreducible] sl.k0_mxu510

theorem s33 : At D g (tileOf c arg6 f6) 0 0 1 40 32 51 (sl.k0_mxu512 c arg1 arg2 arg3 arg4 arg6 arg8 arg14 f1 f2 f3 f4 f6)
    (sl.v1462_r0 c arg1 arg2 arg3 arg4 arg6 arg8 arg14 f1 f2 f3 f4 f6) (sl.v1279_r0 c arg1 arg2 arg3 arg4 arg6 arg8 arg9 arg14 f1 f2 f3 f4 f6) (sl.v1478_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((e51 (arg8 := arg8) (arg9 := arg9) (arg10 := arg10) (arg11 := arg11) (arg12 := arg12) (arg13 := arg13) (arg14 := arg14) H).plain rfl (by omega) (by omega) (xread H.x (T := 0) (G := 32) (j := 0) (by decide) (by decide) rfl)
    (eread (e51 (arg8 := arg8) (arg9 := arg9) (arg10 := arg10) (arg11 := arg11) (arg12 := arg12) (arg13 := arg13) (arg14 := arg14) H).cur (p := 0) (j := 32) rfl (by decide) (by decide) rfl)
    (ts_at (arg11 := arg11) H) (tm_at (arg12 := arg12) H) zeros_at mask_at)
attribute [local irreducible] sl.k0_mxu512

theorem s34 : At D g (tileOf c arg6 f6) 0 0 1 40 33 51 (sl.k0_mxu514 c arg1 arg2 arg3 arg4 arg6 arg8 arg14 f1 f2 f3 f4 f6)
    (sl.v1485_r0 c arg1 arg2 arg3 arg4 arg6 arg8 arg14 f1 f2 f3 f4 f6) (sl.v1279_r0 c arg1 arg2 arg3 arg4 arg6 arg8 arg9 arg14 f1 f2 f3 f4 f6) (sl.v1501_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s33 (arg8 := arg8) (arg9 := arg9) (arg10 := arg10) (arg11 := arg11) (arg12 := arg12) (arg13 := arg13) (arg14 := arg14) H).plain rfl (by omega) (by omega) (xread H.x (T := 0) (G := 32) (j := 1) (by decide) (by decide) rfl)
    (eread (s33 (arg8 := arg8) (arg9 := arg9) (arg10 := arg10) (arg11 := arg11) (arg12 := arg12) (arg13 := arg13) (arg14 := arg14) H).cur (p := 0) (j := 33) rfl (by decide) (by decide) rfl)
    (ts_at (arg11 := arg11) H) (tm_at (arg12 := arg12) H) zeros_at mask_at)
attribute [local irreducible] sl.k0_mxu514

theorem s35 : At D g (tileOf c arg6 f6) 0 0 1 40 34 51 (sl.k0_mxu516 c arg1 arg2 arg3 arg4 arg6 arg8 arg14 f1 f2 f3 f4 f6)
    (sl.v1508_r0 c arg1 arg2 arg3 arg4 arg6 arg8 arg14 f1 f2 f3 f4 f6) (sl.v1279_r0 c arg1 arg2 arg3 arg4 arg6 arg8 arg9 arg14 f1 f2 f3 f4 f6) (sl.v1524_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s34 (arg8 := arg8) (arg9 := arg9) (arg10 := arg10) (arg11 := arg11) (arg12 := arg12) (arg13 := arg13) (arg14 := arg14) H).plain rfl (by omega) (by omega) (xread H.x (T := 0) (G := 32) (j := 2) (by decide) (by decide) rfl)
    (eread (s34 (arg8 := arg8) (arg9 := arg9) (arg10 := arg10) (arg11 := arg11) (arg12 := arg12) (arg13 := arg13) (arg14 := arg14) H).cur (p := 0) (j := 34) rfl (by decide) (by decide) rfl)
    (ts_at (arg11 := arg11) H) (tm_at (arg12 := arg12) H) zeros_at mask_at)
attribute [local irreducible] sl.k0_mxu516

theorem s36 : At D g (tileOf c arg6 f6) 0 0 1 40 35 51 (sl.k0_mxu518 c arg1 arg2 arg3 arg4 arg6 arg8 arg14 f1 f2 f3 f4 f6)
    (sl.v1540_r0 c arg1 arg2 arg3 arg4 arg6 arg8 arg14 f1 f2 f3 f4 f6) (sl.v1538_r0 c arg1 arg2 arg3 arg4 arg6 arg8 arg9 arg14 f1 f2 f3 f4 f6) (sl.v1556_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s35 (arg8 := arg8) (arg9 := arg9) (arg10 := arg10) (arg11 := arg11) (arg12 := arg12) (arg13 := arg13) (arg14 := arg14) H).renorm rfl (by omega) (by omega) (xread H.x (T := 0) (G := 32) (j := 3) (by decide) (by decide) rfl) ones_at
    (eread (s35 (arg8 := arg8) (arg9 := arg9) (arg10 := arg10) (arg11 := arg11) (arg12 := arg12) (arg13 := arg13) (arg14 := arg14) H).cur (p := 0) (j := 35) rfl (by decide) (by decide) rfl)
    (ts_at (arg11 := arg11) H) (tm_at (arg12 := arg12) H) zeros_at mask_at)
attribute [local irreducible] sl.k0_mxu518

theorem s37 : At D g (tileOf c arg6 f6) 0 0 1 40 36 51 (sl.k0_mxu520 c arg1 arg2 arg3 arg4 arg6 arg8 arg14 f1 f2 f3 f4 f6)
    (sl.v1563_r0 c arg1 arg2 arg3 arg4 arg6 arg8 arg14 f1 f2 f3 f4 f6) (sl.v1538_r0 c arg1 arg2 arg3 arg4 arg6 arg8 arg9 arg14 f1 f2 f3 f4 f6) (sl.v1579_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s36 (arg8 := arg8) (arg9 := arg9) (arg10 := arg10) (arg11 := arg11) (arg12 := arg12) (arg13 := arg13) (arg14 := arg14) H).plain rfl (by omega) (by omega) (xread H.x (T := 0) (G := 32) (j := 4) (by decide) (by decide) rfl)
    (eread (s36 (arg8 := arg8) (arg9 := arg9) (arg10 := arg10) (arg11 := arg11) (arg12 := arg12) (arg13 := arg13) (arg14 := arg14) H).cur (p := 0) (j := 36) rfl (by decide) (by decide) rfl)
    (ts_at (arg11 := arg11) H) (tm_at (arg12 := arg12) H) zeros_at mask_at)
attribute [local irreducible] sl.k0_mxu520

theorem s38 : At D g (tileOf c arg6 f6) 0 0 1 40 37 51 (sl.k0_mxu522 c arg1 arg2 arg3 arg4 arg6 arg8 arg14 f1 f2 f3 f4 f6)
    (sl.v1586_r0 c arg1 arg2 arg3 arg4 arg6 arg8 arg14 f1 f2 f3 f4 f6) (sl.v1538_r0 c arg1 arg2 arg3 arg4 arg6 arg8 arg9 arg14 f1 f2 f3 f4 f6) (sl.v1602_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s37 (arg8 := arg8) (arg9 := arg9) (arg10 := arg10) (arg11 := arg11) (arg12 := arg12) (arg13 := arg13) (arg14 := arg14) H).plain rfl (by omega) (by omega) (xread H.x (T := 0) (G := 32) (j := 5) (by decide) (by decide) rfl)
    (eread (s37 (arg8 := arg8) (arg9 := arg9) (arg10 := arg10) (arg11 := arg11) (arg12 := arg12) (arg13 := arg13) (arg14 := arg14) H).cur (p := 0) (j := 37) rfl (by decide) (by decide) rfl)
    (ts_at (arg11 := arg11) H) (tm_at (arg12 := arg12) H) zeros_at mask_at)
attribute [local irreducible] sl.k0_mxu522

theorem s39 : At D g (tileOf c arg6 f6) 0 0 1 40 38 51 (sl.k0_mxu524 c arg1 arg2 arg3 arg4 arg6 arg8 arg14 f1 f2 f3 f4 f6)
    (sl.v1609_r0 c arg1 arg2 arg3 arg4 arg6 arg8 arg14 f1 f2 f3 f4 f6) (sl.v1538_r0 c arg1 arg2 arg3 arg4 arg6 arg8 arg9 arg14 f1 f2 f3 f4 f6) (sl.v1625_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s38 (arg8 := arg8) (arg9 := arg9) (arg10 := arg10) (arg11 := arg11) (arg12 := arg12) (arg13 := arg13) (arg14 := arg14) H).plain rfl (by omega) (by omega) (xread H.x (T := 0) (G := 32) (j := 6) (by decide) (by decide) rfl)
    (eread (s38 (arg8 := arg8) (arg9 := arg9) (arg10 := arg10) (arg11 := arg11) (arg12 := arg12) (arg13 := arg13) (arg14 := arg14) H).cur (p := 0) (j := 38) rfl (by decide) (by decide) rfl)
    (ts_at (arg11 := arg11) H) (tm_at (arg12 := arg12) H) zeros_at mask_at)
attribute [local irreducible] sl.k0_mxu524

theorem s40 : At D g (tileOf c arg6 f6) 0 0 1 40 39 51 (sl.k0_mxu526 c arg1 arg2 arg3 arg4 arg6 arg8 arg14 f1 f2 f3 f4 f6)
    (sl.v1641_r0 c arg1 arg2 arg3 arg4 arg6 arg8 arg14 f1 f2 f3 f4 f6) (sl.v1639_r0 c arg1 arg2 arg3 arg4 arg6 arg8 arg9 arg14 f1 f2 f3 f4 f6) (sl.v1657_r0 c arg1 arg2 arg3 arg4 arg6 arg8 arg10 arg11 arg12 arg13 arg14 f1 f2 f3 f4 f6)
    (arg13.view.read (Elt Ideal) (arg13.view.writes (Elt Ideal) arg13.view.junk (sl.H13_115 c arg1 arg2 arg3 arg4 arg6 arg8 arg14 f1 f2 f3 f4 f6))) :=
  ((s39 (arg8 := arg8) (arg9 := arg9) (arg10 := arg10) (arg11 := arg11) (arg12 := arg12) (arg13 := arg13) (arg14 := arg14) H).renorm rfl (by omega) (by omega) (xread H.x (T := 0) (G := 32) (j := 7) (by decide) (by decide) rfl) ones_at
    (eread (s39 (arg8 := arg8) (arg9 := arg9) (arg10 := arg10) (arg11 := arg11) (arg12 := arg12) (arg13 := arg13) (arg14 := arg14) H).cur (p := 0) (j := 39) rfl (by decide) (by decide) rfl)
    (ts_at (arg11 := arg11) H) (tm_at (arg12 := arg12) H) zeros_at mask_at)
attribute [local irreducible] sl.k0_mxu526

theorem e53 : At D g (tileOf c arg6 f6) 0 0 1 40 39 53 (sl.k0_mxu532 c arg1 arg2 arg3 arg4 arg6 arg8 arg14 f1 f2 f3 f4 f6)
    (sl.v1641_r0 c arg1 arg2 arg3 arg4 arg6 arg8 arg14 f1 f2 f3 f4 f6) (sl.v1639_r0 c arg1 arg2 arg3 arg4 arg6 arg8 arg9 arg14 f1 f2 f3 f4 f6) (sl.v1657_r0 c arg1 arg2 arg3 arg4 arg6 arg8 arg10 arg11 arg12 arg13 arg14 f1 f2 f3 f4 f6)
    (arg13.view.read (Elt Ideal) (arg13.view.writes (Elt Ideal) arg13.view.junk (sl.H13_117 c arg1 arg2 arg3 arg4 arg6 arg8 arg14 f1 f2 f3 f4 f6))) :=
  (((s40 (arg8 := arg8) (arg9 := arg9) (arg10 := arg10) (arg11 := arg11) (arg12 := arg12) (arg13 := arg13) (arg14 := arg14) H).emit (by decide) (rfl : _ = ![1, 0, 51, 0]) (by decide) (oread (ohs (arg14 := arg14) H) (by decide) rfl) (lread H.xb (by decide) rfl)).emit (by decide) (rfl : _ = ![1, 0, 52, 0]) (by decide) (oread (ohs (arg14 := arg14) H) (by decide) rfl) (lread H.xb (by decide) rfl))
attribute [local irreducible] sl.k0_mxu532

theorem e56 : At D g (tileOf c arg6 f6) 0 0 1 40 39 56 (sl.k0_mxu541 c arg1 arg2 arg3 arg4 arg6 arg8 arg14 f1 f2 f3 f4 f6)
    (sl.v1641_r0 c arg1 arg2 arg3 arg4 arg6 arg8 arg14 f1 f2 f3 f4 f6) (sl.v1639_r0 c arg1 arg2 arg3 arg4 arg6 arg8 arg9 arg14 f1 f2 f3 f4 f6) (sl.v1657_r0 c arg1 arg2 arg3 arg4 arg6 arg8 arg10 arg11 arg12 arg13 arg14 f1 f2 f3 f4 f6)
    (arg13.view.read (Elt Ideal) (arg13.view.writes (Elt Ideal) arg13.view.junk (sl.H13_120 c arg1 arg2 arg3 arg4 arg6 arg8 arg14 f1 f2 f3 f4 f6))) :=
  ((((e53 (arg8 := arg8) (arg9 := arg9) (arg10 := arg10) (arg11 := arg11) (arg12 := arg12) (arg13 := arg13) (arg14 := arg14) H).emit (by decide) (rfl : _ = ![1, 0, 53, 0]) (by decide) (oread (ohs (arg14 := arg14) H) (by decide) rfl) (lread H.xb (by decide) rfl)).emit (by decide) (rfl : _ = ![1, 0, 54, 0]) (by decide) (oread (ohs (arg14 := arg14) H) (by decide) rfl) (lread H.xb (by decide) rfl)).emit (by decide) (rfl : _ = ![1, 0, 55, 0]) (by decide) (oread (ohs (arg14 := arg14) H) (by decide) rfl) (lread H.xb (by decide) rfl))
attribute [local irreducible] sl.k0_mxu541

theorem e58 : At D g (tileOf c arg6 f6) 0 0 1 40 39 58 (sl.k0_mxu547 c arg1 arg2 arg3 arg4 arg6 arg8 arg14 f1 f2 f3 f4 f6)
    (sl.v1641_r0 c arg1 arg2 arg3 arg4 arg6 arg8 arg14 f1 f2 f3 f4 f6) (sl.v1639_r0 c arg1 arg2 arg3 arg4 arg6 arg8 arg9 arg14 f1 f2 f3 f4 f6) (sl.v1657_r0 c arg1 arg2 arg3 arg4 arg6 arg8 arg10 arg11 arg12 arg13 arg14 f1 f2 f3 f4 f6)
    (arg13.view.read (Elt Ideal) (arg13.view.writes (Elt Ideal) arg13.view.junk (sl.H13_122 c arg1 arg2 arg3 arg4 arg6 arg8 arg14 f1 f2 f3 f4 f6))) :=
  (((e56 (arg8 := arg8) (arg9 := arg9) (arg10 := arg10) (arg11 := arg11) (arg12 := arg12) (arg13 := arg13) (arg14 := arg14) H).emit (by decide) (rfl : _ = ![1, 0, 56, 0]) (by decide) (oread (ohs (arg14 := arg14) H) (by decide) rfl) (lread H.xb (by decide) rfl)).emit (by decide) (rfl : _ = ![1, 0, 57, 0]) (by decide) (oread (ohs (arg14 := arg14) H) (by decide) rfl) (lread H.xb (by decide) rfl))
attribute [local irreducible] sl.k0_mxu547

theorem e61 : At D g (tileOf c arg6 f6) 0 0 1 40 39 61 (sl.k0_mxu556 c arg1 arg2 arg3 arg4 arg6 arg8 arg14 f1 f2 f3 f4 f6)
    (sl.v1641_r0 c arg1 arg2 arg3 arg4 arg6 arg8 arg14 f1 f2 f3 f4 f6) (sl.v1639_r0 c arg1 arg2 arg3 arg4 arg6 arg8 arg9 arg14 f1 f2 f3 f4 f6) (sl.v1657_r0 c arg1 arg2 arg3 arg4 arg6 arg8 arg10 arg11 arg12 arg13 arg14 f1 f2 f3 f4 f6)
    (arg13.view.read (Elt Ideal) (arg13.view.writes (Elt Ideal) arg13.view.junk (sl.H13_125 c arg1 arg2 arg3 arg4 arg6 arg8 arg14 f1 f2 f3 f4 f6))) :=
  ((((e58 (arg8 := arg8) (arg9 := arg9) (arg10 := arg10) (arg11 := arg11) (arg12 := arg12) (arg13 := arg13) (arg14 := arg14) H).emit (by decide) (rfl : _ = ![1, 0, 58, 0]) (by decide) (oread (ohs (arg14 := arg14) H) (by decide) rfl) (lread H.xb (by decide) rfl)).emit (by decide) (rfl : _ = ![1, 0, 59, 0]) (by decide) (oread (ohs (arg14 := arg14) H) (by decide) rfl) (lread H.xb (by decide) rfl)).emit (by decide) (rfl : _ = ![1, 0, 60, 0]) (by decide) (oread (ohs (arg14 := arg14) H) (by decide) rfl) (lread H.xb (by decide) rfl))
attribute [local irreducible] sl.k0_mxu556

theorem e64 : At D g (tileOf c arg6 f6) 0 0 1 40 39 64 (sl.k0_mxu565 c arg1 arg2 arg3 arg4 arg6 arg8 arg14 f1 f2 f3 f4 f6)
    (sl.v1641_r0 c arg1 arg2 arg3 arg4 arg6 arg8 arg14 f1 f2 f3 f4 f6) (sl.v1639_r0 c arg1 arg2 arg3 arg4 arg6 arg8 arg9 arg14 f1 f2 f3 f4 f6) (sl.v1657_r0 c arg1 arg2 arg3 arg4 arg6 arg8 arg10 arg11 arg12 arg13 arg14 f1 f2 f3 f4 f6)
    (arg13.view.read (Elt Ideal) (arg13.view.writes (Elt Ideal) arg13.view.junk (sl.H13_128 c arg1 arg2 arg3 arg4 arg6 arg8 arg14 f1 f2 f3 f4 f6))) :=
  ((((e61 (arg8 := arg8) (arg9 := arg9) (arg10 := arg10) (arg11 := arg11) (arg12 := arg12) (arg13 := arg13) (arg14 := arg14) H).emit (by decide) (rfl : _ = ![1, 0, 61, 0]) (by decide) (oread (ohs (arg14 := arg14) H) (by decide) rfl) (lread H.xb (by decide) rfl)).emit (by decide) (rfl : _ = ![1, 0, 62, 0]) (by decide) (oread (ohs (arg14 := arg14) H) (by decide) rfl) (lread H.xb (by decide) rfl)).emit (by decide) (rfl : _ = ![1, 0, 63, 0]) (by decide) (oread (ohs (arg14 := arg14) H) (by decide) rfl) (lread H.xb (by decide) rfl))

end Cert.Proof.KI.Start

end
-- ==== Proof.Fold.lean ====
/-
  What the scratch buffers hold after each of the grid's points, and what the last point writes out.
-/
module

public import proofs.«01_k».proof.Proof.Blocks
public import proofs.«01_k».proof.Proof.StartVal
public import proofs.«01_k».proof.Proof.LaterVal

@[expose] public section

set_option maxRecDepth 16384

noncomputable section

namespace Cert.Proof.KI

open Cert.KernelIdeal Cert.KernelIdeal.Gen Cert.Proof
open Idealize.ShloMosaic Idealize.ShloMosaic.TcCoe Idealize.ShloMosaic.Tactic

variable {D : Data} {g : ℝ} {len : Fin 64 → Fin 128}

/-- The scratch buffers after frame `t`, the emissions of the frames from `τ` on in slot `q`. -/
structure Good (D : Data) (g : ℝ) (t q τ : ℕ) (s : Scr Ideal) : Prop where
  fcc : FccAt D g t s.w s.z
  fac : ∀ b l, s.a (ix2 b l) = D.beta t b l
  ts : ∀ b l, s.ts (ix2 b l) = ((D.tr (D.tg b l) (D.tg b l) : ℝ) : EReal)
  tm : ∀ b (l : Fin 128), s.tm (ix2 b l) = if h : l.val < 1 then ⊥ else ((D.tr (D.tg b l) (D.tg b ⟨l.val - 1, by omega⟩) : ℝ) : EReal)
  em : EmAt D s.em q τ 64
  oh : ∀ (b : Fin 64) (k : Fin 256) (l : Fin 128), s.oh (ix3 b k ⟨l.val, by omega⟩) = if k = D.tg b l then 1 else 0
  gm : s.g (ix2 0 0) = ((g : ℝ) : EReal)

theorem FccAt.of {t : ℕ} {w w' : FVec Ideal S64x256 .bf16} {z z' : FVec Ideal S64x1 .f32} (H : FccAt D g t w z)
    (hw : ∀ b n, w' (ix2 b n) = w (ix2 b n)) (hz : ∀ b, z' (ix2 b 0) = z (ix2 b 0)) : FccAt D g t w' z' := by
  obtain ⟨e, he, h1, h2⟩ := H
  exact ⟨e, he, fun b n => (hw b n).trans (h1 b n), fun b => (hz b).trans (h2 b)⟩

theorem pay1_at (w : FVec Ideal S64x256 .bf16) (b : Fin 64) (n : Fin 256) : (k0_pay1 (F := Ideal) w) (ix2 b n) = w (ix2 b n) := by
  unfold k0_pay1
  pointwise

theorem pay2_at (w : FVec Ideal S64x1 .f32) (b : Fin 64) : (k0_pay2 (F := Ideal) w) (ix2 b 0) = w (ix2 b 0) := by
  unfold k0_pay2
  pointwise

theorem pay3_at (w : FVec Ideal S64x128 .f32) (b : Fin 64) (l : Fin 128) : (k0_pay3 (F := Ideal) w) (ix2 b l) = w (ix2 b l) := by
  unfold k0_pay3
  pointwise

/-- What the last point writes out, of any state after frame 999. -/
theorem pay4_at {z : FVec Ideal S64x1 .f32} {w : FVec Ideal S64x256 .bf16} {a : FVec Ideal S64x128 .f32} {gm : EReal} {ts : IVec S64x1 32}
    (H : FccAt D g 999 w z) (ha : ∀ b l, a (ix2 b l) = D.beta 999 b l) (hg : gm = ((g : ℝ) : EReal))
    (hts : ∀ b, ts (ix2 b 0) = BitVec.ofNat 32 ((len b).val + 1)) (b : Fin 64) :
    (k0_pay4 (F := Ideal) z w a gm ts) (ix2 b 0) = D.gap len b := by
  obtain ⟨e, he, h1, h2⟩ := H
  subst hg
  have hl := (len b).isLt
  have h999 : Ideal.ofBits .f32 1148829696#32 = ((999 : ℝ) : EReal) := by
    simp [Ideal.ofBits, Ideal.ieee]
    rw [← EReal.coe_mul]
    exact congrArg (fun r : ℝ => (r : EReal)) (by norm_num)
  have hs : IntOp.subi (ts (ix2 b 0)) 1#32 = BitVec.ofNat 32 (len b).val := by
    rw [hts]
    show BitVec.ofNat 32 ((len b).val + 1) - 1#32 = _
    rw [BitVec.ofNat_add]
    exact BitVec.add_sub_cancel _ _
  unfold k0_pay4
  pointwise
  rw [hs, h999, h2]
  simp only [h1, ha]
  have hp := D.total_pos 999 b
  rw [← coe_sum, ← Finset.mul_sum, log_coe (mul_pos (he b) hp), Real.log_mul (he b).ne' hp.ne', ← EReal.coe_mul, ← EReal.coe_add, ← EReal.coe_add,
    Finset.sum_eq_single (len b)]
  · rw [show IntOp.cmpi .eq (BitVec.ofNat 32 (len b).val) (BitVec.ofNat 32 (len b).val) = 1#1 by simp [IntOp.cmpi]]
    unfold Data.gap
    refine congrArg₂ (· - ·) (congrArg (fun r : ℝ => (r : EReal)) ?_) rfl
    push_cast
    ring
  · intro l _ hne
    have hn : ¬ (BitVec.ofNat 32 l.val = BitVec.ofNat 32 (len b).val) := fun h => hne (Fin.ext (by
      have := congrArg BitVec.toNat h
      simp only [BitVec.toNat_ofNat] at this
      omega))
    rw [show IntOp.cmpi .eq (BitVec.ofNat 32 l.val) (BitVec.ofNat 32 (len b).val) = 0#1 by simp [IntOp.cmpi, beq_eq_false_iff_ne.2 hn]]
    rfl
  · exact fun h => absurd (Finset.mem_univ _) h

variable (m : (ℓ : Loc nD τ sig) → Buf (Elt Ideal) ℓ) (c : Dev nD)

/-- The first grid point. -/
abbrev t0 : Fin cfg0.N := ⟨0, by decide⟩

/-! What the first point leaves, buffer by buffer. -/

theorem first_w : (scrFirst m c).w = sc0.view.read (Elt Ideal) (sc0.view.writes (Elt Ideal) sc0.view.junk
    (initRun.sl.H8_2 (F := Ideal) c (st0_0 t0) (st0_1 t0) (st0_2 t0) (st0_3 t0) (st0_5 t0) sc0 sc6 ((hstage0_0 ((cfg0.slots t0 0).cast nbuf0_0)).unread (iblk m c 0 t0)) ((hstage0_1 ((cfg0.slots t0 1).cast nbuf0_1)).unread (iblk m c 1 t0)) ((hstage0_2 ((cfg0.slots t0 2).cast nbuf0_2)).unread (iblk m c 2 t0)) ((hstage0_3 ((cfg0.slots t0 3).cast nbuf0_3)).unread (iblk m c 3 t0)) ((hstage0_5 ((cfg0.slots t0 5).cast nbuf0_5)).unread (iblk m c 5 t0)))) := by
  delta scrFirst scrOf firstRun initRun
  dsimp only

theorem first_z : (scrFirst m c).z = sc1.view.read (Elt Ideal) (sc1.view.writes (Elt Ideal) sc1.view.junk
    (initRun.sl.H9_2 (F := Ideal) c (st0_0 t0) (st0_1 t0) (st0_2 t0) (st0_3 t0) (st0_5 t0) sc0 sc1 sc6 ((hstage0_0 ((cfg0.slots t0 0).cast nbuf0_0)).unread (iblk m c 0 t0)) ((hstage0_1 ((cfg0.slots t0 1).cast nbuf0_1)).unread (iblk m c 1 t0)) ((hstage0_2 ((cfg0.slots t0 2).cast nbuf0_2)).unread (iblk m c 2 t0)) ((hstage0_3 ((cfg0.slots t0 3).cast nbuf0_3)).unread (iblk m c 3 t0)) ((hstage0_5 ((cfg0.slots t0 5).cast nbuf0_5)).unread (iblk m c 5 t0)))) := rfl

theorem first_a : (scrFirst m c).a = sc2.view.read (Elt Ideal) (sc2.view.writes (Elt Ideal) sc2.view.junk
    (initRun.sl.H10_2 (F := Ideal) c (st0_0 t0) (st0_1 t0) (st0_2 t0) (st0_3 t0) (st0_5 t0) sc0 sc2 sc3 sc4 sc5 sc6 ((hstage0_0 ((cfg0.slots t0 0).cast nbuf0_0)).unread (iblk m c 0 t0)) ((hstage0_1 ((cfg0.slots t0 1).cast nbuf0_1)).unread (iblk m c 1 t0)) ((hstage0_2 ((cfg0.slots t0 2).cast nbuf0_2)).unread (iblk m c 2 t0)) ((hstage0_3 ((cfg0.slots t0 3).cast nbuf0_3)).unread (iblk m c 3 t0)) ((hstage0_5 ((cfg0.slots t0 5).cast nbuf0_5)).unread (iblk m c 5 t0)))) := rfl

theorem first_ts : (scrFirst m c).ts = sc3.view.read (Elt Ideal) (sc3.view.writes (Elt Ideal) sc3.view.junk
    (initRun.sl.H11_64 (F := Ideal) c (st0_3 t0) (st0_5 t0)  ((hstage0_3 ((cfg0.slots t0 3).cast nbuf0_3)).unread (iblk m c 3 t0)) ((hstage0_5 ((cfg0.slots t0 5).cast nbuf0_5)).unread (iblk m c 5 t0)))) := rfl

theorem first_tm : (scrFirst m c).tm = sc4.view.read (Elt Ideal) (sc4.view.writes (Elt Ideal) sc4.view.junk
    (initRun.sl.H12_64 (F := Ideal) c (st0_3 t0) (st0_5 t0)  ((hstage0_3 ((cfg0.slots t0 3).cast nbuf0_3)).unread (iblk m c 3 t0)) ((hstage0_5 ((cfg0.slots t0 5).cast nbuf0_5)).unread (iblk m c 5 t0)))) := rfl

theorem first_em : (scrFirst m c).em = sc5.view.read (Elt Ideal) (sc5.view.writes (Elt Ideal) sc5.view.junk
    (initRun.sl.H13_128 (F := Ideal) c (st0_0 t0) (st0_1 t0) (st0_2 t0) (st0_3 t0) (st0_5 t0) sc0 sc6 ((hstage0_0 ((cfg0.slots t0 0).cast nbuf0_0)).unread (iblk m c 0 t0)) ((hstage0_1 ((cfg0.slots t0 1).cast nbuf0_1)).unread (iblk m c 1 t0)) ((hstage0_2 ((cfg0.slots t0 2).cast nbuf0_2)).unread (iblk m c 2 t0)) ((hstage0_3 ((cfg0.slots t0 3).cast nbuf0_3)).unread (iblk m c 3 t0)) ((hstage0_5 ((cfg0.slots t0 5).cast nbuf0_5)).unread (iblk m c 5 t0)))) := by
  delta scrFirst scrOf firstRun initRun
  dsimp only

theorem first_oh : (scrFirst m c).oh = sc6.view.read (Elt Ideal) (sc6.view.writes (Elt Ideal) sc6.view.junk
    (initRun.sl.H14_64 (F := Ideal) c (st0_3 t0)  ((hstage0_3 ((cfg0.slots t0 3).cast nbuf0_3)).unread (iblk m c 3 t0)))) := by
  delta scrFirst scrOf firstRun initRun
  dsimp only

theorem first_g : (scrFirst m c).g = sc7.view.read (Elt Ideal) (sc7.view.writes (Elt Ideal) sc7.view.junk
    (initRun.sl.H15_1 (F := Ideal) c (st0_5 t0)  ((hstage0_5 ((cfg0.slots t0 5).cast nbuf0_5)).unread (iblk m c 5 t0)))) := rfl

/-! What a later point leaves, buffer by buffer. -/

section Next

variable (t : Fin cfg0.N) (ht : t.val ≠ 0) (s : Scr Ideal)

theorem next_w : (scrNext m c t ht s).w = sc0.view.read (Elt Ideal) (sc0.view.writes (Elt Ideal) (hsc0.unread s.w)
    (stepRun.sl.H8_1 (F := Ideal) c (grid0.coords t) (st0_0 t) (st0_1 t) (st0_5 t) sc0 sc6 sc7 ((hstage0_0 ((cfg0.slots t 0).cast nbuf0_0)).unread (iblk m c 0 t)) ((hstage0_1 ((cfg0.slots t 1).cast nbuf0_1)).unread (iblk m c 1 t)) ((hstage0_5 ((cfg0.slots t 5).cast nbuf0_5)).unread (iblk m c 5 t))
      (hsc0.unread s.w) (hsc6.unread s.oh) (hsc7.unread s.g))) := by
  delta scrNext laterRun stepRun
  dsimp only

theorem next_z : (scrNext m c t ht s).z = sc1.view.read (Elt Ideal) (sc1.view.writes (Elt Ideal) (hsc1.unread s.z)
    (stepRun.sl.H9_1 (F := Ideal) c (grid0.coords t) (st0_0 t) (st0_1 t) (st0_5 t) sc0 sc1 sc6 sc7 ((hstage0_0 ((cfg0.slots t 0).cast nbuf0_0)).unread (iblk m c 0 t)) ((hstage0_1 ((cfg0.slots t 1).cast nbuf0_1)).unread (iblk m c 1 t)) ((hstage0_5 ((cfg0.slots t 5).cast nbuf0_5)).unread (iblk m c 5 t))
      (hsc0.unread s.w) (hsc1.unread s.z) (hsc6.unread s.oh) (hsc7.unread s.g))) := rfl

theorem next_a : (scrNext m c t ht s).a = sc2.view.read (Elt Ideal) (sc2.view.writes (Elt Ideal) (hsc2.unread s.a)
    (stepRun.sl.H10_1 (F := Ideal) c (grid0.coords t) (st0_0 t) (st0_1 t) (st0_5 t) sc0 sc2 sc3 sc4 sc5 sc6 sc7 ((hstage0_0 ((cfg0.slots t 0).cast nbuf0_0)).unread (iblk m c 0 t)) ((hstage0_1 ((cfg0.slots t 1).cast nbuf0_1)).unread (iblk m c 1 t)) ((hstage0_5 ((cfg0.slots t 5).cast nbuf0_5)).unread (iblk m c 5 t))
      (hsc0.unread s.w) (hsc2.unread s.a) (hsc3.unread s.ts) (hsc4.unread s.tm) (hsc5.unread s.em) (hsc6.unread s.oh) (hsc7.unread s.g))) := rfl

theorem next_em : (scrNext m c t ht s).em = sc5.view.read (Elt Ideal) (sc5.view.writes (Elt Ideal) (hsc5.unread s.em)
    (stepRun.sl.H13_64 (F := Ideal) c (grid0.coords t) (st0_0 t) (st0_1 t) (st0_5 t) sc0 sc6 sc7 ((hstage0_0 ((cfg0.slots t 0).cast nbuf0_0)).unread (iblk m c 0 t)) ((hstage0_1 ((cfg0.slots t 1).cast nbuf0_1)).unread (iblk m c 1 t)) ((hstage0_5 ((cfg0.slots t 5).cast nbuf0_5)).unread (iblk m c 5 t))
      (hsc0.unread s.w) (hsc6.unread s.oh) (hsc7.unread s.g))) := by
  delta scrNext laterRun stepRun
  dsimp only

end Next

variable (A : Args D len (m ((c.tc : Thread nD τ).loc main_arg0)) (m ((c.tc : Thread nD τ).loc main_arg1))
    (m ((c.tc : Thread nD τ).loc main_arg2)) (m ((c.tc : Thread nD τ).loc main_arg3)))
  (hg : k0_pay5 (F := Ideal) (m ((c.tc : Thread nD τ).loc main_arg3)) = ((g : ℝ) : EReal))

include A hg

theorem good_first : Good D g 39 1 40 (scrFirst m c) := by
  have H : Start.Feed D g c (st0_0 t0) (st0_1 t0) (st0_2 t0) (st0_3 t0) (st0_5 t0)
      ((hstage0_0 ((cfg0.slots t0 0).cast nbuf0_0)).unread (iblk m c 0 t0))
      ((hstage0_1 ((cfg0.slots t0 1).cast nbuf0_1)).unread (iblk m c 1 t0))
      ((hstage0_2 ((cfg0.slots t0 2).cast nbuf0_2)).unread (iblk m c 2 t0))
      ((hstage0_3 ((cfg0.slots t0 3).cast nbuf0_3)).unread (iblk m c 3 t0))
      ((hstage0_5 ((cfg0.slots t0 5).cast nbuf0_5)).unread (iblk m c 5 t0)) :=
    { x := fun j b n => (congrFun ((hstage0_0 _).read_unread _) _).trans (blk0 m c A _ j b n)
      xb := fun b j n => (congrFun ((hstage0_1 _).read_unread _) _).trans (blk1 m c A _ b j n)
      x0 := fun b j n => (congrFun ((hstage0_2 _).read_unread _) _).trans (blk2 m c A _ b j n)
      tg := fun b l => (congrFun ((hstage0_3 _).read_unread _) _).trans (blk3 m c A _ b l)
      tr := fun n k => (congrFun ((hstage0_5 _).read_unread _) _).trans ((congrFun (blk5 m c _) _).trans (A.tr n k))
      gm := by
        refine Eq.trans (congrArg (k0_pay5 (F := Ideal)) ?_) hg
        exact ((View.readAt_full _ _ _).trans ((hstage0_5 _).read_unread _)).trans (blk5 m c _) }
  have E := Start.e64 (arg8 := sc0) (arg9 := sc1) (arg10 := sc2) (arg11 := sc3) (arg12 := sc4) (arg13 := sc5) (arg14 := sc6) H
  have R := Start.p64 (arg11 := sc3) (arg12 := sc4) (arg14 := sc6) H
  exact
    { fcc := FccAt.of E.fcc (fun b n => (congrFun ((first_w m c).trans (View.read_writes_full _ _ _ _ _)) _).trans (pay1_at _ b n))
        (fun b => (congrFun ((first_z m c).trans (View.read_writes_full _ _ _ _ _)) _).trans (pay2_at _ b))
      fac := fun b l => ((congrFun ((first_a m c).trans (View.read_writes_full _ _ _ _ _)) _).trans (pay3_at _ b l)).trans (E.fac b l)
      ts := by rw [first_ts]; exact fun b l => R.ts b l b.2
      tm := by rw [first_tm]; exact fun b l => R.tm b l b.2
      em := by rw [first_em]; exact E.nxt
      oh := by rw [first_oh]; exact fun b k l => R.oh b k l b.2
      gm := (congrFun ((first_g m c).trans (View.read_writes_full _ _ _ _ _)) _).trans H.gm }

theorem feed_later {t : Fin cfg0.N} (ht : t.val ≠ 0) {u q τ : ℕ} {s : Scr Ideal} (hu : 40 * t.val = u + 1) (hq : q = t.val % 2)
    (hτ : τ = u + 1) (G : Good D g u q τ s) :
    Later.Feed D g q u ((t.val + 1) % 2) (40 * min (t.val + 1) 24) c (grid0.coords t) (st0_0 t) (st0_1 t) (st0_5 t) sc0 sc1 sc2 sc3 sc4 sc5 sc6 sc7
      ((hstage0_0 ((cfg0.slots t 0).cast nbuf0_0)).unread (iblk m c 0 t))
      ((hstage0_1 ((cfg0.slots t 1).cast nbuf0_1)).unread (iblk m c 1 t))
      ((hstage0_5 ((cfg0.slots t 5).cast nbuf0_5)).unread (iblk m c 5 t))
      (hsc0.unread s.w) (hsc1.unread s.z) (hsc2.unread s.a) (hsc3.unread s.ts) (hsc4.unread s.tm) (hsc5.unread s.em) (hsc6.unread s.oh)
      (hsc7.unread s.g) := by
  subst hq hτ
  exact
    { selp := by clear G A hg hu ht; revert t; decide
      selq := by clear G A hg hu ht; revert t; decide
      hi := by clear G A hg hu; revert ht; revert t; decide
      hp := by omega
      hpq := by omega
      x := fun j b n => (congrFun ((hstage0_0 _).read_unread _) _).trans ((blk0 m c A t j b n).trans (by rw [hu]))
      xb := fun b j n => (congrFun ((hstage0_1 _).read_unread _) _).trans (blk1 m c A t b j n)
      tr := fun n k => (congrFun ((hstage0_5 _).read_unread _) _).trans ((congrFun (blk5 m c t) _).trans (A.tr n k))
      gm := by rw [hsc7.read_unread]; exact G.gm
      fcc := by rw [hsc0.read_unread, hsc1.read_unread]; exact G.fcc
      fac := by rw [hsc2.read_unread]; exact G.fac
      ts := by rw [hsc3.read_unread]; exact G.ts
      tm := by rw [hsc4.read_unread]; exact G.tm
      em := by rw [hsc5.read_unread]; exact G.em
      oh := by rw [hsc6.read_unread]; exact G.oh }

theorem good_next {t : Fin cfg0.N} (ht : t.val ≠ 0) {u q τ : ℕ} {s : Scr Ideal} (hu : 40 * t.val = u + 1) (hq : q = t.val % 2)
    (hτ : τ = u + 1) (G : Good D g u q τ s) :
    Good D g (u + 40) ((t.val + 1) % 2) (40 * min (t.val + 1) 24) (scrNext m c t ht s) := by
  have E := Later.e64 (feed_later m c A hg ht hu hq hτ G)
  exact
    { fcc := FccAt.of E.fcc (fun b n => (congrFun ((next_w m c t ht s).trans (View.read_writes_full _ _ _ _ _)) _).trans (pay1_at _ b n))
        (fun b => (congrFun ((next_z m c t ht s).trans (View.read_writes_full _ _ _ _ _)) _).trans (pay2_at _ b))
      fac := fun b l => ((congrFun ((next_a m c t ht s).trans (View.read_writes_full _ _ _ _ _)) _).trans (pay3_at _ b l)).trans (E.fac b l)
      ts := G.ts
      tm := G.tm
      em := by rw [next_em]; exact E.nxt
      oh := G.oh
      gm := G.gm }

theorem good_at : ∀ k, k < 25 → Good D g (40 * k + 39) ((k + 1) % 2) (40 * min (k + 1) 24) (scrAt m c k)
  | 0, _ => good_first m c A hg
  | k + 1, h => by
    rw [scrAt_succ m c k (h.trans_eq N_0.symm)]
    have G := good_at k (by omega)
    rw [show 40 * min (k + 1) 24 = 40 * k + 39 + 1 by omega] at G
    rw [show 40 * (k + 1) + 39 = 40 * k + 39 + 40 by omega]
    exact good_next m c A hg (t := ⟨k + 1, h.trans_eq N_0.symm⟩) (Nat.succ_ne_zero k) (by show 40 * (k + 1) = 40 * k + 39 + 1; omega) rfl rfl G

/-- What the last point writes out: the difference. -/
theorem out_last (t : Fin cfg0.N) (ht : t.val = 24) (b : Fin 64) : outAt m c t (ix2 b 0) = D.gap len b := by
  have h0 : t.val ≠ 0 := by omega
  have G := good_at m c A hg 23 (by omega)
  have E := Later.e64 (feed_later m c A hg (t := t) h0 (u := 959) (q := 0) (τ := 960) (by omega) (by omega) rfl G)
  unfold outAt
  rw [dif_neg h0, show t.val - 1 = 23 by omega]
  refine (congrFun ((congrArg _ (dif_pos ((cond2_iff t).2 ht))).trans (View.read_writes_full _ _ _ _ _)) _).trans ?_
  refine pay4_at E.fcc E.fac ?_ ?_ b
  · refine Eq.trans (congrFun (View.readAt_full _ _ _) _) ?_
    rw [hsc7.read_unread]
    exact G.gm
  · intro b
    exact (congrFun ((View.readAt_full _ _ _).trans ((hstage0_4 _).read_unread _)) _).trans (blk4 m c A t b)

end Cert.Proof.KI

end
-- ==== Proof.Out.lean ====
/-
  The run of the kernel, read: the result array holds the difference of each row.
-/
module

public import proofs.«01_k».proof.Proof.Fold
public import Idealize.ShloMosaic.Lib.Pipeline.Value
public import Idealize.ShloMosaic.Lib.StableHlo.RunRead

@[expose] public section

set_option maxRecDepth 16384

noncomputable section

namespace Cert.Proof.KI

open Cert.KernelIdeal Cert.KernelIdeal.Gen Cert.Proof
open Idealize.ShloMosaic Idealize.ShloMosaic.TcCoe Idealize.ShloMosaic.Tactic

variable {D : Data} {g : ℝ} {len : Fin 64 → Fin 128}
variable (m : (ℓ : Loc nD τ sig) → Buf (Elt Ideal) ℓ) (ρ : Dev nD → PrngReg) (c : Dev nD)

/-- The last point. -/
def tEnd : Fin cfg0.N := ⟨24, by decide⟩

/-- The column the last point writes out. -/
def column : Buf (Elt Ideal) ((c.tc : Thread nD τ).loc main_call0_v3) := outAt m c tEnd

theorem flushed_eq (t : Fin cfg0.N) (hf : (cfg0.win 6).flush t = true) :
    (dats m 0 c).flushed 6 t = ((cfg0.win 6).blk t).view.read (Elt Ideal) (column m c) := by
  have hN : cfg0.N = 25 := N_0
  have h3 : t.val = 24 := by have := (flush0_6 t).mp hf; have := t.isLt; omega
  obtain rfl : t = tEnd := Fin.ext h3
  show (cfg0.win 6).cut (grid0.coords tEnd) ((dats m 0 c).after 6 tEnd) = _
  rw [after0_6]
  have hz' : (fun a => win0_6.index tEnd a * main_call0_v3.ty.shape.size a) = fun _ => 0 := funext fun a => by fin_cases a <;> decide
  exact (Memref.read_access_unit_zero (Elt Ideal) main_call0_v3 hz' (fun a => by rw [congrFun hz' a]; simp) (column m c)).symm

theorem final_column : (dats m 0 c).arrAt 6 cfg0.N = column m c :=
  (dats m 0 c).arrAt_eq_of_cover 6 (column m c) (flushed_eq m c) fun i =>
    ⟨tEnd, (flush0_6 tEnd).mpr rfl, by
      show i ∈ ((View.whole main_call0_v3).slice (win0_6.rect tEnd)).set
      rw [View.set_slice_whole, Rect.mem_set_unit]
      intro a
      have h0 : (i 0 : Nat) < 64 := (i 0).isLt
      have h1 : (i 1 : Nat) < 1 := (i 1).isLt
      match a with
      | ⟨0, _⟩ => show win0_6.index tEnd 0 * win0_6.size 0 ≤ (i 0 : Nat) ∧ (i 0 : Nat) < win0_6.index tEnd 0 * win0_6.size 0 + win0_6.xsize (grid0.coords tEnd) 0
                  rw [show win0_6.index tEnd 0 * win0_6.size 0 = 0 from by decide +kernel, show win0_6.xsize (grid0.coords tEnd) 0 = 64 from by decide +kernel]; omega
      | ⟨1, _⟩ => show win0_6.index tEnd 1 * win0_6.size 1 ≤ (i 1 : Nat) ∧ (i 1 : Nat) < win0_6.index tEnd 1 * win0_6.size 1 + win0_6.xsize (grid0.coords tEnd) 1
                  rw [show win0_6.index tEnd 1 * win0_6.size 1 = 0 from by decide +kernel, show win0_6.xsize (grid0.coords tEnd) 1 = 1 from by decide +kernel]; omega⟩

/-- The host's last operation lays the column out as a row. -/
theorem tail_v0 : Pipeline.afterTail₀ cfgs (dats m) 0 (V0 m) [hostOps1] c main_v0
    = shapeCast S64 (column m c) shapeCasts_S64x1_S64 := by
  unfold Pipeline.afterTail₀
  simp only [hostOps1, List.flatten_cons, List.flatten_nil, List.append_nil]
  after_reads_simp
  rw [← final_column]
  refine congrArg (fun v : FVec Ideal S64x1 .f32 => shapeCast S64 v shapeCasts_S64x1_S64) (?_ : Pipeline.withArrays spec0 c (V0 m c)
    (fun w => (dats m 0 c).arrAt w cfg0.N) (Proc.devRef .tc (Pipeline.arrRef spec0 6)) = (dats m 0 c).arrAt 6 cfg0.N)
  refine Pipeline.withArrays_arr_shared spec0 c (V0 m c) _ (fun w w' hne e => ?_) (6 : Fin 7)
  have hw : w = 1 ∧ w' = 2 ∨ w = 2 ∧ w' = 1 := by revert w w'; decide
  rcases hw with ⟨rfl, rfl⟩ | ⟨rfl, rfl⟩
  · exact ((dats m 0 c).arrAt_in 1 rfl _).trans (A_eq m c 1)
  · exact ((dats m 0 c).arrAt_in 2 rfl _).trans (A_eq m c 2)

theorem run : θ_run defs (onTc (τ := τ) (main (F := Ideal))) ⟨m, fun _ => 0, ρ⟩ fun r => ∀ c : Dev nD,
    r.2.mem ((c.tc : Thread nD τ).loc main_v0) = shapeCast S64 (column m c) shapeCasts_S64x1_S64
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨
      ((h c).2 main_v0 (Pipeline.mem_restRefs_of main_v0 (by decide) (by decide))).trans (tail_v0 m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c)))⟩) (run_main m ρ)

/-- The kernel's result: each row's difference. -/
theorem value (A : Args D len (m (c.tc.loc main_arg0)) (m (c.tc.loc main_arg1)) (m (c.tc.loc main_arg2)) (m (c.tc.loc main_arg3)))
    (b : Fin 64) : (shapeCast S64 (column m c) shapeCasts_S64x1_S64 : FVec Ideal S64 .f32) (ix1 b) = D.gap len b := by
  obtain ⟨g, hg⟩ := top_real A.tr
  refine Eq.trans ?_ (out_last m c A hg tEnd rfl b)
  unfold column
  generalize outAt m c tEnd = o
  pointwise

end Cert.Proof.KI

end
-- ==== Proof.RefGather.lean ====
/-
  The reference's gathers at an index: the emissions of the targets, the transition scores between targets, and the
  last score of each row.
-/
module

public import proofs.«01_k».proof.Proof.Math
public import proofs.«01_k».proof.Proof.Gen.ReferenceIdeal

@[expose] public section

set_option maxRecDepth 16384

noncomputable section

namespace Cert.Proof.RI

open Idealize.ShloMosaic Cert.ReferenceIdeal Cert.ReferenceIdeal.Gen

variable {α : Type}

/-- A row's emissions at its targets, frame by frame. -/
theorem frames_gather (x : S64x1000x256.Idx → α) (idx : IVec S64x128x1 32) (b : Fin 64) (t : Fin 1000) (l : Fin 128)
    (n : Fin 256) (h : (idx (ix3 b l 0)).toInt.toNat = n.val) :
    Host.gather gather_S64x1000x256_S64x128x1_S64x1000x128_1_2_0_0_2_2_110001 x idx (ix3 b t l) = x (ix3 b t n) := by
  unfold Host.gather
  refine congrArg x (funext fun a => Fin.ext ?_)
  show GatherDims.start _ _ idx a + GatherDims.batchCoord _ _ a + GatherDims.offCoord _ _ a = _
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S64x1000x256_S64x128x1_S64x1000x128_1_2_0_0_2_2_110001.operandBatchingDims from List.mem_singleton.mpr rfl)]
    rfl
  · rw [GatherDims.batchCoord_eq_zero _ _ _ (fun h => absurd (List.mem_singleton.mp h) (by decide))]
    unfold GatherDims.start
    rw [dif_neg (show ¬ (1 : Fin 3) ∈ gather_S64x1000x256_S64x128x1_S64x1000x128_1_2_0_0_2_2_110001.startIndexMap from fun h => absurd (List.mem_singleton.mp h) (by decide))]
    simp only [Nat.zero_add]
    unfold GatherDims.offCoord
    rw [dif_pos (show (1 : Fin 3) ∈ gather_S64x1000x256_S64x128x1_S64x1000x128_1_2_0_0_2_2_110001.sKept from (GatherDims.mem_sKept _ _).mpr ⟨fun h => absurd (List.mem_singleton.mp h) (by decide),
      fun h => absurd (List.mem_singleton.mp h) (by decide)⟩)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S64x1000x256_S64x128x1_S64x1000x128_1_2_0_0_2_2_110001.startIndexMap from List.mem_singleton.mpr rfl)]
    have hsi : GatherDims.siIdx gather_S64x1000x256_S64x128x1_S64x1000x128_1_2_0_0_2_2_110001 (ix3 b t l)
        ⟨List.idxOf (2 : Fin 3) gather_S64x1000x256_S64x128x1_S64x1000x128_1_2_0_0_2_2_110001.startIndexMap,
        List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi, h]
    exact min_eq_left (Nat.le_of_lt_succ n.isLt)

/-- The transition scores at a pair of labels for each position, -/
theorem pairs_gather (x : S256x256.Idx → α) (idx : IVec S64x128x2 32) (b : Fin 64) (l : Fin 128) (n k : Fin 256)
    (hn : (idx (ix3 b l 0)).toInt.toNat = n.val) (hk : (idx (ix3 b l 1)).toInt.toNat = k.val) :
    Host.gather gather_S256x256_S64x128x2_S64x128_n_01_n_n_01_2_11 x idx (ix2 b l) = x (ix2 n k) := by
  unfold Host.gather
  refine congrArg x (funext fun a => Fin.ext ?_)
  show GatherDims.start _ _ idx a + GatherDims.batchCoord _ _ a + GatherDims.offCoord _ _ a = _
  have h2 : a = 0 ∨ a = 1 := by
    match a with
    | ⟨0, _⟩ => exact Or.inl rfl
    | ⟨1, _⟩ => exact Or.inr rfl
  have mem : ∀ a : Fin 2, a ∈ [(0 : Fin 2), 1] := by decide
  rw [GatherDims.batchCoord_eq_zero _ _ _ (List.not_mem_nil),
    GatherDims.offCoord_eq_zero _ _ _ (fun h => ((GatherDims.mem_sKept _ _).mp h).1 (mem a))]
  simp only [Nat.add_zero]
  unfold GatherDims.start
  rw [dif_pos (show a ∈ gather_S256x256_S64x128x2_S64x128_n_01_n_n_01_2_11.startIndexMap from mem a)]
  have hsi : GatherDims.siIdx gather_S256x256_S64x128x2_S64x128_n_01_n_n_01_2_11 (ix2 b l)
      ⟨List.idxOf a gather_S256x256_S64x128x2_S64x128_n_01_n_n_01_2_11.startIndexMap,
      List.idxOf_lt_length_iff.2 (mem a)⟩ = ix3 b l ⟨a.val, a.isLt⟩ := by
    funext c; refine Fin.ext ?_
    rcases h2 with rfl | rfl
    · match c with
      | ⟨0, _⟩ => rfl
      | ⟨1, _⟩ => rfl
      | ⟨2, _⟩ => rfl
    · match c with
      | ⟨0, _⟩ => rfl
      | ⟨1, _⟩ => rfl
      | ⟨2, _⟩ => rfl
  rw [hsi]
  rcases h2 with rfl | rfl
  · exact (congrArg (min · 255) hn).trans (min_eq_left (Nat.le_of_lt_succ n.isLt))
  · exact (congrArg (min · 255) hk).trans (min_eq_left (Nat.le_of_lt_succ k.isLt))

/-- and for each position but the first. -/
theorem pairs_gather' (x : S256x256.Idx → α) (idx : IVec S64x127x2 32) (b : Fin 64) (l : Fin 127) (n k : Fin 256)
    (hn : (idx (ix3 b l 0)).toInt.toNat = n.val) (hk : (idx (ix3 b l 1)).toInt.toNat = k.val) :
    Host.gather gather_S256x256_S64x127x2_S64x127_n_01_n_n_01_2_11 x idx (ix2 b l) = x (ix2 n k) := by
  unfold Host.gather
  refine congrArg x (funext fun a => Fin.ext ?_)
  show GatherDims.start _ _ idx a + GatherDims.batchCoord _ _ a + GatherDims.offCoord _ _ a = _
  have h2 : a = 0 ∨ a = 1 := by
    match a with
    | ⟨0, _⟩ => exact Or.inl rfl
    | ⟨1, _⟩ => exact Or.inr rfl
  have mem : ∀ a : Fin 2, a ∈ [(0 : Fin 2), 1] := by decide
  rw [GatherDims.batchCoord_eq_zero _ _ _ (List.not_mem_nil),
    GatherDims.offCoord_eq_zero _ _ _ (fun h => ((GatherDims.mem_sKept _ _).mp h).1 (mem a))]
  simp only [Nat.add_zero]
  unfold GatherDims.start
  rw [dif_pos (show a ∈ gather_S256x256_S64x127x2_S64x127_n_01_n_n_01_2_11.startIndexMap from mem a)]
  have hsi : GatherDims.siIdx gather_S256x256_S64x127x2_S64x127_n_01_n_n_01_2_11 (ix2 b l)
      ⟨List.idxOf a gather_S256x256_S64x127x2_S64x127_n_01_n_n_01_2_11.startIndexMap,
      List.idxOf_lt_length_iff.2 (mem a)⟩ = ix3 b l ⟨a.val, a.isLt⟩ := by
    funext c; refine Fin.ext ?_
    rcases h2 with rfl | rfl
    · match c with
      | ⟨0, _⟩ => rfl
      | ⟨1, _⟩ => rfl
      | ⟨2, _⟩ => rfl
    · match c with
      | ⟨0, _⟩ => rfl
      | ⟨1, _⟩ => rfl
      | ⟨2, _⟩ => rfl
  rw [hsi]
  rcases h2 with rfl | rfl
  · exact (congrArg (min · 255) hn).trans (min_eq_left (Nat.le_of_lt_succ n.isLt))
  · exact (congrArg (min · 255) hk).trans (min_eq_left (Nat.le_of_lt_succ k.isLt))

/-- Each row's score at one position. -/
theorem last_gather (x : S64x128.Idx → α) (idx : IVec S64x1x1 32) (b : Fin 64) (l : Fin 128)
    (h : (idx (ix3 b 0 0)).toInt.toNat = l.val) :
    Host.gather gather_S64x128_S64x1x1_S64x1_n_1_0_0_1_2_11 x idx (ix2 b 0) = x (ix2 b l) := by
  unfold Host.gather
  refine congrArg x (funext fun a => Fin.ext ?_)
  show GatherDims.start _ _ idx a + GatherDims.batchCoord _ _ a + GatherDims.offCoord _ _ a = _
  have h2 : a = 0 ∨ a = 1 := by
    match a with
    | ⟨0, _⟩ => exact Or.inl rfl
    | ⟨1, _⟩ => exact Or.inr rfl
  rcases h2 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S64x128_S64x1x1_S64x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x128_S64x1x1_S64x1_n_1_0_0_1_2_11.startIndexMap from List.mem_singleton.mpr rfl)]
    have hsi : GatherDims.siIdx gather_S64x128_S64x1x1_S64x1_n_1_0_0_1_2_11 (ix2 b 0)
        ⟨List.idxOf (1 : Fin 2) gather_S64x128_S64x1x1_S64x1_n_1_0_0_1_2_11.startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi, h]
    exact min_eq_left (Nat.le_of_lt_succ l.isLt)

/-- A small number written as a word, read signed. -/
theorem word_int (n : ℕ) (h : n < 2 ^ 31) : (BitVec.ofNat 32 n).toInt = (n : ℤ) := by
  have e : (BitVec.ofNat 32 n).toNat = n := by
    rw [BitVec.toNat_ofNat]; exact Nat.mod_eq_of_lt (by omega)
  rw [BitVec.toInt_eq_toNat_of_lt (by rw [e]; omega), e]

theorem word_nat (n : ℕ) (h : n < 2 ^ 31) : (BitVec.ofNat 32 n).toInt.toNat = n := by
  rw [word_int n h]; rfl

/-- A label is not negative, so it is kept. -/
theorem wrap_keep (n : ℕ) (h : n < 2 ^ 31) (a : BitVec 32) :
    Scalar.select (IntOp.cmpi .slt (BitVec.ofNat 32 n) 0#32) a (BitVec.ofNat 32 n) = BitVec.ofNat 32 n := by
  have : ¬ (BitVec.ofNat 32 n).toInt < 0 := by rw [word_int n h]; omega
  unfold Scalar.select IntOp.cmpi
  simp [BitVec.slt, this]

end Cert.Proof.RI
-- ==== Proof.RefEntry.lean ====
/-
  What the reference's loop starts from: the frames, the targets' emissions and transition scores, and the first frame's
  scores.
-/
module

public import proofs.«01_k».proof.Proof.RefGather
public import proofs.«01_k».proof.Proof.First
public import proofs.«01_k».proof.Proof.Gen.ReferenceIdeal.Run

@[expose] public section

set_option maxRecDepth 16384

noncomputable section

namespace Cert.Proof.RI

open Idealize.ShloMosaic Idealize.ShloMosaic.TcCoe Idealize.ShloMosaic.Tactic Idealize.ShloMosaic.StableHlo
open Cert.ReferenceIdeal Cert.ReferenceIdeal.Gen Cert.ReferenceIdeal.Value

section Terms

variable {F : FTy → Type} [FloatOps F]

/-- The targets as indices of the labels. -/
def labels (tgt : IVec S64x128 32) : IVec S64x128 32 :=
  select (cmpi .slt tgt (broadcastInDim S64x128 ![] bcast_S_S64x128 (constantI S_ 32 0#32)))
    (addi tgt (broadcastInDim S64x128 ![] bcast_S_S64x128 (constantI S_ 32 256#32))) tgt

/-- The same of all the targets of a row but one. -/
def labels' (tgt : IVec S64x127 32) : IVec S64x127 32 :=
  select (cmpi .slt tgt (broadcastInDim S64x127 ![] bcast_S_S64x127 (constantI S_ 32 0#32)))
    (addi tgt (broadcastInDim S64x127 ![] bcast_S_S64x127 (constantI S_ 32 256#32))) tgt

/-- The emissions of the targets. -/
def emis (x : FVec F S64x1000x256 .f32) (tgt : IVec S64x128 32) : FVec F S64x1000x128 .f32 :=
  Host.gather gather_S64x1000x256_S64x128x1_S64x1000x128_1_2_0_0_2_2_110001 x
    (broadcastInDim S64x128x1 ![0, 1] bcast_S64x128_S64x128x1_0_1 (labels tgt))

/-- The scores of staying at a position. -/
def stays (tr : FVec F S256x256 .f32) (tgt : IVec S64x128 32) : FVec F S64x128 .f32 :=
  Host.gather gather_S256x256_S64x128x2_S64x128_n_01_n_n_01_2_11 tr
    (concatenate S64x128x2 2 [⟨S64x128x1, broadcastInDim S64x128x1 ![0, 1] bcast_S64x128_S64x128x1_0_1 (labels tgt)⟩,
      ⟨S64x128x1, broadcastInDim S64x128x1 ![0, 1] bcast_S64x128_S64x128x1_0_1 (labels tgt)⟩]
      concatenates_S64x128x1_S64x128x1_S64x128x2_d2)

/-- The scores of moving to a position from the one before. -/
def moves (tr : FVec F S256x256 .f32) (tgt : IVec S64x128 32) : FVec F S64x127 .f32 :=
  Host.gather gather_S256x256_S64x127x2_S64x127_n_01_n_n_01_2_11 tr
    (concatenate S64x127x2 2 [⟨S64x127x1, broadcastInDim S64x127x1 ![0, 1] bcast_S64x127_S64x127x1_0_1
        (labels' (extractStridedSlice S64x127 ![0, 1] tgt slices_S64x128_S64x127_0_1))⟩,
      ⟨S64x127x1, broadcastInDim S64x127x1 ![0, 1] bcast_S64x127_S64x127x1_0_1
        (labels' (extractStridedSlice S64x127 ![0, 0] tgt slices_S64x128_S64x127_0_0))⟩]
      concatenates_S64x127x1_S64x127x1_S64x127x2_d2)

/-- The first frame's scores of the target's positions. -/
def starts (x : FVec F S64x1000x256 .f32) (tgt : IVec S64x128 32) : FVec F S64x128 .f32 :=
  select (broadcastInDim S64x128 ![0, 1] bcast_S1x128_S64x128_0_1 (cmpi .eq
      (broadcastInDim S1x128 ![1] bcast_S128_S1x128_1 (iotaInDim S128 32 0))
      (broadcastInDim S1x128 ![] bcast_S_S1x128 (constantI S_ 32 0#32))))
    (shapeCast S64x128 (extractStridedSlice S64x1x128 ![0, 0, 0] (emis x tgt) slices_S64x1000x128_S64x1x128_0_0_0)
      shapeCasts_S64x1x128_S64x128)
    (broadcastInDim S64x128 ![] bcast_S_S64x128 (constant S_ .f32 0xFF800000#32))

variable (m : (ℓ : Loc nD τ sig) → Buf (Elt F) ℓ) (c : Dev nD)

theorem entry0 : entryContents preI m c (Proc.devRef .tc main_v51_0)
    = transpose S999x64x256 [1, 0, 2] (extractStridedSlice S64x999x256 ![0, 1, 0] (m ((c.tc : Thread nD τ).loc main_arg0))
        slices_S64x1000x256_S64x999x256_0_1_0) transposes_S64x999x256_S999x64x256_1_0_2 := by
  simp only [entryContents, afterL_cons, afterL_nil]
  after_reads_simp
  rfl

theorem entry1 : entryContents preI m c (Proc.devRef .tc main_v51_1)
    = transpose S999x64x128 [1, 0, 2] (extractStridedSlice S64x999x128 ![0, 1, 0]
        (emis (m ((c.tc : Thread nD τ).loc main_arg0)) (m ((c.tc : Thread nD τ).loc main_arg1)))
        slices_S64x1000x128_S64x999x128_0_1_0) transposes_S64x999x128_S999x64x128_1_0_2 := by
  simp only [entryContents, afterL_cons, afterL_nil]
  after_reads_simp
  rfl

theorem entry2 : entryContents preI m c (Proc.devRef .tc main_v51_2) = m ((c.tc : Thread nD τ).loc main_arg3) := by
  simp only [entryContents, afterL_cons, afterL_nil]
  after_reads_simp
  rfl

theorem entry3 : entryContents preI m c (Proc.devRef .tc main_v51_3)
    = stays (m ((c.tc : Thread nD τ).loc main_arg3)) (m ((c.tc : Thread nD τ).loc main_arg1)) := by
  simp only [entryContents, afterL_cons, afterL_nil]
  after_reads_simp
  rfl

theorem entry4 : entryContents preI m c (Proc.devRef .tc main_v51_4)
    = moves (m ((c.tc : Thread nD τ).loc main_arg3)) (m ((c.tc : Thread nD τ).loc main_arg1)) := by
  simp only [entryContents, afterL_cons, afterL_nil]
  after_reads_simp
  rfl

theorem entry5 : entryContents preI m c (Proc.devRef .tc main_v51_5)
    = broadcastInDim S64x1 ![] bcast_S_S64x1 (constant S_ .f32 0xFF800000#32 : FVec F S_ .f32) := by
  simp only [entryContents, afterL_cons, afterL_nil]
  after_reads_simp
  rfl

theorem entry7 : entryContents preI m c (Proc.devRef .tc main_v51_7)
    = shapeCast S64x256 (extractStridedSlice S64x1x256 ![0, 0, 0] (m ((c.tc : Thread nD τ).loc main_arg0))
        slices_S64x1000x256_S64x1x256_0_0_0) shapeCasts_S64x1x256_S64x256 := by
  simp only [entryContents, afterL_cons, afterL_nil]
  after_reads_simp
  rfl

theorem entry8 : entryContents preI m c (Proc.devRef .tc main_v51_8)
    = starts (m ((c.tc : Thread nD τ).loc main_arg0)) (m ((c.tc : Thread nD τ).loc main_arg1)) := by
  simp only [entryContents, afterL_cons, afterL_nil]
  after_reads_simp
  rfl

end Terms

end Cert.Proof.RI
-- ==== Proof.RefVal.lean ====
/-
  What the reference computes: its loop carries the logarithm of the total path weight and the alignment scores of each
  frame, and its result is the logarithm of the last total less the last alignment score.
-/
module

public import proofs.«01_k».proof.Proof.RefEntry
public import proofs.«01_k».proof.Proof.Gap

@[expose] public section

set_option maxRecDepth 16384

noncomputable section

namespace Cert.Proof.RI

open Idealize.ShloMosaic Idealize.ShloMosaic.TcCoe Idealize.ShloMosaic.Tactic Idealize.ShloMosaic.StableHlo
open Cert.ReferenceIdeal Cert.ReferenceIdeal.Gen Cert.ReferenceIdeal.Value

variable {D : Data}

/-! ## The tables the loop reads -/

section Tables

variable {x : FVec Ideal S64x1000x256 .f32} {tgt : IVec S64x128 32} {tr : FVec Ideal S256x256 .f32}

theorem labels_at (ht : ∀ b l, tgt (ix2 b l) = BitVec.ofNat 32 (D.tg b l).val) (b : Fin 64) (l : Fin 128) :
    labels tgt (ix2 b l) = BitVec.ofNat 32 (D.tg b l).val := by
  have hb := (D.tg b l).isLt
  unfold labels
  pointwise
  rw [ht]
  exact wrap_keep _ (by omega) _

theorem labels_at' {u : IVec S64x127 32} (b : Fin 64) (l : Fin 127) (n : Fin 256) (h : u (ix2 b l) = BitVec.ofNat 32 n.val) :
    labels' u (ix2 b l) = BitVec.ofNat 32 n.val := by
  have hb := n.isLt
  unfold labels'
  pointwise
  rw [h]
  exact wrap_keep _ (by omega) _

theorem label_nat (n : Fin 256) : (BitVec.ofNat 32 n.val).toInt.toNat = n.val := word_nat _ (by have := n.isLt; omega)

theorem emis_at (hx : ∀ b (t : Fin 1000) n, x (ix3 b t n) = ((D.x b t.val n : ℝ) : EReal))
    (ht : ∀ b l, tgt (ix2 b l) = BitVec.ofNat 32 (D.tg b l).val) (b : Fin 64) (t : Fin 1000) (l : Fin 128) :
    emis x tgt (ix3 b t l) = ((D.x b t.val (D.tg b l) : ℝ) : EReal) := by
  unfold emis
  rw [frames_gather _ _ b t l (D.tg b l) ?_, hx]
  pointwise
  rw [labels_at ht, label_nat]

theorem stays_at (hr : ∀ n k, tr (ix2 n k) = ((D.tr n k : ℝ) : EReal))
    (ht : ∀ b l, tgt (ix2 b l) = BitVec.ofNat 32 (D.tg b l).val) (b : Fin 64) (l : Fin 128) :
    stays tr tgt (ix2 b l) = ((D.tr (D.tg b l) (D.tg b l) : ℝ) : EReal) := by
  unfold stays
  rw [pairs_gather _ _ b l (D.tg b l) (D.tg b l) ?_ ?_, hr]
  · pointwise
    rw [labels_at ht, label_nat]
  · pointwise
    rw [labels_at ht, label_nat]

theorem moves_at (hr : ∀ n k, tr (ix2 n k) = ((D.tr n k : ℝ) : EReal))
    (ht : ∀ b l, tgt (ix2 b l) = BitVec.ofNat 32 (D.tg b l).val) (b : Fin 64) (l : Fin 127) :
    moves tr tgt (ix2 b l) = ((D.tr (D.tg b ⟨l.val + 1, by omega⟩) (D.tg b ⟨l.val, by omega⟩) : ℝ) : EReal) := by
  unfold moves
  rw [pairs_gather' _ _ b l (D.tg b ⟨l.val + 1, by omega⟩) (D.tg b ⟨l.val, by omega⟩) ?_ ?_, hr]
  · pointwise
    rw [labels_at' b l (D.tg b ⟨l.val + 1, by omega⟩), label_nat]
    pointwise
    rw [← ht b ⟨l.val + 1, by omega⟩]
    exact congrArg (fun q => tgt (ix2 b q)) (Fin.ext (Nat.add_comm 1 l.val))
  · pointwise
    rw [labels_at' b l (D.tg b ⟨l.val, by omega⟩), label_nat]
    pointwise
    exact ht b ⟨l.val, by omega⟩

theorem starts_at (hx : ∀ b (t : Fin 1000) n, x (ix3 b t n) = ((D.x b t.val n : ℝ) : EReal))
    (ht : ∀ b l, tgt (ix2 b l) = BitVec.ofNat 32 (D.tg b l).val) (b : Fin 64) (l : Fin 128) :
    starts x tgt (ix2 b l) = D.beta 0 b l := by
  unfold starts
  pointwise
  simp only [Data.beta]
  rw [select_first l.2, ninf]
  exact if_congr Iff.rfl (emis_at hx ht b 0 l) rfl

end Tables

/-! ## One pass of the loop -/

/-- What the loop's buffers hold before its pass `k`. -/
structure Loop (D : Data) (k : ℕ) (V : Valuation τ sig (Elt Ideal)) : Prop where
  x : ∀ (j : Fin 999) b n, (V (Proc.devRef .tc main_v51_0) : FVec Ideal S999x64x256 .f32) (ix3 j b n) = ((D.x b (j.val + 1) n : ℝ) : EReal)
  e : ∀ (j : Fin 999) b l, (V (Proc.devRef .tc main_v51_1) : FVec Ideal S999x64x128 .f32) (ix3 j b l) = ((D.x b (j.val + 1) (D.tg b l) : ℝ) : EReal)
  tr : ∀ n k, (V (Proc.devRef .tc main_v51_2) : FVec Ideal S256x256 .f32) (ix2 n k) = ((D.tr n k : ℝ) : EReal)
  ts : ∀ b l, (V (Proc.devRef .tc main_v51_3) : FVec Ideal S64x128 .f32) (ix2 b l) = ((D.tr (D.tg b l) (D.tg b l) : ℝ) : EReal)
  tm : ∀ b (l : Fin 127), (V (Proc.devRef .tc main_v51_4) : FVec Ideal S64x127 .f32) (ix2 b l)
    = ((D.tr (D.tg b ⟨l.val + 1, by omega⟩) (D.tg b ⟨l.val, by omega⟩) : ℝ) : EReal)
  neg : ∀ b, (V (Proc.devRef .tc main_v51_5) : FVec Ideal S64x1 .f32) (ix2 b 0) = (⊥ : EReal)
  ctr : (V (Proc.devRef .tc main_v51_6) : IVec S_ 32) = fun _ => BitVec.ofNat 32 k
  al : ∀ b n, (V (Proc.devRef .tc main_v51_7) : FVec Ideal S64x256 .f32) (ix2 b n) = ((Real.log (D.mass k b n) : ℝ) : EReal)
  be : ∀ b l, (V (Proc.devRef .tc main_v51_8) : FVec Ideal S64x128 .f32) (ix2 b l) = D.beta k b l

theorem slab_of {n k : ℕ} {α : Type} (w : (⟨3, ![999, 64, n]⟩ : Shape).Idx → α) (st : Fin 3 → ℤ) (hk : k < 999) (h0 : st 0 = k) (h1 : st 1 = ((0 : ℕ) : ℤ))
    (h2 : st 2 = ((0 : ℕ) : ℤ)) {hs} (b : Fin 64) (l : Fin n) :
    Host.dynamicSlice (s := (⟨3, ![999, 64, n]⟩ : Shape)) (⟨3, ![1, 64, n]⟩ : Shape) w st hs (ix3 0 b l) = w (ix3 ⟨k, hk⟩ b l) := by
  rw [Host.dynamicSlice_apply]
  refine congrArg w (funext fun a => Fin.ext ?_)
  match a with
  | ⟨0, _⟩ =>
    exact (congrArg (· + 0) (Host.clampedStart_of_le (s := (⟨3, ![999, 64, n]⟩ : Shape)) (t := (⟨3, ![1, 64, n]⟩ : Shape)) hs.1 st 0 k h0 (show k + 1 ≤ 999 by omega))).trans rfl
  | ⟨1, _⟩ =>
    exact (congrArg (· + b.val) (Host.clampedStart_of_le (s := (⟨3, ![999, 64, n]⟩ : Shape)) (t := (⟨3, ![1, 64, n]⟩ : Shape)) hs.1 st 1 0 h1 (show 0 + 64 ≤ 64 by omega))).trans (Nat.zero_add _)
  | ⟨2, _⟩ =>
    exact (congrArg (· + l.val) (Host.clampedStart_of_le (s := (⟨3, ![999, 64, n]⟩ : Shape)) (t := (⟨3, ![1, 64, n]⟩ : Shape)) hs.1 st 2 0 h2 (show 0 + n ≤ n by omega))).trans (Nat.zero_add _)

/-- A frame of a stack, at a counter in range. -/
theorem slab_at {n k : ℕ} {α : Type} (w : (⟨3, ![999, 64, n]⟩ : Shape).Idx → α) {c0 : IVec S_ 32} (hc : c0 = fun _ => BitVec.ofNat 32 k)
    (hk : k < 999) {hs : (⟨3, ![999, 64, n]⟩ : Shape).Slices (fun _ => 0) ⟨3, ![1, 64, n]⟩} (b : Fin 64) (l : Fin n) :
    Host.dynamicSlice (⟨3, ![1, 64, n]⟩ : Shape) w (fun a => (((![c0, constantI S_ 32 0#32, constantI S_ 32 0#32] : Fin 3 → IVec S_ 32)) a
      (Shape.Idx.first h_S_)).toInt) hs (ix3 0 b l) = w (ix3 ⟨k, hk⟩ b l) := by
  subst hc
  exact slab_of w _ hk (word_int k (by omega)) rfl rfl b l

theorem drop256 {α : Type} (y : S1x64x256.Idx → α) {h : S1x64x256.ShapeCasts S64x256} (b : Fin 64) (n : Fin 256) :
    shapeCast S64x256 y h (ix2 b n) = y (ix3 0 b n) := by
  pointwise

theorem drop128 {α : Type} (y : S1x64x128.Idx → α) {h : S1x64x128.ShapeCasts S64x128} (b : Fin 64) (n : Fin 128) :
    shapeCast S64x128 y h (ix2 b n) = y (ix3 0 b n) := by
  pointwise

/-- The next frame's scores of the label paths, of any scores that are real numbers. -/
theorem alpha_next {k : ℕ} {x al : FVec Ideal S64x256 .f32} {tr : FVec Ideal S256x256 .f32}
    (hx : ∀ b n, x (ix2 b n) = ((D.x b (k + 1) n : ℝ) : EReal)) (htr : ∀ n q, tr (ix2 n q) = ((D.tr n q : ℝ) : EReal))
    (hal : ∀ b n, al (ix2 b n) = ((Real.log (D.mass k b n) : ℝ) : EReal))
    {s : FVec Ideal S64x256x256 .f32} (hs : s = addf
      (broadcastInDim S64x256x256 ![0, 1, 2] bcast_S64x1x256_S64x256x256_0_1_2 (broadcastInDim S64x1x256 ![0, 2] bcast_S64x256_S64x1x256_0_2 al))
      (broadcastInDim S64x256x256 ![0, 1, 2] bcast_S1x256x256_S64x256x256_0_1_2 (broadcastInDim S1x256x256 ![1, 2] bcast_S256x256_S1x256x256_1_2 tr)))
    {top : FVec Ideal S64x256x1 .f32} (htop : top = broadcastInDim S64x256x1 ![0, 1] bcast_S64x256_S64x256x1_0_1
      (Host.reduce FloatOps.maximumf s (constant S_ .f32 0xFF800000#32) reducesTo_S64x256x256_S64x256_d2 h_S_)) (b : Fin 64) (n : Fin 256) :
    (addf x (addf (shapeCast S64x256 top shapeCasts_S64x256x1_S64x256) (Host.log (Host.reduceAdd (Host.exp (subf s
      (broadcastInDim S64x256x256 ![0, 1, 2] bcast_S64x256x1_S64x256x256_0_1_2 top))) (constant S_ .f32 0x00000000#32)
      reducesTo_S64x256x256_S64x256_d2 h_S_))) : FVec Ideal S64x256 .f32) (ix2 b n) = ((Real.log (D.mass (k + 1) b n) : ℝ) : EReal) := by
  have ha : ∀ b n q, s (ix3 b n q) = ((Real.log (D.mass k b q) + D.tr n q : ℝ) : EReal) := fun b n q => by
    rw [hs]
    pointwise
    rw [hal, htr, EReal.coe_add]
  have hm : ∃ r : ℝ, top (ix3 b n 0) = (r : EReal) := by
    rw [htop]
    pointwise
    rw [ninf]
    simp only [ha]
    exact fold_max_coe fun q => Real.log (D.mass k b q) + D.tr n q
  obtain ⟨r, hr⟩ := hm
  pointwise
  rw [hx, hr]
  simp only [ha]
  rw [lse_coe (by omega), ← EReal.coe_add]
  congr 1
  rw [show D.mass (k + 1) b n = Real.exp (D.x b (k + 1) n) * ∑ q, D.mass k b q * Real.exp (D.tr n q) from rfl,
    Real.log_mul (Real.exp_pos _).ne' (Finset.sum_pos (fun q _ => mul_pos (D.mass_pos k b q) (Real.exp_pos _)) ⟨0, Finset.mem_univ _⟩).ne',
    Real.log_exp]
  congr 2
  exact Finset.sum_congr rfl fun q _ => by rw [Real.exp_add, Real.exp_log (D.mass_pos k b q)]

theorem Loop.al_step {k : ℕ} {V : Valuation τ sig (Elt Ideal)} (L : Loop D k V) (hk : k < 999) (b : Fin 64) (n : Fin 256) :
    (step_main_v51_7 V : FVec Ideal S64x256 .f32) (ix2 b n) = ((Real.log (D.mass (k + 1) b n) : ℝ) : EReal) :=
  alpha_next (fun b n => ((drop256 _ b n).trans (slab_at _ L.ctr hk b n)).trans (L.x _ _ _)) L.tr L.al rfl rfl b n

/-- The next frame's scores of the alignments. -/
theorem beta_next {k : ℕ} {be ts e : FVec Ideal S64x128 .f32} {tm : FVec Ideal S64x127 .f32} {neg : FVec Ideal S64x1 .f32}
    (he : ∀ b l, e (ix2 b l) = ((D.x b (k + 1) (D.tg b l) : ℝ) : EReal))
    (hts : ∀ b l, ts (ix2 b l) = ((D.tr (D.tg b l) (D.tg b l) : ℝ) : EReal))
    (htm : ∀ b (l : Fin 127), tm (ix2 b l) = ((D.tr (D.tg b ⟨l.val + 1, by omega⟩) (D.tg b ⟨l.val, by omega⟩) : ℝ) : EReal))
    (hneg : ∀ b, neg (ix2 b 0) = (⊥ : EReal)) (hbe : ∀ b l, be (ix2 b l) = D.beta k b l)
    {s m d : FVec Ideal S64x128 .f32} (hs : s = addf be ts)
    (hm : m = concatenate S64x128 1 [⟨S64x1, neg⟩, ⟨S64x127, addf (extractStridedSlice S64x127 ![0, 0] be slices_S64x128_S64x127_0_0) tm⟩]
      concatenates_S64x1_S64x127_S64x128_d1) (hd : d = subf s m) (b : Fin 64) (l : Fin 128) :
    (addf (select (cmpf .une d d) (addf s m) (addf (maximumf s m) (Host.log1p (Host.exp (Host.negf (Host.absf d)))))) e : FVec Ideal S64x128 .f32) (ix2 b l)
      = D.beta (k + 1) b l := by
  have h1 : s (ix2 b l) = D.beta k b l + ((D.tr (D.tg b l) (D.tg b l) : ℝ) : EReal) := by
    rw [hs]; pointwise; rw [hbe, hts]
  have h2 : m (ix2 b l) = if h : l.val < 1 then ⊥ else D.beta k b ⟨l.val - 1, by omega⟩ + ((D.tr (D.tg b l) (D.tg b ⟨l.val - 1, by omega⟩) : ℝ) : EReal) := by
    rw [hm]
    pointwise
    by_cases h : l.val < 1
    · rw [dif_pos h, dif_pos h, show (⟨l.val, h⟩ : Fin 1) = 0 from Subsingleton.elim _ _, hneg]
    · rw [dif_neg h, dif_neg h, hbe, htm]
      have e : (⟨l.val - 1 + 1, by omega⟩ : Fin 128) = l := Fin.ext (by show l.val - 1 + 1 = l.val; omega)
      simp only [e]
  pointwise
  rw [hd]
  pointwise
  rw [h1, h2, he]
  simp only [Data.beta, lae]
  rw [if_neg (fun h => h rfl)]
  rfl

theorem Loop.be_step {k : ℕ} {V : Valuation τ sig (Elt Ideal)} (L : Loop D k V) (hk : k < 999) (b : Fin 64) (l : Fin 128) :
    (step_main_v51_8 V : FVec Ideal S64x128 .f32) (ix2 b l) = D.beta (k + 1) b l :=
  beta_next (fun b l => ((drop128 _ b l).trans (slab_at _ L.ctr hk b l)).trans (L.e _ _ _)) L.ts L.tm L.neg L.be rfl rfl rfl b l

theorem Loop.next {k : ℕ} {V : Valuation τ sig (Elt Ideal)} (L : Loop D k V) (hk : k < 999) : Loop D (k + 1) (STEP V) where
  x := by rw [STEP_main_v51_0]; exact L.x
  e := by rw [STEP_main_v51_1]; exact L.e
  tr := by rw [STEP_main_v51_2]; exact L.tr
  ts := by rw [STEP_main_v51_3]; exact L.ts
  tm := by rw [STEP_main_v51_4]; exact L.tm
  neg := by rw [STEP_main_v51_5]; exact L.neg
  ctr := by
    rw [STEP_main_v51_6]
    refine funext fun j => ?_
    have e : step_main_v51_6 V = addi (V (Proc.devRef .tc main_v51_6) : IVec S_ 32) (constantI S_ 32 1#32) := rfl
    rw [e, L.ctr]
    exact (BitVec.ofNat_add k 1).symm
  al := by rw [STEP_main_v51_7]; exact L.al_step hk
  be := by rw [STEP_main_v51_8]; exact L.be_step hk

theorem Loop.all {V : Valuation τ sig (Elt Ideal)} (L : Loop D 0 V) : ∀ k, k ≤ 999 → Loop D k (STEP^[k] V)
  | 0, _ => L
  | k + 1, h => by
    rw [Function.iterate_succ_apply']
    exact (Loop.all L k (by omega)).next (by omega)

/-! ## The whole program -/

section Whole

variable {len : Fin 64 → Fin 128} (m : (ℓ : Loc nD τ sig) → Buf (Elt Ideal) ℓ) (c : Dev nD)
  (A : Args D len (m ((c.tc : Thread nD τ).loc main_arg0)) (m ((c.tc : Thread nD τ).loc main_arg1))
    (m ((c.tc : Thread nD τ).loc main_arg2)) (m ((c.tc : Thread nD τ).loc main_arg3)))

include A in
theorem loop_start : Loop D 0 (entryContents preI m c) where
  x := fun j b n => by
    rw [entry0]
    pointwise
    refine (A.x _ _ _).trans ?_
    show ((D.x b (1 + j.val) n : ℝ) : EReal) = _
    rw [Nat.add_comm]
  e := fun j b l => by
    rw [entry1]
    pointwise
    refine (emis_at A.x A.tgt _ _ _).trans ?_
    show ((D.x b (1 + j.val) (D.tg b l) : ℝ) : EReal) = _
    rw [Nat.add_comm]
  tr := by rw [entry2]; exact A.tr
  ts := by rw [entry3]; exact stays_at A.tr A.tgt
  tm := by rw [entry4]; exact moves_at A.tr A.tgt
  neg := fun b => by
    rw [entry5]
    pointwise
    exact ninf
  ctr := ctr_entry m c
  al := fun b n => by
    rw [entry7]
    pointwise
    refine (A.x b 0 n).trans ?_
    show _ = ((Real.log (Real.exp (D.x b 0 n)) : ℝ) : EReal)
    rw [Real.log_exp]
    rfl
  be := by rw [entry8]; exact starts_at A.x A.tgt

/-- The last frame's total. -/
theorem total_at {al : FVec Ideal S64x256 .f32} (hal : ∀ b n, al (ix2 b n) = ((Real.log (D.mass 999 b n) : ℝ) : EReal))
    {top : FVec Ideal S64x1 .f32} (htop : top = broadcastInDim S64x1 ![0] bcast_S64_S64x1_0
      (Host.reduce FloatOps.maximumf al (constant S_ .f32 0xFF800000#32) reducesTo_S64x256_S64_d1 h_S_)) (b : Fin 64) :
    (addf (shapeCast S64 top shapeCasts_S64x1_S64) (Host.log (Host.reduceAdd (Host.exp (subf al
      (broadcastInDim S64x256 ![0, 1] bcast_S64x1_S64x256_0_1 top))) (constant S_ .f32 0x00000000#32)
      reducesTo_S64x256_S64_d1 h_S_)) : FVec Ideal S64 .f32) (ix1 b) = ((Real.log (∑ n, D.mass 999 b n) : ℝ) : EReal) := by
  have hm : ∃ r : ℝ, top (ix2 b 0) = (r : EReal) := by
    rw [htop]
    pointwise
    rw [ninf]
    simp only [hal]
    exact fold_max_coe fun q => Real.log (D.mass 999 b q)
  obtain ⟨r, hr⟩ := hm
  pointwise
  rw [hr]
  simp only [hal]
  rw [lse_coe (by omega)]
  congr 2
  exact Finset.sum_congr rfl fun q _ => Real.exp_log (D.mass_pos 999 b q)

/-- The last frame's score at the last position. -/
theorem last_at {be : FVec Ideal S64x128 .f32} (hbe : ∀ b l, be (ix2 b l) = D.beta 999 b l) {ts : IVec S64 32}
    (hts : ∀ b, ts (ix1 b) = BitVec.ofNat 32 ((len b).val + 1)) {J : IVec S64x1 32}
    (hJ : J = broadcastInDim S64x1 ![0] bcast_S64_S64x1_0 (subi ts (broadcastInDim S64 ![] bcast_S_S64 (constantI S_ 32 1#32))))
    {IX : IVec S64x1x1 32} (hIX : IX = shapeCast S64x1x1 (select (cmpi .slt J (broadcastInDim S64x1 ![] bcast_S_S64x1 (constantI S_ 32 0#32)))
      (addi J (broadcastInDim S64x1 ![] bcast_S_S64x1 (constantI S_ 32 128#32))) J) shapeCasts_S64x1_S64x1x1)
    {nan : FVec Ideal S64x1 .f32} (b : Fin 64) :
    (shapeCast S64 (select (Host.reduce IntOp.andi (andi (cmpi .sge IX (broadcastInDim S64x1x1 ![] bcast_S_S64x1x1 (constantI S_ 32 0#32)))
      (cmpi .sle IX (broadcastInDim S64x1x1 ![0, 1, 2] bcast_S1x1x1_S64x1x1_0_1_2 (broadcastInDim S1x1x1 ![2] bcast_S1_S1x1x1_2 (constantI S1 32 127#32)))))
      (constantI S_ 1 1#1) reducesTo_S64x1x1_S64x1_d2 h_S_) (Host.gather gather_S64x128_S64x1x1_S64x1_n_1_0_0_1_2_11 be IX) nan)
      shapeCasts_S64x1_S64 : FVec Ideal S64 .f32) (ix1 b) = D.beta 999 b (len b) := by
  have hl := (len b).isLt
  have h1 : J (ix2 b 0) = BitVec.ofNat 32 (len b).val := by
    rw [hJ]
    pointwise
    rw [hts]
    show BitVec.ofNat 32 ((len b).val + 1) - 1#32 = _
    rw [BitVec.ofNat_add]
    exact BitVec.add_sub_cancel _ _
  have h2 : IX (ix3 b 0 0) = BitVec.ofNat 32 (len b).val := by
    rw [hIX]
    pointwise
    rw [h1]
    exact wrap_keep _ (by omega) _
  have h3 : Host.gather gather_S64x128_S64x1x1_S64x1_n_1_0_0_1_2_11 be IX (ix2 b 0) = D.beta 999 b (len b) := by
    rw [last_gather be IX b (len b) (by rw [h2, word_nat _ (by omega)]), hbe]
  have g1 : IntOp.cmpi .sge (BitVec.ofNat 32 (len b).val) 0#32 = 1#1 := by
    unfold IntOp.cmpi
    simp [BitVec.sle, word_int (len b).val (by omega)]
  have g2 : IntOp.cmpi .sle (BitVec.ofNat 32 (len b).val) 127#32 = 1#1 := by
    have : (127#32).toInt = 127 := rfl
    unfold IntOp.cmpi
    simp only [BitVec.sle, word_int (len b).val (by omega), this]
    rw [decide_eq_true (by omega)]
    rfl
  pointwise
  rw [h3, Finset.univ_unique, Finset.fold_singleton, show (default : Fin 1) = 0 from rfl, h2, g1, g2]
  rfl

/-- What the reference leaves: the difference, row by row. -/
theorem out_at {V : Valuation τ sig (Elt Ideal)} (L : Loop D 999 V)
    (hts : ∀ b, (V (Proc.devRef .tc main_arg2) : IVec S64 32) (ix1 b) = BitVec.ofNat 32 ((len b).val + 1)) (b : Fin 64) :
    (out_main_v66 V : FVec Ideal S64 .f32) (ix1 b) = D.gap len b :=
  congrArg₂ (· - ·) (total_at L.al rfl b) (last_at L.be hts rfl rfl b)

include A in
theorem value (b : Fin 64) : (out_main_v66 (STEP^[999] (entryContents preI m c)) : FVec Ideal S64 .f32) (ix1 b) = D.gap len b :=
  out_at ((loop_start m c A).all 999 le_rfl) (by rw [iter_main_arg2]; exact A.ts) b

end Whole

end Cert.Proof.RI
-- ==== Proof.Pre.lean ====
/-
  The precondition read: scores that are real numbers, labels among the 256 and lengths between 1 and 128.
-/
module

public import proofs.«01_k».proof.Pre_finite_scores
public import proofs.«01_k».proof.Proof.Gap

@[expose] public section

set_option maxRecDepth 16384

noncomputable section

namespace Cert.Proof.Pre

open Cert.Pre_finite_scores Cert.Proof
open Idealize.ShloMosaic Idealize.ShloMosaic.Tactic

/-- The shapes of the precondition's operations fit. -/
theorem facts : Cert.Pre_finite_scores.Facts where
  bcast_S_S64x1000x256 := by decide
  reducesTo_S64x1000x256_S_d0_1_2 := by decide
  h_S_ := by decide
  bcast_S_S256x256 := by decide
  reducesTo_S256x256_S_d0_1 := by decide
  bcast_S_S64x128 := by decide
  reducesTo_S64x128_S_d0_1 := by decide
  bcast_S_S64 := by decide
  reducesTo_S64_S_d0 := by decide

theorem and_one : ∀ a b : BitVec 1, IntOp.andi a b = 1#1 → a = 1#1 ∧ b = 1#1 := by decide

theorem foldl_one {α : Type} (f : α → BitVec 1) : ∀ (l : List α) (v : BitVec 1),
    l.foldl (fun r n => IntOp.andi r (f n)) v = 1#1 → v = 1#1 ∧ ∀ n ∈ l, f n = 1#1
  | [], _, h => ⟨h, fun _ hn => absurd hn List.not_mem_nil⟩
  | k :: l, v, h => by
    obtain ⟨h1, h2⟩ := foldl_one f l _ h
    obtain ⟨h3, h4⟩ := and_one _ _ h1
    exact ⟨h3, fun n hn => (List.mem_cons.1 hn).elim (fun e => e ▸ h4) (h2 n)⟩

/-- A conjunction over all the entries that holds, holds at each of them. -/
theorem reduce_one {s u : Shape} {axes : List (Fin s.rank)} (x : IVec s 1) (v : IVec u 1) (h : s.ReducesTo axes S_) (hu : 0 < u.numel)
    (j : S_.Idx) (e : Host.reduce IntOp.andi x v h hu j = 1#1) (i : s.Idx) : x i = 1#1 := by
  have := (foldl_one (fun n => x (s.rowMajor.symm n)) _ _ e).2 (s.rowMajor i)
    (List.mem_filter.2 ⟨List.mem_finRange _, decide_eq_true (funext fun a => a.elim0)⟩)
  rwa [Equiv.symm_apply_apply] at this

theorem ofBool_one (p : Bool) : BitVec.ofBool p = 1#1 ↔ p = true := by cases p <;> decide

theorem real_of_abs {x : EReal} (h : max x (-x) < ⊤) : ((x.toReal : ℝ) : EReal) = x := by
  refine EReal.coe_toReal (fun e => ?_) (fun e => ?_)
  · rw [e] at h; simp at h
  · rw [e] at h; simp at h

/-- The four conjuncts, entry by entry. -/
theorem parts [Cert.Pre_finite_scores.Facts] {x : FVec Ideal S64x1000x256 .f32} {tgt : IVec S64x128 32} {ts : IVec S64 32}
    {tr : FVec Ideal S256x256 .f32} (h : fn (F := Ideal) x tgt ts tr = fun _ => 1#1) :
    (∀ i, (((x i).toReal : ℝ) : EReal) = x i) ∧ (∀ i, (((tr i).toReal : ℝ) : EReal) = tr i)
    ∧ (∀ i, (tgt i).toNat < 256) ∧ (∀ i, 1 ≤ (ts i).toNat ∧ (ts i).toNat ≤ 128) := by
  have e := congrFun h (fun a => a.elim0)
  simp only [fn, fn_part1, andi] at e
  obtain ⟨e, h4⟩ := and_one _ _ e
  obtain ⟨e, h3⟩ := and_one _ _ e
  obtain ⟨h1, h2⟩ := and_one _ _ e
  refine ⟨fun i => real_of_abs ?_, fun i => real_of_abs ?_, fun i => ?_, fun i => ?_⟩
  · have := reduce_one _ _ _ _ _ h1 i
    have := of_decide_eq_true ((ofBool_one _).1 this)
    exact this.trans_eq (by show Ideal.ofBits .f32 0x7F800000#32 = ⊤; rw [Ideal.ofBits]; rfl)
  · have := reduce_one _ _ _ _ _ h2 i
    have := of_decide_eq_true ((ofBool_one _).1 this)
    exact this.trans_eq (by show Ideal.ofBits .f32 0x7F800000#32 = ⊤; rw [Ideal.ofBits]; rfl)
  · obtain ⟨a, b⟩ := and_one _ _ (reduce_one _ _ _ _ _ h3 i)
    have a := (ofBool_one _).1 a
    have b := (ofBool_one _).1 b
    change (0#32).sle (tgt i) = true at a
    change (tgt i).slt 256#32 = true at b
    simp only [BitVec.sle, BitVec.slt, decide_eq_true_eq, BitVec.toInt, BitVec.toNat_ofNat] at a b
    omega
  · obtain ⟨a, b⟩ := and_one _ _ (reduce_one _ _ _ _ _ h4 i)
    have a := (ofBool_one _).1 a
    have b := (ofBool_one _).1 b
    change (1#32).sle (ts i) = true at a
    change (ts i).sle 128#32 = true at b
    simp only [BitVec.sle, decide_eq_true_eq, BitVec.toInt, BitVec.toNat_ofNat] at a b
    omega

/-- Under the precondition the arguments hold some real scores, labels and lengths. -/
theorem args [Cert.Pre_finite_scores.Facts] {x : FVec Ideal S64x1000x256 .f32} {tgt : IVec S64x128 32} {ts : IVec S64 32}
    {tr : FVec Ideal S256x256 .f32} (h : fn (F := Ideal) x tgt ts tr = fun _ => 1#1) :
    ∃ (D : Data) (len : Fin 64 → Fin 128), Args D len x tgt ts tr := by
  obtain ⟨h1, h2, h3, h4⟩ := parts h
  refine ⟨⟨fun b t n => if ht : t < 1000 then (x (ix3 b ⟨t, ht⟩ n)).toReal else 0, fun n k => (tr (ix2 n k)).toReal,
    fun b l => ⟨(tgt (ix2 b l)).toNat, h3 _⟩⟩, fun b => ⟨(ts (ix1 b)).toNat - 1, by have := h4 (ix1 b); omega⟩, ?_, ?_, ?_, ?_⟩
  · intro b t n
    show _ = (((if ht : t.val < 1000 then (x (ix3 b ⟨t.val, ht⟩ n)).toReal else 0 : ℝ)) : EReal)
    rw [dif_pos t.isLt]
    exact (h1 _).symm
  · intro b l
    show _ = BitVec.ofNat 32 (tgt (ix2 b l)).toNat
    rw [BitVec.ofNat_toNat, BitVec.setWidth_eq]
  · intro b
    show _ = BitVec.ofNat 32 ((ts (ix1 b)).toNat - 1 + 1)
    rw [Nat.sub_add_cancel (h4 _).1, BitVec.ofNat_toNat, BitVec.setWidth_eq]
  · intro n k
    exact (h2 _).symm

end Cert.Proof.Pre

end
-- ==== Proof.lean ====
/- The certificate's claims: the frames of the kernel, of its ideal form and of the ideal reference, the preservation of
   the named mask, and the equality of the two results. -/
module

public import proofs.«01_k».proof.Defs
public import proofs.«01_k».proof.Proof.KFrame
public import proofs.«01_k».proof.Proof.Out
public import proofs.«01_k».proof.Proof.RefVal
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

/-- The printed kernel's frame: `KK.frame` at machine arithmetic. -/
theorem frame_p : Cert.quiescent_Kernel := fun m ρ _ => KK.frame (F := Bits) m ρ

/-- The ideal kernel's frame: `KI.frame` at the extended reals. -/
theorem frame_pi : Cert.quiescent_KernelIdeal := fun m ρ _ => KI.frame (F := Ideal) m ρ

/-- The ideal reference's frame: its generated run read at the arguments; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask the kernel writes as `-1e30` is the table's value `-∞` in its ideal form. -/
theorem preserves : Cert.preserves_Kernel_KernelIdeal :=
  IdealRules.named_const.statement Cert.KernelIdeal.κ "mask" .f32 0xF149F2CA#32 ⊥ rfl

/-- The kernel and the reference return the same numbers. Under the precondition the arguments hold real scores and labels,
    and then both results are each row's difference `D.gap len`. -/
theorem algebraic : Cert.algebraic_KernelIdeal_ReferenceIdeal_pre_finite_scores (hPre_finite_scores := Pre.facts) := by
  intro m g m' g' hpre hagree
  refine ⟨fun c => shapeCast Cert.KernelIdeal.S64 (KI.column m c) Cert.KernelIdeal.Gen.shapeCasts_S64x1_S64, KI.run m g, ?_⟩
  refine (θ_run Cert.ReferenceIdeal.defs _ _).mono (fun r h c => ⟨(h c).1.trans ?_, (h c).2⟩) (Cert.ReferenceIdeal.Value.run (F := Ideal) m' g')
  obtain ⟨D, len, A⟩ := @Pre.args Pre.facts _ _ _ _ (hpre c)
  obtain ⟨h0, h1, h2, h3⟩ := hagree c
  have A' : Args D len (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) :=
    ⟨fun b t n => (congrFun h0 _).trans (A.x b t n), fun b l => (congrFun h1 _).trans (A.tgt b l),
      fun b => (congrFun h2 _).trans (A.ts b), fun n k => (congrFun h3 _).trans (A.tr n k)⟩
  funext i
  obtain ⟨b, rfl⟩ : ∃ b : Fin 64, i = ix1 b := ⟨i 0, funext fun a => by match a with | ⟨0, _⟩ => rfl⟩
  exact (RI.value m' c A' b).trans (KI.value m c A b).symm

theorem claim : Cert.Claim :=
  ⟨Cert.Kernel.Gen.facts, Cert.KernelIdeal.Gen.facts, Cert.ReferenceIdeal.Gen.facts, Pre.facts,
    frame_p, frame_pi, fun m ρ _ => frame_pi m ρ trivial, frame_ri, fun m ρ _ => frame_ri m ρ trivial, preserves, algebraic⟩

end Cert.Proof

end
